-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v36) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v13) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_v37) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2x256x12288 : Shape := ⟨3, ![2, 256, 12288]⟩
abbrev S2x256x32 : Shape := ⟨3, ![2, 256, 32]⟩
abbrev S2x8192x12288 : Shape := ⟨3, ![2, 8192, 12288]⟩
abbrev S2x8192x32 : Shape := ⟨3, ![2, 8192, 32]⟩
abbrev S_ : Shape := ⟨0, ![]⟩

class Facts : Prop where
  bitsLt_bf16_f32 : FTy.bits .bf16 < FTy.bits .f32
  bcast_S_S2x256x12288 : S_.BroadcastsInDim S2x256x12288 (![] : Fin 0 → Fin S2x256x12288.rank)
  reducesTo_S2x256x12288_S_d0_1_2 : S2x256x12288.ReducesTo [0, 1, 2] S_
  h_S_ : 0 < S_.numel
  bcast_S_S2x256x32 : S_.BroadcastsInDim S2x256x32 (![] : Fin 0 → Fin S2x256x32.rank)
  reducesTo_S2x256x32_S_d0_1_2 : S2x256x32.ReducesTo [0, 1, 2] S_
  bcast_S_S2x8192x12288 : S_.BroadcastsInDim S2x8192x12288 (![] : Fin 0 → Fin S2x8192x12288.rank)
  reducesTo_S2x8192x12288_S_d0_1_2 : S2x8192x12288.ReducesTo [0, 1, 2] S_
  bcast_S_S2x8192x32 : S_.BroadcastsInDim S2x8192x32 (![] : Fin 0 → Fin S2x8192x32.rank)
  reducesTo_S2x8192x32_S_d0_1_2 : S2x8192x32.ReducesTo [0, 1, 2] S_

variable [Facts]

def fn_part1 {F : FTy → Type} [FloatOps F] (main_v15 : IVec S_ 1) (main_v16 : FVec F S2x8192x32 .f32) (main_cst_4 : FVec F S_ .f32) : IVec S_ 1 :=
  let main_v17 : FVec F S2x8192x32 .f32 := broadcastInDim S2x8192x32 ![] bcast_S_S2x8192x32 main_cst_4
  let main_v18 : IVec S2x8192x32 1 := cmpf .olt main_v16 main_v17
  let main_c_5 : IVec S_ 1 := constantI S_ 1 1#1
  let main_v19 : IVec S_ 1 := (fun x v => Host.reduce IntOp.andi x v reducesTo_S2x8192x32_S_d0_1_2 h_S_) main_v18 main_c_5
  let main_v20 : IVec S_ 1 := andi main_v15 main_v19
  main_v20

def fn {F : FTy → Type} [FloatOps F] (main_arg0 : FVec F S2x256x12288 .bf16) (main_arg1 : FVec F S2x256x32 .f32) (main_arg2 : FVec F S2x8192x12288 .bf16) (main_arg3 : FVec F S2x8192x32 .f32) : IVec S_ 1 :=
  let main_v0 : FVec F S2x256x12288 .f32 := (extf .f32 · bitsLt_bf16_f32) main_arg0
  let main_v1 : FVec F S2x256x12288 .f32 := Host.absf main_v0
  let main_cst : FVec F S_ .f32 := constant S_ .f32 0x7F800000#32
  let main_v2 : FVec F S2x256x12288 .f32 := broadcastInDim S2x256x12288 ![] bcast_S_S2x256x12288 main_cst
  let main_v3 : IVec S2x256x12288 1 := cmpf .olt main_v1 main_v2
  let main_c : IVec S_ 1 := constantI S_ 1 1#1
  let main_v4 : IVec S_ 1 := (fun x v => Host.reduce IntOp.andi x v reducesTo_S2x256x12288_S_d0_1_2 h_S_) main_v3 main_c
  let main_v5 : FVec F S2x256x32 .f32 := Host.absf main_arg1
  let main_cst_0 : FVec F S_ .f32 := constant S_ .f32 0x7F800000#32
  let main_v6 : FVec F S2x256x32 .f32 := broadcastInDim S2x256x32 ![] bcast_S_S2x256x32 main_cst_0
  let main_v7 : IVec S2x256x32 1 := cmpf .olt main_v5 main_v6
  let main_c_1 : IVec S_ 1 := constantI S_ 1 1#1
  let main_v8 : IVec S_ 1 := (fun x v => Host.reduce IntOp.andi x v reducesTo_S2x256x32_S_d0_1_2 h_S_) main_v7 main_c_1
  let main_v9 : IVec S_ 1 := andi main_v4 main_v8
  let main_v10 : FVec F S2x8192x12288 .f32 := (extf .f32 · bitsLt_bf16_f32) main_arg2
  let main_v11 : FVec F S2x8192x12288 .f32 := Host.absf main_v10
  let main_cst_2 : FVec F S_ .f32 := constant S_ .f32 0x7F800000#32
  let main_v12 : FVec F S2x8192x12288 .f32 := broadcastInDim S2x8192x12288 ![] bcast_S_S2x8192x12288 main_cst_2
  let main_v13 : IVec S2x8192x12288 1 := cmpf .olt main_v11 main_v12
  let main_c_3 : IVec S_ 1 := constantI S_ 1 1#1
  let main_v14 : IVec S_ 1 := (fun x v => Host.reduce IntOp.andi x v reducesTo_S2x8192x12288_S_d0_1_2 h_S_) main_v13 main_c_3
  let main_v15 : IVec S_ 1 := andi main_v9 main_v14
  let main_v16 : FVec F S2x8192x32 .f32 := Host.absf main_arg3
  let main_cst_4 : FVec F S_ .f32 := constant S_ .f32 0x7F800000#32
  fn_part1 (F := F) main_v15 main_v16 main_cst_4
-- ==== Kernel.lean ====
abbrev S2x256x12288 : Shape := ⟨3, ![2, 256, 12288]⟩
abbrev S2x256x32 : Shape := ⟨3, ![2, 256, 32]⟩
abbrev S2x8192x12288 : Shape := ⟨3, ![2, 8192, 12288]⟩
abbrev S2x8192x32 : Shape := ⟨3, ![2, 8192, 32]⟩
abbrev S2x32x256 : Shape := ⟨3, ![2, 32, 256]⟩
abbrev S2x32x8192 : Shape := ⟨3, ![2, 32, 8192]⟩
abbrev S2x8192x4096 : Shape := ⟨3, ![2, 8192, 4096]⟩
abbrev S1x256x2048 : Shape := ⟨3, ![1, 256, 2048]⟩
abbrev S1x256x4096 : Shape := ⟨3, ![1, 256, 4096]⟩
abbrev S1x256x32 : Shape := ⟨3, ![1, 256, 32]⟩
abbrev S1x32x256 : Shape := ⟨3, ![1, 32, 256]⟩
abbrev S16x256x640 : Shape := ⟨3, ![16, 256, 640]⟩
abbrev S16x8x128 : Shape := ⟨3, ![16, 8, 128]⟩
abbrev S256x256 : Shape := ⟨2, ![256, 256]⟩
abbrev S256x128 : Shape := ⟨2, ![256, 128]⟩
abbrev S256x32 : Shape := ⟨2, ![256, 32]⟩
abbrev S32x256 : Shape := ⟨2, ![32, 256]⟩
abbrev S1x256x256 : Shape := ⟨3, ![1, 256, 256]⟩
abbrev S1x256x512 : Shape := ⟨3, ![1, 256, 512]⟩
abbrev S256x512 : Shape := ⟨2, ![256, 512]⟩
abbrev S256x640 : Shape := ⟨2, ![256, 640]⟩
abbrev S256x1 : Shape := ⟨2, ![256, 1]⟩
abbrev S1x256 : Shape := ⟨2, ![1, 256]⟩
abbrev S256 : Shape := ⟨1, ![256]⟩
abbrev S1 : Shape := ⟨1, ![1]⟩
abbrev S1x1 : Shape := ⟨2, ![1, 1]⟩
abbrev S1x8x128 : Shape := ⟨3, ![1, 8, 128]⟩
abbrev S8x128 : Shape := ⟨2, ![8, 128]⟩
abbrev S1x256x640 : Shape := ⟨3, ![1, 256, 640]⟩
abbrev S512x640 : Shape := ⟨2, ![512, 640]⟩

abbrev nBuf : Space → Nat
  | .hbm => 8
  | .vmem => 46
  | .smem => 0
  | _ => 0

abbrev bufTy : (tb : Table) → Fin (tcTables nBuf tb) → BufTy
  | .hbm, ⟨0, _⟩ => ⟨S2x256x12288, .bf16⟩
  | .hbm, ⟨1, _⟩ => ⟨S2x256x32, .f32⟩
  | .hbm, ⟨2, _⟩ => ⟨S2x8192x12288, .bf16⟩
  | .hbm, ⟨3, _⟩ => ⟨S2x8192x32, .f32⟩
  | .hbm, ⟨4, _⟩ => ⟨S2x32x256, .f32⟩
  | .hbm, ⟨5, _⟩ => ⟨S2x32x8192, .f32⟩
  | .hbm, ⟨6, _⟩ => ⟨S2x8192x4096, .bf16⟩
  | .hbm, ⟨7, _⟩ => ⟨S2x8192x4096, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x4096, .bf16⟩
  | .local _ .vmem, ⟨5, _⟩ => ⟨S1x256x4096, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x4096, .bf16⟩
  | .local _ .vmem, ⟨11, _⟩ => ⟨S1x256x4096, .bf16⟩
  | .local _ .vmem, ⟨12, _⟩ => ⟨S1x256x32, .f32⟩
  | .local _ .vmem, ⟨13, _⟩ => ⟨S1x256x32, .f32⟩
  | .local _ .vmem, ⟨14, _⟩ => ⟨S1x32x256, .f32⟩
  | .local _ .vmem, ⟨15, _⟩ => ⟨S1x32x256, .f32⟩
  | .local _ .vmem, ⟨16, _⟩ => ⟨S1x256x32, .f32⟩
  | .local _ .vmem, ⟨17, _⟩ => ⟨S1x256x32, .f32⟩
  | .local _ .vmem, ⟨18, _⟩ => ⟨S1x32x256, .f32⟩
  | .local _ .vmem, ⟨19, _⟩ => ⟨S1x32x256, .f32⟩
  | .local _ .vmem, ⟨20, _⟩ => ⟨S1x256x2048, .bf16⟩
  | .local _ .vmem, ⟨21, _⟩ => ⟨S1x256x2048, .bf16⟩
  | .local _ .vmem, ⟨22, _⟩ => ⟨S1x256x2048, .bf16⟩
  | .local _ .vmem, ⟨23, _⟩ => ⟨S1x256x2048, .bf16⟩
  | .local _ .vmem, ⟨24, _⟩ => ⟨S1x256x4096, .bf16⟩
  | .local _ .vmem, ⟨25, _⟩ => ⟨S1x256x4096, .bf16⟩
  | .local _ .vmem, ⟨26, _⟩ => ⟨S1x256x2048, .bf16⟩
  | .local _ .vmem, ⟨27, _⟩ => ⟨S1x256x2048, .bf16⟩
  | .local _ .vmem, ⟨28, _⟩ => ⟨S1x256x2048, .bf16⟩
  | .local _ .vmem, ⟨29, _⟩ => ⟨S1x256x2048, .bf16⟩
  | .local _ .vmem, ⟨30, _⟩ => ⟨S1x256x4096, .bf16⟩
  | .local _ .vmem, ⟨31, _⟩ => ⟨S1x256x4096, .bf16⟩
  | .local _ .vmem, ⟨32, _⟩ => ⟨S1x256x32, .f32⟩
  | .local _ .vmem, ⟨33, _⟩ => ⟨S1x256x32, .f32⟩
  | .local _ .vmem, ⟨34, _⟩ => ⟨S1x32x256, .f32⟩
  | .local _ .vmem, ⟨35, _⟩ => ⟨S1x32x256, .f32⟩
  | .local _ .vmem, ⟨36, _⟩ => ⟨S1x256x32, .f32⟩
  | .local _ .vmem, ⟨37, _⟩ => ⟨S1x256x32, .f32⟩
  | .local _ .vmem, ⟨38, _⟩ => ⟨S1x32x256, .f32⟩
  | .local _ .vmem, ⟨39, _⟩ => ⟨S1x32x256, .f32⟩
  | .local _ .vmem, ⟨40, _⟩ => ⟨S1x256x4096, .bf16⟩
  | .local _ .vmem, ⟨41, _⟩ => ⟨S1x256x4096, .bf16⟩
  | .local _ .vmem, ⟨42, _⟩ => ⟨S1x256x4096, .bf16⟩
  | .local _ .vmem, ⟨43, _⟩ => ⟨S1x256x4096, .bf16⟩
  | .local _ .vmem, ⟨44, _⟩ => ⟨S16x256x640, .f32⟩
  | .local _ .vmem, ⟨45, _⟩ => ⟨S16x8x128, .f32⟩
  | _, _ => ⟨S2x256x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c1_i32 : BitVec 32 := 1#32
  let c0_i32_0 : BitVec 32 := 0#32
  ![arg0.toNat, v0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c1_i32 : BitVec 32 := 1#32
  let c0_i32_0 : BitVec 32 := 0#32
  ![arg0.toNat, v0.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let v1 : BitVec 32 := Scalar.maxsi v0 c0_i32_0
  let c1_i32 : BitVec 32 := 1#32
  let c0_i32_1 : BitVec 32 := 0#32
  ![arg0.toNat, v1.toNat, c1_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let v1 : BitVec 32 := Scalar.maxsi v0 c0_i32_0
  let c1_i32 : BitVec 32 := 1#32
  let c0_i32_1 : BitVec 32 := 0#32
  ![arg0.toNat, v1.toNat, c1_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c31_i32 : BitVec 32 := 31#32
  let v2 : BitVec 32 := Scalar.subi c31_i32 v1
  let c0_i32_0 : BitVec 32 := 0#32
  let c0_i32_1 : BitVec 32 := 0#32
  ![arg0.toNat, v2.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c31_i32 : BitVec 32 := 31#32
  let v2 : BitVec 32 := Scalar.subi c31_i32 v1
  let c1_i32_0 : BitVec 32 := 1#32
  let c0_i32_1 : BitVec 32 := 0#32
  ![arg0.toNat, v2.toNat, c1_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c31_i32 : BitVec 32 := 31#32
  let v2 : BitVec 32 := Scalar.subi c31_i32 v1
  let c1_i32_0 : BitVec 32 := 1#32
  let c0_i32_1 : BitVec 32 := 0#32
  ![arg0.toNat, v2.toNat, c1_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let v1 : BitVec 32 := Scalar.maxsi v0 c0_i32_0
  let c0_i32_1 : BitVec 32 := 0#32
  let c0_i32_2 : BitVec 32 := 0#32
  ![arg0.toNat, c0_i32_1.toNat, v1.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c31_i32 : BitVec 32 := 31#32
  let v2 : BitVec 32 := Scalar.subi c31_i32 v1
  let c0_i32_0 : BitVec 32 := 0#32
  let c0_i32_1 : BitVec 32 := 0#32
  ![arg0.toNat, v2.toNat, c0_i32_0.toNat]

def cc0_transform_19 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c31_i32 : BitVec 32 := 31#32
  let v2 : BitVec 32 := Scalar.subi c31_i32 v1
  let c0_i32_0 : BitVec 32 := 0#32
  let c0_i32_1 : BitVec 32 := 0#32
  ![arg0.toNat, c0_i32_0.toNat, v2.toNat]

def cc0_transform_20 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_21 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c31_i32 : BitVec 32 := 31#32
  let v2 : BitVec 32 := Scalar.subi c31_i32 v1
  let c0_i32_0 : BitVec 32 := 0#32
  let c0_i32_1 : BitVec 32 := 0#32
  ![arg0.toNat, v2.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x32x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x4096 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x4096 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferenceIdeal.lean ====
abbrev S2x256x12288 : Shape := ⟨3, ![2, 256, 12288]⟩
abbrev S2x256x32 : Shape := ⟨3, ![2, 256, 32]⟩
abbrev S2x8192x12288 : Shape := ⟨3, ![2, 8192, 12288]⟩
abbrev S2x8192x32 : Shape := ⟨3, ![2, 8192, 32]⟩
abbrev S2x8448x12288 : Shape := ⟨3, ![2, 8448, 12288]⟩
abbrev S4x8448x12288 : Shape := ⟨3, ![4, 8448, 12288]⟩
abbrev S2x8448x32 : Shape := ⟨3, ![2, 8448, 32]⟩
abbrev S4x8448x32 : Shape := ⟨3, ![4, 8448, 32]⟩
abbrev S4x8448x2048 : Shape := ⟨3, ![4, 8448, 2048]⟩
abbrev S4x8448x4096 : Shape := ⟨3, ![4, 8448, 4096]⟩
abbrev S4x8448x8x256 : Shape := ⟨4, ![4, 8448, 8, 256]⟩
abbrev S4x8x8448x256 : Shape := ⟨4, ![4, 8, 8448, 256]⟩
abbrev S_ : Shape := ⟨0, ![]⟩
abbrev S4x8448x8x512 : Shape := ⟨4, ![4, 8448, 8, 512]⟩
abbrev S4x8x8448x512 : Shape := ⟨4, ![4, 8, 8448, 512]⟩
abbrev S4x8448x2x2x8 : Shape := ⟨5, ![4, 8448, 2, 2, 8]⟩
abbrev S2x8448x1x2x8 : Shape := ⟨5, ![2, 8448, 1, 2, 8]⟩
abbrev S2x8448x2x8 : Shape := ⟨4, ![2, 8448, 2, 8]⟩
abbrev S4x8448x2x8 : Shape := ⟨4, ![4, 8448, 2, 8]⟩
abbrev S4x8448x1x8 : Shape := ⟨4, ![4, 8448, 1, 8]⟩
abbrev S4x8448x8 : Shape := ⟨3, ![4, 8448, 8]⟩
abbrev S4x8x8448 : Shape := ⟨3, ![4, 8, 8448]⟩
abbrev S4x8x512x256 : Shape := ⟨4, ![4, 8, 512, 256]⟩
abbrev S4x8x256 : Shape := ⟨3, ![4, 8, 256]⟩
abbrev S4x8 : Shape := ⟨2, ![4, 8]⟩
abbrev S128x128 : Shape := ⟨2, ![128, 128]⟩
abbrev S4x8x66x128x256 : Shape := ⟨5, ![4, 8, 66, 128, 256]⟩
abbrev S66x4x8x128x256 : Shape := ⟨5, ![66, 4, 8, 128, 256]⟩
abbrev S4x8x66x128x512 : Shape := ⟨5, ![4, 8, 66, 128, 512]⟩
abbrev S66x4x8x128x512 : Shape := ⟨5, ![66, 4, 8, 128, 512]⟩
abbrev S4x8x66x128 : Shape := ⟨4, ![4, 8, 66, 128]⟩
abbrev S66x4x8x128 : Shape := ⟨4, ![66, 4, 8, 128]⟩
abbrev S1x4x8x128x256 : Shape := ⟨5, ![1, 4, 8, 128, 256]⟩
abbrev S4x8x128x256 : Shape := ⟨4, ![4, 8, 128, 256]⟩
abbrev S1x4x8x128x512 : Shape := ⟨5, ![1, 4, 8, 128, 512]⟩
abbrev S4x8x128x512 : Shape := ⟨4, ![4, 8, 128, 512]⟩
abbrev S1x4x8x128 : Shape := ⟨4, ![1, 4, 8, 128]⟩
abbrev S4x8x128 : Shape := ⟨3, ![4, 8, 128]⟩
abbrev S4x8x128x1 : Shape := ⟨4, ![4, 8, 128, 1]⟩
abbrev S4x8x1x128 : Shape := ⟨4, ![4, 8, 1, 128]⟩
abbrev S4x8x128x128 : Shape := ⟨4, ![4, 8, 128, 128]⟩
abbrev S4x8x1 : Shape := ⟨3, ![4, 8, 1]⟩
abbrev S4x8x1x1 : Shape := ⟨4, ![4, 8, 1, 1]⟩
abbrev S4x8x8192x512 : Shape := ⟨4, ![4, 8, 8192, 512]⟩
abbrev S4x8192x8x512 : Shape := ⟨4, ![4, 8192, 8, 512]⟩
abbrev S4x8192x4096 : Shape := ⟨3, ![4, 8192, 4096]⟩
abbrev S2x8192x4096 : Shape := ⟨3, ![2, 8192, 4096]⟩

abbrev nBuf : Space → Nat
  | .hbm => 222
  | .vmem => 0
  | .smem => 0
  | _ => 0

abbrev hbmTy0_0 (i : Nat) : BufTy := match i % 128 with
  | 0 => ⟨S2x256x12288, .bf16⟩
  | 1 => ⟨S2x256x32, .f32⟩
  | 2 => ⟨S2x8192x12288, .bf16⟩
  | 3 => ⟨S2x8192x32, .f32⟩
  | 4 => ⟨S2x8448x12288, .bf16⟩
  | 5 => ⟨S2x256x12288, .bf16⟩
  | 6 => ⟨S2x8192x12288, .bf16⟩
  | 7 => ⟨S2x8448x12288, .bf16⟩
  | 8 => ⟨S4x8448x12288, .bf16⟩
  | 9 => ⟨S2x8448x32, .f32⟩
  | 10 => ⟨S2x256x32, .f32⟩
  | 11 => ⟨S2x8192x32, .f32⟩
  | 12 => ⟨S2x8448x32, .f32⟩
  | 13 => ⟨S4x8448x32, .f32⟩
  | 14 => ⟨S4x8448x12288, .f32⟩
  | 15 => ⟨S4x8448x2048, .f32⟩
  | 16 => ⟨S4x8448x2048, .f32⟩
  | 17 => ⟨S4x8448x4096, .f32⟩
  | 18 => ⟨S4x8448x4096, .f32⟩
  | 19 => ⟨S4x8448x8x256, .f32⟩
  | 20 => ⟨S4x8x8448x256, .f32⟩
  | 21 => ⟨S4x8448x8x256, .f32⟩
  | 22 => ⟨S4x8x8448x256, .f32⟩
  | 23 => ⟨S_, .f32⟩
  | 24 => ⟨S4x8x8448x256, .f32⟩
  | 25 => ⟨S4x8x8448x256, .f32⟩
  | 26 => ⟨S4x8448x8x512, .f32⟩
  | 27 => ⟨S4x8x8448x512, .f32⟩
  | 28 => ⟨S4x8448x2x2x8, .f32⟩
  | 29 => ⟨S2x8448x1x2x8, .f32⟩
  | 30 => ⟨S2x8448x2x8, .f32⟩
  | 31 => ⟨S2x8448x1x2x8, .f32⟩
  | 32 => ⟨S2x8448x2x8, .f32⟩
  | 33 => ⟨S4x8448x2x8, .f32⟩
  | 34 => ⟨S4x8448x1x8, .f32⟩
  | 35 => ⟨S4x8448x8, .f32⟩
  | 36 => ⟨S4x8x8448, .f32⟩
  | 37 => ⟨S4x8448x1x8, .f32⟩
  | 38 => ⟨S4x8448x8, .f32⟩
  | 39 => ⟨S4x8x8448, .f32⟩
  | 40 => ⟨S4x8x8448, .f32⟩
  | 41 => ⟨S_, .f32⟩
  | 42 => ⟨S4x8x8448, .f32⟩
  | 43 => ⟨S4x8x8448, .f32⟩
  | 44 => ⟨S4x8x8448, .f32⟩
  | 45 => ⟨S4x8x8448, .f32⟩
  | 46 => ⟨S4x8x8448, .i1⟩
  | 47 => ⟨S4x8x8448, .f32⟩
  | 48 => ⟨S4x8x8448, .f32⟩
  | 49 => ⟨S4x8x8448, .f32⟩
  | 50 => ⟨S4x8x8448, .f32⟩
  | 51 => ⟨S4x8x8448, .f32⟩
  | 52 => ⟨S4x8x8448, .f32⟩
  | 53 => ⟨S4x8x8448, .f32⟩
  | 54 => ⟨S4x8x8448, .f32⟩
  | 55 => ⟨S4x8x8448, .f32⟩
  | 56 => ⟨S_, .f32⟩
  | 57 => ⟨S4x8x512x256, .f32⟩
  | 58 => ⟨S_, .f32⟩
  | 59 => ⟨S4x8x256, .f32⟩
  | 60 => ⟨S_, .f32⟩
  | 61 => ⟨S4x8, .f32⟩
  | 62 => ⟨S_, .i1⟩
  | 63 => ⟨S128x128, .i1⟩
  | 64 => ⟨S128x128, .i32⟩
  | 65 => ⟨S_, .i32⟩
  | 66 => ⟨S128x128, .i32⟩
  | 67 => ⟨S128x128, .i32⟩
  | 68 => ⟨S128x128, .i32⟩
  | 69 => ⟨S128x128, .i1⟩
  | 70 => ⟨S_, .i1⟩
  | 71 => ⟨S128x128, .i1⟩
  | 72 => ⟨S128x128, .i1⟩
  | 73 => ⟨S4x8x66x128x256, .f32⟩
  | 74 => ⟨S66x4x8x128x256, .f32⟩
  | 75 => ⟨S4x8x66x128x256, .f32⟩
  | 76 => ⟨S66x4x8x128x256, .f32⟩
  | 77 => ⟨S4x8x66x128x512, .f32⟩
  | 78 => ⟨S66x4x8x128x512, .f32⟩
  | 79 => ⟨S4x8x66x128, .f32⟩
  | 80 => ⟨S66x4x8x128, .f32⟩
  | 81 => ⟨S4x8x66x128, .f32⟩
  | 82 => ⟨S66x4x8x128, .f32⟩
  | 83 => ⟨S_, .f32⟩
  | 84 => ⟨S66x4x8x128x512, .f32⟩
  | 85 => ⟨S_, .i32⟩
  | 86 => ⟨S66x4x8x128x256, .f32⟩
  | 87 => ⟨S66x4x8x128x256, .f32⟩
  | 88 => ⟨S66x4x8x128x512, .f32⟩
  | 89 => ⟨S66x4x8x128, .f32⟩
  | 90 => ⟨S66x4x8x128, .f32⟩
  | 91 => ⟨S128x128, .i1⟩
  | 92 => ⟨S_, .i32⟩
  | 93 => ⟨S4x8x512x256, .f32⟩
  | 94 => ⟨S4x8x256, .f32⟩
  | 95 => ⟨S4x8, .f32⟩
  | 96 => ⟨S66x4x8x128x512, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1x4x8x128x256, .f32⟩
  | 104 => ⟨S4x8x128x256, .f32⟩
  | 105 => ⟨S_, .i32⟩
  | 106 => ⟨S_, .i32⟩
  | 107 => ⟨S_, .i32⟩
  | 108 => ⟨S_, .i32⟩
  | 109 => ⟨S1x4x8x128x256, .f32⟩
  | 110 => ⟨S4x8x128x256, .f32⟩
  | 111 => ⟨S_, .i32⟩
  | 112 => ⟨S_, .i32⟩
  | 113 => ⟨S_, .i32⟩
  | 114 => ⟨S_, .i32⟩
  | 115 => ⟨S1x4x8x128x512, .f32⟩
  | 116 => ⟨S4x8x128x512, .f32⟩
  | 117 => ⟨S_, .i32⟩
  | 118 => ⟨S_, .i32⟩
  | 119 => ⟨S_, .i32⟩
  | 120 => ⟨S1x4x8x128, .f32⟩
  | 121 => ⟨S4x8x128, .f32⟩
  | 122 => ⟨S_, .i32⟩
  | 123 => ⟨S_, .i32⟩
  | 124 => ⟨S_, .i32⟩
  | 125 => ⟨S1x4x8x128, .f32⟩
  | 126 => ⟨S4x8x128, .f32⟩
  | 127 => ⟨S_, .f32⟩
  | _ => ⟨S2x256x12288, .bf16⟩

abbrev hbmTy0_1 (i : Nat) : BufTy := match i % 128 with
  | 0 => ⟨S_, .f32⟩
  | 1 => ⟨S4x8x128, .f32⟩
  | 2 => ⟨S4x8x128x1, .f32⟩
  | 3 => ⟨S4x8x1x128, .f32⟩
  | 4 => ⟨S4x8x128x128, .f32⟩
  | 5 => ⟨S4x8x128x128, .f32⟩
  | 6 => ⟨S4x8x128x128, .f32⟩
  | 7 => ⟨S4x8x1x128, .f32⟩
  | 8 => ⟨S4x8x128x128, .f32⟩
  | 9 => ⟨S4x8x128x128, .f32⟩
  | 10 => ⟨S_, .f32⟩
  | 11 => ⟨S_, .f32⟩
  | 12 => ⟨S4x8x128x128, .i1⟩
  | 13 => ⟨S4x8x128x128, .f32⟩
  | 14 => ⟨S4x8x128x128, .f32⟩
  | 15 => ⟨S4x8x1, .f32⟩
  | 16 => ⟨S4x8x128, .f32⟩
  | 17 => ⟨S4x8x128, .f32⟩
  | 18 => ⟨S_, .f32⟩
  | 19 => ⟨S4x8x128, .f32⟩
  | 20 => ⟨S4x8x128, .f32⟩
  | 21 => ⟨S4x8x128, .f32⟩
  | 22 => ⟨S4x8x128, .f32⟩
  | 23 => ⟨S4x8x128x128, .f32⟩
  | 24 => ⟨S4x8x128x1, .f32⟩
  | 25 => ⟨S4x8x128x128, .f32⟩
  | 26 => ⟨S4x8x128x128, .f32⟩
  | 27 => ⟨S4x8x128x128, .f32⟩
  | 28 => ⟨S4x8x128x128, .f32⟩
  | 29 => ⟨S4x8x128x512, .f32⟩
  | 30 => ⟨S4x8x128x1, .f32⟩
  | 31 => ⟨S4x8x128x512, .f32⟩
  | 32 => ⟨S4x8x128x512, .f32⟩
  | 33 => ⟨S4x8x128x512, .f32⟩
  | 34 => ⟨S4x8x128x512, .f32⟩
  | 35 => ⟨S_, .f32⟩
  | 36 => ⟨S4x8x128, .f32⟩
  | 37 => ⟨S4x8x128, .f32⟩
  | 38 => ⟨S4x8x128, .f32⟩
  | 39 => ⟨S4x8x128, .f32⟩
  | 40 => ⟨S4x8x128, .f32⟩
  | 41 => ⟨S4x8x128, .f32⟩
  | 42 => ⟨S4x8x128, .f32⟩
  | 43 => ⟨S4x8x128, .f32⟩
  | 44 => ⟨S4x8x128x1, .f32⟩
  | 45 => ⟨S4x8x128x512, .f32⟩
  | 46 => ⟨S4x8x128x512, .f32⟩
  | 47 => ⟨S4x8x1, .f32⟩
  | 48 => ⟨S4x8, .f32⟩
  | 49 => ⟨S4x8x1, .f32⟩
  | 50 => ⟨S4x8x128, .f32⟩
  | 51 => ⟨S4x8x128, .f32⟩
  | 52 => ⟨S4x8x128, .f32⟩
  | 53 => ⟨S4x8, .f32⟩
  | 54 => ⟨S_, .f32⟩
  | 55 => ⟨S4x8, .f32⟩
  | 56 => ⟨S4x8, .f32⟩
  | 57 => ⟨S4x8, .f32⟩
  | 58 => ⟨S4x8, .f32⟩
  | 59 => ⟨S4x8, .f32⟩
  | 60 => ⟨S4x8x1, .f32⟩
  | 61 => ⟨S4x8x128, .f32⟩
  | 62 => ⟨S4x8x128, .f32⟩
  | 63 => ⟨S4x8x128, .f32⟩
  | 64 => ⟨S4x8x1x1, .f32⟩
  | 65 => ⟨S4x8x512x256, .f32⟩
  | 66 => ⟨S4x8x512x256, .f32⟩
  | 67 => ⟨S4x8x128x1, .f32⟩
  | 68 => ⟨S4x8x128x512, .f32⟩
  | 69 => ⟨S4x8x128x512, .f32⟩
  | 70 => ⟨S4x8x512x256, .f32⟩
  | 71 => ⟨S4x8x512x256, .f32⟩
  | 72 => ⟨S4x8x1, .f32⟩
  | 73 => ⟨S4x8x256, .f32⟩
  | 74 => ⟨S4x8x256, .f32⟩
  | 75 => ⟨S4x8x256, .f32⟩
  | 76 => ⟨S4x8x256, .f32⟩
  | 77 => ⟨S1x4x8x128x512, .f32⟩
  | 78 => ⟨S_, .i32⟩
  | 79 => ⟨S_, .i32⟩
  | 80 => ⟨S_, .i32⟩
  | 81 => ⟨S_, .i32⟩
  | 82 => ⟨S66x4x8x128x512, .f32⟩
  | 83 => ⟨S_, .i32⟩
  | 84 => ⟨S_, .i32⟩
  | 85 => ⟨S4x8x66x128x512, .f32⟩
  | 86 => ⟨S4x8x8448x512, .f32⟩
  | 87 => ⟨S4x8x8192x512, .f32⟩
  | 88 => ⟨S4x8192x8x512, .f32⟩
  | 89 => ⟨S4x8192x4096, .f32⟩
  | 90 => ⟨S4x8192x4096, .bf16⟩
  | 91 => ⟨S2x8192x4096, .bf16⟩
  | 92 => ⟨S2x8192x4096, .bf16⟩
  | 93 => ⟨S2x8192x4096, .bf16⟩
  | _ => ⟨S2x256x12288, .bf16⟩

abbrev hbmTy (i : Nat) : BufTy := match i / 128 with
  | 0 => hbmTy0_0 i
  | 1 => hbmTy0_1 i
  | _ => ⟨S2x256x12288, .bf16⟩

abbrev bufTy : (tb : Table) → Fin (tcTables nBuf tb) → BufTy
  | .hbm, ⟨i, _⟩ => hbmTy i
  | _, _ => ⟨S2x256x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call4_v0 : Ref sig .tc := ⟨.hbm, 40, rfl⟩
abbrev main_call4_call0_cst : Ref sig .tc := ⟨.hbm, 41, rfl⟩
abbrev main_call4_call0_v0 : Ref sig .tc := ⟨.hbm, 42, rfl⟩
abbrev main_call4_call0_v1 : Ref sig .tc := ⟨.hbm, 43, rfl⟩
abbrev main_call4_call0_v2 : Ref sig .tc := ⟨.hbm, 44, rfl⟩
abbrev main_call4_call0_v3 : Ref sig .tc := ⟨.hbm, 45, rfl⟩
abbrev main_call4_call0_v4 : Ref sig .tc := ⟨.hbm, 46, rfl⟩
abbrev main_call4_call0_v5 : Ref sig .tc := ⟨.hbm, 47, rfl⟩
abbrev main_call4_call0_v6 : Ref sig .tc := ⟨.hbm, 48, rfl⟩
abbrev main_call4_call0_v7 : Ref sig .tc := ⟨.hbm, 49, rfl⟩
abbrev main_call4_call0_v8 : Ref sig .tc := ⟨.hbm, 50, rfl⟩
abbrev main_call4_call0_v9 : Ref sig .tc := ⟨.hbm, 51, rfl⟩
abbrev main_call4_call0_v10 : Ref sig .tc := ⟨.hbm, 52, rfl⟩
abbrev main_call4_call0_v11 : Ref sig .tc := ⟨.hbm, 53, rfl⟩
abbrev main_call4_v1 : Ref sig .tc := ⟨.hbm, 54, rfl⟩
abbrev main_v35 : Ref sig .tc := ⟨.hbm, 55, rfl⟩
abbrev main_cst_0 : Ref sig .tc := ⟨.hbm, 56, rfl⟩
abbrev main_v36 : Ref sig .tc := ⟨.hbm, 57, rfl⟩
abbrev main_cst_1 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_c : Ref sig .tc := ⟨.hbm, 62, rfl⟩
abbrev main_v39 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_c_0 : Ref sig .tc := ⟨.hbm, 70, rfl⟩
abbrev main_call5_v5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_3 : Ref sig .tc := ⟨.hbm, 83, rfl⟩
abbrev main_v51 : Ref sig .tc := ⟨.hbm, 84, rfl⟩
abbrev main_c_4 : Ref sig .tc := ⟨.hbm, 85, rfl⟩
abbrev main_v52_0 : Ref sig .tc := ⟨.hbm, 86, rfl⟩
abbrev main_v52_1 : Ref sig .tc := ⟨.hbm, 87, rfl⟩
abbrev main_v52_2 : Ref sig .tc := ⟨.hbm, 88, rfl⟩
abbrev main_v52_3 : Ref sig .tc := ⟨.hbm, 89, rfl⟩
abbrev main_v52_4 : Ref sig .tc := ⟨.hbm, 90, rfl⟩
abbrev main_v52_5 : Ref sig .tc := ⟨.hbm, 91, rfl⟩
abbrev main_v52_6 : Ref sig .tc := ⟨.hbm, 92, rfl⟩
abbrev main_v52_7 : Ref sig .tc := ⟨.hbm, 93, rfl⟩
abbrev main_v52_8 : Ref sig .tc := ⟨.hbm, 94, rfl⟩
abbrev main_v52_9 : Ref sig .tc := ⟨.hbm, 95, rfl⟩
abbrev main_v52_10 : Ref sig .tc := ⟨.hbm, 96, rfl⟩
abbrev main_while0c_c_15 : Ref sig .tc := ⟨.hbm, 97, rfl⟩
abbrev main_while0c_v62 : Ref sig .tc := ⟨.hbm, 98, rfl⟩
abbrev main_while0b_call6_c : Ref sig .tc := ⟨.hbm, 99, rfl⟩
abbrev main_while0b_call6_c_0 : Ref sig .tc := ⟨.hbm, 100, rfl⟩
abbrev main_while0b_call6_c_1 : Ref sig .tc := ⟨.hbm, 101, rfl⟩
abbrev main_while0b_call6_c_2 : Ref sig .tc := ⟨.hbm, 102, rfl⟩
abbrev main_while0b_call6_v0 : Ref sig .tc := ⟨.hbm, 103, rfl⟩
abbrev main_while0b_v62 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_call7_v0 : Ref sig .tc := ⟨.hbm, 109, rfl⟩
abbrev main_while0b_v63 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_c_2 : Ref sig .tc := ⟨.hbm, 114, rfl⟩
abbrev main_while0b_call8_v0 : Ref sig .tc := ⟨.hbm, 115, rfl⟩
abbrev main_while0b_v64 : Ref sig .tc := ⟨.hbm, 116, rfl⟩
abbrev main_while0b_call9_c : Ref sig .tc := ⟨.hbm, 117, rfl⟩
abbrev main_while0b_call9_c_0 : Ref sig .tc := ⟨.hbm, 118, rfl⟩
abbrev main_while0b_call9_c_1 : Ref sig .tc := ⟨.hbm, 119, rfl⟩
abbrev main_while0b_call9_v0 : Ref sig .tc := ⟨.hbm, 120, rfl⟩
abbrev main_while0b_v65 : Ref sig .tc := ⟨.hbm, 121, rfl⟩
abbrev main_while0b_call10_c : Ref sig .tc := ⟨.hbm, 122, rfl⟩
abbrev main_while0b_call10_c_0 : Ref sig .tc := ⟨.hbm, 123, rfl⟩
abbrev main_while0b_call10_c_1 : Ref sig .tc := ⟨.hbm, 124, rfl⟩
abbrev main_while0b_call10_v0 : Ref sig .tc := ⟨.hbm, 125, rfl⟩
abbrev main_while0b_v66 : Ref sig .tc := ⟨.hbm, 126, rfl⟩
abbrev main_while0b_call11_call0_cst : Ref sig .tc := ⟨.hbm, 127, rfl⟩
abbrev main_while0b_call11_call0_v0 : Ref sig .tc := ⟨.hbm, 128, rfl⟩
abbrev main_while0b_v67 : Ref sig .tc := ⟨.hbm, 129, rfl⟩
abbrev main_while0b_v68 : Ref sig .tc := ⟨.hbm, 130, rfl⟩
abbrev main_while0b_v69 : Ref sig .tc := ⟨.hbm, 131, rfl⟩
abbrev main_while0b_v70 : Ref sig .tc := ⟨.hbm, 132, rfl⟩
abbrev main_while0b_v71 : Ref sig .tc := ⟨.hbm, 133, rfl⟩
abbrev main_while0b_v72 : Ref sig .tc := ⟨.hbm, 134, rfl⟩
abbrev main_while0b_v73 : Ref sig .tc := ⟨.hbm, 135, rfl⟩
abbrev main_while0b_v74 : Ref sig .tc := ⟨.hbm, 136, rfl⟩
abbrev main_while0b_v75 : Ref sig .tc := ⟨.hbm, 137, rfl⟩
abbrev main_while0b_cst_15 : Ref sig .tc := ⟨.hbm, 138, rfl⟩
abbrev main_while0b_call12_v0 : Ref sig .tc := ⟨.hbm, 139, rfl⟩
abbrev main_while0b_call12_v1 : Ref sig .tc := ⟨.hbm, 140, rfl⟩
abbrev main_while0b_call12_v2 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_cst_16 : Ref sig .tc := ⟨.hbm, 146, rfl⟩
abbrev main_while0b_v80 : Ref sig .tc := ⟨.hbm, 147, rfl⟩
abbrev main_while0b_v81 : Ref sig .tc := ⟨.hbm, 148, rfl⟩
abbrev main_while0b_v82 : Ref sig .tc := ⟨.hbm, 149, rfl⟩
abbrev main_while0b_v83 : Ref sig .tc := ⟨.hbm, 150, rfl⟩
abbrev main_while0b_v84 : Ref sig .tc := ⟨.hbm, 151, rfl⟩
abbrev main_while0b_v85 : Ref sig .tc := ⟨.hbm, 152, rfl⟩
abbrev main_while0b_v86 : Ref sig .tc := ⟨.hbm, 153, rfl⟩
abbrev main_while0b_v87 : Ref sig .tc := ⟨.hbm, 154, rfl⟩
abbrev main_while0b_v88 : Ref sig .tc := ⟨.hbm, 155, rfl⟩
abbrev main_while0b_v89 : Ref sig .tc := ⟨.hbm, 156, rfl⟩
abbrev main_while0b_v90 : Ref sig .tc := ⟨.hbm, 157, rfl⟩
abbrev main_while0b_v91 : Ref sig .tc := ⟨.hbm, 158, rfl⟩
abbrev main_while0b_v92 : Ref sig .tc := ⟨.hbm, 159, rfl⟩
abbrev main_while0b_v93 : Ref sig .tc := ⟨.hbm, 160, rfl⟩
abbrev main_while0b_v94 : Ref sig .tc := ⟨.hbm, 161, rfl⟩
abbrev main_while0b_v95 : Ref sig .tc := ⟨.hbm, 162, rfl⟩
abbrev main_while0b_cst_17 : Ref sig .tc := ⟨.hbm, 163, rfl⟩
abbrev main_while0b_v96 : Ref sig .tc := ⟨.hbm, 164, rfl⟩
abbrev main_while0b_v97 : Ref sig .tc := ⟨.hbm, 165, rfl⟩
abbrev main_while0b_v98 : Ref sig .tc := ⟨.hbm, 166, rfl⟩
abbrev main_while0b_v99 : Ref sig .tc := ⟨.hbm, 167, rfl⟩
abbrev main_while0b_v100 : Ref sig .tc := ⟨.hbm, 168, rfl⟩
abbrev main_while0b_v101 : Ref sig .tc := ⟨.hbm, 169, rfl⟩
abbrev main_while0b_v102 : Ref sig .tc := ⟨.hbm, 170, rfl⟩
abbrev main_while0b_v103 : Ref sig .tc := ⟨.hbm, 171, rfl⟩
abbrev main_while0b_v104 : Ref sig .tc := ⟨.hbm, 172, rfl⟩
abbrev main_while0b_v105 : Ref sig .tc := ⟨.hbm, 173, rfl⟩
abbrev main_while0b_v106 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_v113 : Ref sig .tc := ⟨.hbm, 181, rfl⟩
abbrev main_while0b_cst_18 : Ref sig .tc := ⟨.hbm, 182, rfl⟩
abbrev main_while0b_v114 : Ref sig .tc := ⟨.hbm, 183, rfl⟩
abbrev main_while0b_v115 : Ref sig .tc := ⟨.hbm, 184, rfl⟩
abbrev main_while0b_v116 : Ref sig .tc := ⟨.hbm, 185, rfl⟩
abbrev main_while0b_v117 : Ref sig .tc := ⟨.hbm, 186, rfl⟩
abbrev main_while0b_v118 : Ref sig .tc := ⟨.hbm, 187, rfl⟩
abbrev main_while0b_v119 : Ref sig .tc := ⟨.hbm, 188, rfl⟩
abbrev main_while0b_v120 : Ref sig .tc := ⟨.hbm, 189, rfl⟩
abbrev main_while0b_v121 : Ref sig .tc := ⟨.hbm, 190, rfl⟩
abbrev main_while0b_v122 : Ref sig .tc := ⟨.hbm, 191, rfl⟩
abbrev main_while0b_v123 : Ref sig .tc := ⟨.hbm, 192, rfl⟩
abbrev main_while0b_v124 : Ref sig .tc := ⟨.hbm, 193, rfl⟩
abbrev main_while0b_v125 : Ref sig .tc := ⟨.hbm, 194, rfl⟩
abbrev main_while0b_v126 : Ref sig .tc := ⟨.hbm, 195, rfl⟩
abbrev main_while0b_v127 : Ref sig .tc := ⟨.hbm, 196, rfl⟩
abbrev main_while0b_v128 : Ref sig .tc := ⟨.hbm, 197, rfl⟩
abbrev main_while0b_v129 : Ref sig .tc := ⟨.hbm, 198, rfl⟩
abbrev main_while0b_v130 : Ref sig .tc := ⟨.hbm, 199, rfl⟩
abbrev main_while0b_v131 : Ref sig .tc := ⟨.hbm, 200, rfl⟩
abbrev main_while0b_v132 : Ref sig .tc := ⟨.hbm, 201, rfl⟩
abbrev main_while0b_v133 : Ref sig .tc := ⟨.hbm, 202, rfl⟩
abbrev main_while0b_v134 : Ref sig .tc := ⟨.hbm, 203, rfl⟩
abbrev main_while0b_v135 : Ref sig .tc := ⟨.hbm, 204, rfl⟩
abbrev main_while0b_call13_v0 : Ref sig .tc := ⟨.hbm, 205, rfl⟩
abbrev main_while0b_call13_c : Ref sig .tc := ⟨.hbm, 206, rfl⟩
abbrev main_while0b_call13_c_0 : Ref sig .tc := ⟨.hbm, 207, rfl⟩
abbrev main_while0b_call13_c_1 : Ref sig .tc := ⟨.hbm, 208, rfl⟩
abbrev main_while0b_call13_c_2 : Ref sig .tc := ⟨.hbm, 209, rfl⟩
abbrev main_while0b_v136 : Ref sig .tc := ⟨.hbm, 210, rfl⟩
abbrev main_while0b_c_19 : Ref sig .tc := ⟨.hbm, 211, rfl⟩
abbrev main_while0b_v137 : Ref sig .tc := ⟨.hbm, 212, rfl⟩
abbrev main_v53 : Ref sig .tc := ⟨.hbm, 213, rfl⟩
abbrev main_v54 : Ref sig .tc := ⟨.hbm, 214, rfl⟩
abbrev main_v55 : Ref sig .tc := ⟨.hbm, 215, rfl⟩
abbrev main_v56 : Ref sig .tc := ⟨.hbm, 216, rfl⟩
abbrev main_v57 : Ref sig .tc := ⟨.hbm, 217, rfl⟩
abbrev main_v58 : Ref sig .tc := ⟨.hbm, 218, rfl⟩
abbrev main_v59 : Ref sig .tc := ⟨.hbm, 219, rfl⟩
abbrev main_v60 : Ref sig .tc := ⟨.hbm, 220, rfl⟩
abbrev main_v61 : Ref sig .tc := ⟨.hbm, 221, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S2x8192x4096 : Shape := ⟨3, ![2, 8192, 4096]⟩
abbrev S2x4096x22016 : Shape := ⟨3, ![2, 4096, 22016]⟩
abbrev S2x3x22016 : Shape := ⟨3, ![2, 3, 22016]⟩
abbrev S2x11008x4096 : Shape := ⟨3, ![2, 11008, 4096]⟩
abbrev S16384x4096 : Shape := ⟨2, ![16384, 4096]⟩
abbrev S16384x11008 : Shape := ⟨2, ![16384, 11008]⟩
abbrev S1x11008x4096 : Shape := ⟨3, ![1, 11008, 4096]⟩
abbrev S2048x4096 : Shape := ⟨2, ![2048, 4096]⟩
abbrev S1x4096x256 : Shape := ⟨3, ![1, 4096, 256]⟩
abbrev S1x3x256 : Shape := ⟨3, ![1, 3, 256]⟩
abbrev S1x32x4096 : Shape := ⟨3, ![1, 32, 4096]⟩
abbrev S2048x256 : Shape := ⟨2, ![2048, 256]⟩
abbrev S32x4096 : Shape := ⟨2, ![32, 4096]⟩
abbrev S4096x256 : Shape := ⟨2, ![4096, 256]⟩
abbrev S3x256 : Shape := ⟨2, ![3, 256]⟩
abbrev S128x4096 : Shape := ⟨2, ![128, 4096]⟩
abbrev S128x256 : Shape := ⟨2, ![128, 256]⟩
abbrev S1x256 : Shape := ⟨2, ![1, 256]⟩

abbrev nBuf : Space → Nat
  | .hbm => 7
  | .vmem => 16
  | .smem => 0
  | _ => 0

abbrev bufTy : (tb : Table) → Fin (tcTables nBuf tb) → BufTy
  | .hbm, ⟨0, _⟩ => ⟨S2x8192x4096, .bf16⟩
  | .hbm, ⟨1, _⟩ => ⟨S2x4096x22016, .f32⟩
  | .hbm, ⟨2, _⟩ => ⟨S2x3x22016, .f32⟩
  | .hbm, ⟨3, _⟩ => ⟨S2x11008x4096, .f32⟩
  | .hbm, ⟨4, _⟩ => ⟨S16384x4096, .bf16⟩
  | .hbm, ⟨5, _⟩ => ⟨S16384x11008, .bf16⟩
  | .hbm, ⟨6, _⟩ => ⟨S1x11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x32x4096, .f32⟩
  | .local _ .vmem, ⟨11, _⟩ => ⟨S1x32x4096, .f32⟩
  | .local _ .vmem, ⟨12, _⟩ => ⟨S2048x256, .bf16⟩
  | .local _ .vmem, ⟨13, _⟩ => ⟨S2048x256, .bf16⟩
  | .local _ .vmem, ⟨14, _⟩ => ⟨S1x32x4096, .bf16⟩
  | .local _ .vmem, ⟨15, _⟩ => ⟨S1x32x4096, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x8192x4096 : Shape := ⟨3, ![2, 8192, 4096]⟩
abbrev S2x4096x22016 : Shape := ⟨3, ![2, 4096, 22016]⟩
abbrev S2x3x22016 : Shape := ⟨3, ![2, 3, 22016]⟩
abbrev S2x11008x4096 : Shape := ⟨3, ![2, 11008, 4096]⟩
abbrev S1x4096x22016 : Shape := ⟨3, ![1, 4096, 22016]⟩
abbrev S4096x22016 : Shape := ⟨2, ![4096, 22016]⟩
abbrev S2x8192x22016 : Shape := ⟨3, ![2, 8192, 22016]⟩
abbrev S1x3x22016 : Shape := ⟨3, ![1, 3, 22016]⟩
abbrev S3x22016 : Shape := ⟨2, ![3, 22016]⟩
abbrev S2x128x64x22016 : Shape := ⟨4, ![2, 128, 64, 22016]⟩
abbrev S_ : Shape := ⟨0, ![]⟩
abbrev S2x128x1x22016 : Shape := ⟨4, ![2, 128, 1, 22016]⟩
abbrev S2x128x63x22016 : Shape := ⟨4, ![2, 128, 63, 22016]⟩
abbrev S1x22016 : Shape := ⟨2, ![1, 22016]⟩
abbrev S22016 : Shape := ⟨1, ![22016]⟩
abbrev S1x1x1x22016 : Shape := ⟨4, ![1, 1, 1, 22016]⟩
abbrev S2x8192x11008 : Shape := ⟨3, ![2, 8192, 11008]⟩
abbrev S16384x11008 : Shape := ⟨2, ![16384, 11008]⟩
abbrev S1x11008x4096 : Shape := ⟨3, ![1, 11008, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x4096x22016, .f32⟩
  | .hbm, ⟨2, _⟩ => ⟨S2x3x22016, .f32⟩
  | .hbm, ⟨3, _⟩ => ⟨S2x11008x4096, .f32⟩
  | .hbm, ⟨4, _⟩ => ⟨S2x8192x4096, .f32⟩
  | .hbm, ⟨5, _⟩ => ⟨S1x4096x22016, .f32⟩
  | .hbm, ⟨6, _⟩ => ⟨S4096x22016, .f32⟩
  | .hbm, ⟨7, _⟩ => ⟨S2x8192x22016, .f32⟩
  | .hbm, ⟨8, _⟩ => ⟨S1x3x22016, .f32⟩
  | .hbm, ⟨9, _⟩ => ⟨S3x22016, .f32⟩
  | .hbm, ⟨10, _⟩ => ⟨S2x128x64x22016, .f32⟩
  | .hbm, ⟨11, _⟩ => ⟨S_, .f32⟩
  | .hbm, ⟨12, _⟩ => ⟨S2x128x1x22016, .f32⟩
  | .hbm, ⟨13, _⟩ => ⟨S2x128x63x22016, .f32⟩
  | .hbm, ⟨14, _⟩ => ⟨S2x128x64x22016, .f32⟩
  | .hbm, ⟨15, _⟩ => ⟨S2x128x63x22016, .f32⟩
  | .hbm, ⟨16, _⟩ => ⟨S2x128x64x22016, .f32⟩
  | .hbm, ⟨17, _⟩ => ⟨S1x22016, .f32⟩
  | .hbm, ⟨18, _⟩ => ⟨S22016, .f32⟩
  | .hbm, ⟨19, _⟩ => ⟨S1x1x1x22016, .f32⟩
  | .hbm, ⟨20, _⟩ => ⟨S2x128x64x22016, .f32⟩
  | .hbm, ⟨21, _⟩ => ⟨S2x128x64x22016, .f32⟩
  | .hbm, ⟨22, _⟩ => ⟨S1x22016, .f32⟩
  | .hbm, ⟨23, _⟩ => ⟨S22016, .f32⟩
  | .hbm, ⟨24, _⟩ => ⟨S1x1x1x22016, .f32⟩
  | .hbm, ⟨25, _⟩ => ⟨S2x128x64x22016, .f32⟩
  | .hbm, ⟨26, _⟩ => ⟨S2x128x64x22016, .f32⟩
  | .hbm, ⟨27, _⟩ => ⟨S2x128x64x22016, .f32⟩
  | .hbm, ⟨28, _⟩ => ⟨S1x22016, .f32⟩
  | .hbm, ⟨29, _⟩ => ⟨S22016, .f32⟩
  | .hbm, ⟨30, _⟩ => ⟨S1x1x1x22016, .f32⟩
  | .hbm, ⟨31, _⟩ => ⟨S2x128x64x22016, .f32⟩
  | .hbm, ⟨32, _⟩ => ⟨S2x128x64x22016, .f32⟩
  | .hbm, ⟨33, _⟩ => ⟨S2x128x64x22016, .f32⟩
  | .hbm, ⟨34, _⟩ => ⟨S2x8192x22016, .f32⟩
  | .hbm, ⟨35, _⟩ => ⟨S2x8192x11008, .f32⟩
  | .hbm, ⟨36, _⟩ => ⟨S2x8192x11008, .f32⟩
  | .hbm, ⟨37, _⟩ => ⟨S2x8192x11008, .f32⟩
  | .hbm, ⟨38, _⟩ => ⟨S2x8192x11008, .f32⟩
  | .hbm, ⟨39, _⟩ => ⟨S_, .f32⟩
  | .hbm, ⟨40, _⟩ => ⟨S2x8192x11008, .f32⟩
  | .hbm, ⟨41, _⟩ => ⟨S2x8192x11008, .f32⟩
  | .hbm, ⟨42, _⟩ => ⟨S_, .f32⟩
  | .hbm, ⟨43, _⟩ => ⟨S2x8192x11008, .f32⟩
  | .hbm, ⟨44, _⟩ => ⟨S2x8192x11008, .f32⟩
  | .hbm, ⟨45, _⟩ => ⟨S2x8192x11008, .f32⟩
  | .hbm, ⟨46, _⟩ => ⟨S2x8192x11008, .f32⟩
  | .hbm, ⟨47, _⟩ => ⟨S2x8192x11008, .bf16⟩
  | .hbm, ⟨48, _⟩ => ⟨S16384x11008, .bf16⟩
  | .hbm, ⟨49, _⟩ => ⟨S1x11008x4096, .f32⟩
  | .hbm, ⟨50, _⟩ => ⟨S1x11008x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel3.lean ====
abbrev S16384x11008 : Shape := ⟨2, ![16384, 11008]⟩
abbrev S1x11008x4096 : Shape := ⟨3, ![1, 11008, 4096]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩
abbrev S256x11008 : Shape := ⟨2, ![256, 11008]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .bf16⟩
  | .hbm, ⟨2, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .bf16⟩
  | .local _ .vmem, ⟨5, _⟩ => ⟨S512x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x11008 : Shape := ⟨2, ![16384, 11008]⟩
abbrev S1x11008x4096 : Shape := ⟨3, ![1, 11008, 4096]⟩
abbrev S11008x4096 : Shape := ⟨2, ![11008, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .bf16⟩
  | .hbm, ⟨2, _⟩ => ⟨S16384x11008, .f32⟩
  | .hbm, ⟨3, _⟩ => ⟨S11008x4096, .bf16⟩
  | .hbm, ⟨4, _⟩ => ⟨S11008x4096, .f32⟩
  | .hbm, ⟨5, _⟩ => ⟨S16384x4096, .f32⟩
  | .hbm, ⟨6, _⟩ => ⟨S16384x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S2x8192x4096 : Shape := ⟨3, ![2, 8192, 4096]⟩
abbrev S1x4096x12320 : Shape := ⟨3, ![1, 4096, 12320]⟩
abbrev S1x12320x4096 : Shape := ⟨3, ![1, 12320, 4096]⟩
abbrev S16384x4096 : Shape := ⟨2, ![16384, 4096]⟩
abbrev S16384x12288 : Shape := ⟨2, ![16384, 12288]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩
abbrev S256x4096 : Shape := ⟨2, ![256, 4096]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x12320, .f32⟩
  | .hbm, ⟨2, _⟩ => ⟨S1x12320x4096, .f32⟩
  | .hbm, ⟨3, _⟩ => ⟨S16384x4096, .bf16⟩
  | .hbm, ⟨4, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x8192x4096 : Shape := ⟨3, ![2, 8192, 4096]⟩
abbrev S1x4096x12320 : Shape := ⟨3, ![1, 4096, 12320]⟩
abbrev S4096x12320 : Shape := ⟨2, ![4096, 12320]⟩
abbrev S2x8192x12320 : Shape := ⟨3, ![2, 8192, 12320]⟩
abbrev S2x8192x12288 : Shape := ⟨3, ![2, 8192, 12288]⟩
abbrev S16384x12288 : Shape := ⟨2, ![16384, 12288]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x12320, .f32⟩
  | .hbm, ⟨2, _⟩ => ⟨S2x8192x4096, .f32⟩
  | .hbm, ⟨3, _⟩ => ⟨S4096x12320, .f32⟩
  | .hbm, ⟨4, _⟩ => ⟨S2x8192x12320, .f32⟩
  | .hbm, ⟨5, _⟩ => ⟨S2x8192x12288, .f32⟩
  | .hbm, ⟨6, _⟩ => ⟨S2x8192x12288, .bf16⟩
  | .hbm, ⟨7, _⟩ => ⟨S16384x12288, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S2x8192x4096 : Shape := ⟨3, ![2, 8192, 4096]⟩
abbrev S1x4096x4096 : Shape := ⟨3, ![1, 4096, 4096]⟩
abbrev S16384x4096 : Shape := ⟨2, ![16384, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S256x4096 : Shape := ⟨2, ![256, 4096]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x4096, .f32⟩
  | .hbm, ⟨2, _⟩ => ⟨S16384x4096, .bf16⟩
  | .hbm, ⟨3, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x8192x4096 : Shape := ⟨3, ![2, 8192, 4096]⟩
abbrev S1x4096x4096 : Shape := ⟨3, ![1, 4096, 4096]⟩
abbrev S4096x4096 : Shape := ⟨2, ![4096, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x4096, .f32⟩
  | .hbm, ⟨2, _⟩ => ⟨S2x8192x4096, .f32⟩
  | .hbm, ⟨3, _⟩ => ⟨S4096x4096, .f32⟩
  | .hbm, ⟨4, _⟩ => ⟨S2x8192x4096, .f32⟩
  | .hbm, ⟨5, _⟩ => ⟨S2x8192x4096, .bf16⟩
  | .hbm, ⟨6, _⟩ => ⟨S16384x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S2x8192x4096 : Shape := ⟨3, ![2, 8192, 4096]⟩
abbrev S1x4096x10240 : Shape := ⟨3, ![1, 4096, 10240]⟩
abbrev S16384x4096 : Shape := ⟨2, ![16384, 4096]⟩
abbrev S16384x2048 : Shape := ⟨2, ![16384, 2048]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩
abbrev S256x4096 : Shape := ⟨2, ![256, 4096]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x10240, .f32⟩
  | .hbm, ⟨2, _⟩ => ⟨S16384x4096, .bf16⟩
  | .hbm, ⟨3, _⟩ => ⟨S16384x2048, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x8192x4096 : Shape := ⟨3, ![2, 8192, 4096]⟩
abbrev S1x4096x10240 : Shape := ⟨3, ![1, 4096, 10240]⟩
abbrev S4096x10240 : Shape := ⟨2, ![4096, 10240]⟩
abbrev S2x8192x10240 : Shape := ⟨3, ![2, 8192, 10240]⟩
abbrev S2x8192x2048 : Shape := ⟨3, ![2, 8192, 2048]⟩
abbrev S_ : Shape := ⟨0, ![]⟩
abbrev S16384x2048 : Shape := ⟨2, ![16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x10240, .f32⟩
  | .hbm, ⟨2, _⟩ => ⟨S2x8192x4096, .f32⟩
  | .hbm, ⟨3, _⟩ => ⟨S4096x10240, .f32⟩
  | .hbm, ⟨4, _⟩ => ⟨S2x8192x10240, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S_, .f32⟩
  | .hbm, ⟨13, _⟩ => ⟨S2x8192x2048, .f32⟩
  | .hbm, ⟨14, _⟩ => ⟨S2x8192x2048, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S2x8192x2048, .bf16⟩
  | .hbm, ⟨20, _⟩ => ⟨S16384x2048, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel7.lean ====
abbrev S2x8192x4096 : Shape := ⟨3, ![2, 8192, 4096]⟩
abbrev S1x4096x10240 : Shape := ⟨3, ![1, 4096, 10240]⟩
abbrev S16384x4096 : Shape := ⟨2, ![16384, 4096]⟩
abbrev S16384x2048 : Shape := ⟨2, ![16384, 2048]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩
abbrev S256x4096 : Shape := ⟨2, ![256, 4096]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x10240, .f32⟩
  | .hbm, ⟨2, _⟩ => ⟨S16384x4096, .bf16⟩
  | .hbm, ⟨3, _⟩ => ⟨S16384x2048, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x8192x4096 : Shape := ⟨3, ![2, 8192, 4096]⟩
abbrev S1x4096x10240 : Shape := ⟨3, ![1, 4096, 10240]⟩
abbrev S4096x10240 : Shape := ⟨2, ![4096, 10240]⟩
abbrev S2x8192x10240 : Shape := ⟨3, ![2, 8192, 10240]⟩
abbrev S2x8192x2048 : Shape := ⟨3, ![2, 8192, 2048]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x10240, .f32⟩
  | .hbm, ⟨2, _⟩ => ⟨S2x8192x4096, .f32⟩
  | .hbm, ⟨3, _⟩ => ⟨S4096x10240, .f32⟩
  | .hbm, ⟨4, _⟩ => ⟨S2x8192x10240, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .bf16⟩
  | .hbm, ⟨12, _⟩ => ⟨S16384x2048, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel8.lean ====
abbrev S2x8192x4096 : Shape := ⟨3, ![2, 8192, 4096]⟩
abbrev S1x4096x10240 : Shape := ⟨3, ![1, 4096, 10240]⟩
abbrev S16384x4096 : Shape := ⟨2, ![16384, 4096]⟩
abbrev S16384x2048 : Shape := ⟨2, ![16384, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S256x4096 : Shape := ⟨2, ![256, 4096]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x10240, .f32⟩
  | .hbm, ⟨2, _⟩ => ⟨S16384x4096, .bf16⟩
  | .hbm, ⟨3, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2x8192x4096 : Shape := ⟨3, ![2, 8192, 4096]⟩
abbrev S1x4096x10240 : Shape := ⟨3, ![1, 4096, 10240]⟩
abbrev S4096x10240 : Shape := ⟨2, ![4096, 10240]⟩
abbrev S2x8192x10240 : Shape := ⟨3, ![2, 8192, 10240]⟩
abbrev S2x8192x2048 : Shape := ⟨3, ![2, 8192, 2048]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x10240, .f32⟩
  | .hbm, ⟨2, _⟩ => ⟨S2x8192x4096, .f32⟩
  | .hbm, ⟨3, _⟩ => ⟨S4096x10240, .f32⟩
  | .hbm, ⟨4, _⟩ => ⟨S2x8192x10240, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .bf16⟩
  | .hbm, ⟨11, _⟩ => ⟨S16384x2048, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel9.lean ====
abbrev S2x8192x4096 : Shape := ⟨3, ![2, 8192, 4096]⟩
abbrev S2x8192x12288 : Shape := ⟨3, ![2, 8192, 12288]⟩
abbrev S1x4096 : Shape := ⟨2, ![1, 4096]⟩
abbrev S4096 : Shape := ⟨1, ![4096]⟩
abbrev S1x512x4096 : Shape := ⟨3, ![1, 512, 4096]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 7
  | .vmem => 9
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .bf16⟩
  | .hbm, ⟨2, _⟩ => ⟨S2x8192x12288, .bf16⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S2x8192x4096, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x512x4096, .bf16⟩
  | .local _ .vmem, ⟨5, _⟩ => ⟨S1x512x4096, .bf16⟩
  | .local _ .vmem, ⟨6, _⟩ => ⟨S1x4096, .f32⟩
  | .local _ .vmem, ⟨7, _⟩ => ⟨S1x512x4096, .bf16⟩
  | .local _ .vmem, ⟨8, _⟩ => ⟨S1x512x4096, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S2x8192x4096 : Shape := ⟨3, ![2, 8192, 4096]⟩
abbrev S2x8192x12288 : Shape := ⟨3, ![2, 8192, 12288]⟩
abbrev S1x4096 : Shape := ⟨2, ![1, 4096]⟩
abbrev S2x8192x8x512 : Shape := ⟨4, ![2, 8192, 8, 512]⟩
abbrev S_ : Shape := ⟨0, ![]⟩
abbrev S2x8192x8 : Shape := ⟨3, ![2, 8192, 8]⟩
abbrev S2x8192x8x1 : Shape := ⟨4, ![2, 8192, 8, 1]⟩
abbrev S4096 : Shape := ⟨1, ![4096]⟩
abbrev S1x1x4096 : Shape := ⟨3, ![1, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .bf16⟩
  | .hbm, ⟨2, _⟩ => ⟨S2x8192x12288, .bf16⟩
  | .hbm, ⟨3, _⟩ => ⟨S1x4096, .f32⟩
  | .hbm, ⟨4, _⟩ => ⟨S2x8192x4096, .f32⟩
  | .hbm, ⟨5, _⟩ => ⟨S2x8192x4096, .f32⟩
  | .hbm, ⟨6, _⟩ => ⟨S2x8192x4096, .f32⟩
  | .hbm, ⟨7, _⟩ => ⟨S2x8192x8x512, .f32⟩
  | .hbm, ⟨8, _⟩ => ⟨S2x8192x4096, .bf16⟩
  | .hbm, ⟨9, _⟩ => ⟨S2x8192x4096, .f32⟩
  | .hbm, ⟨10, _⟩ => ⟨S2x8192x8x512, .f32⟩
  | .hbm, ⟨11, _⟩ => ⟨S_, .f32⟩
  | .hbm, ⟨12, _⟩ => ⟨S2x8192x8, .f32⟩
  | .hbm, ⟨13, _⟩ => ⟨S2x8192x8x1, .f32⟩
  | .hbm, ⟨14, _⟩ => ⟨S_, .f32⟩
  | .hbm, ⟨15, _⟩ => ⟨S2x8192x8x1, .f32⟩
  | .hbm, ⟨16, _⟩ => ⟨S2x8192x8x1, .f32⟩
  | .hbm, ⟨17, _⟩ => ⟨S_, .f32⟩
  | .hbm, ⟨18, _⟩ => ⟨S2x8192x8x1, .f32⟩
  | .hbm, ⟨19, _⟩ => ⟨S2x8192x8x1, .f32⟩
  | .hbm, ⟨20, _⟩ => ⟨S2x8192x8x1, .f32⟩
  | .hbm, ⟨21, _⟩ => ⟨S2x8192x8x512, .f32⟩
  | .hbm, ⟨22, _⟩ => ⟨S2x8192x8x512, .f32⟩
  | .hbm, ⟨23, _⟩ => ⟨S2x8192x4096, .f32⟩
  | .hbm, ⟨24, _⟩ => ⟨S4096, .f32⟩
  | .hbm, ⟨25, _⟩ => ⟨S1x1x4096, .f32⟩
  | .hbm, ⟨26, _⟩ => ⟨S2x8192x4096, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S_, .f32⟩
  | .hbm, ⟨31, _⟩ => ⟨S2x8192x4096, .f32⟩
  | .hbm, ⟨32, _⟩ => ⟨S2x8192x4096, .f32⟩
  | .hbm, ⟨33, _⟩ => ⟨S_, .f32⟩
  | .hbm, ⟨34, _⟩ => ⟨S2x8192x4096, .f32⟩
  | .hbm, ⟨35, _⟩ => ⟨S2x8192x4096, .f32⟩
  | .hbm, ⟨36, _⟩ => ⟨S2x8192x4096, .f32⟩
  | .hbm, ⟨37, _⟩ => ⟨S2x8192x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel10.lean ====
abbrev S2x8192x4096 : Shape := ⟨3, ![2, 8192, 4096]⟩
abbrev S2x1x4096 : Shape := ⟨3, ![2, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x1x4096, .f32⟩
  | .hbm, ⟨3, _⟩ => ⟨S4096, .f32⟩
  | .hbm, ⟨4, _⟩ => ⟨S4096, .f32⟩
  | .hbm, ⟨5, _⟩ => ⟨S2x1x4096, .f32⟩
  | .hbm, ⟨6, _⟩ => ⟨S2x1x4096, .f32⟩
  | .hbm, ⟨7, _⟩ => ⟨S1x4096, .f32⟩
  | .hbm, ⟨8, _⟩ => ⟨S1x4096, .f32⟩
  | .hbm, ⟨9, _⟩ => ⟨S2x8192x4096, .f32⟩
  | .hbm, ⟨10, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .bf16⟩
  | .local _ .vmem, ⟨15, _⟩ => ⟨S1x256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S2x8192x4096 : Shape := ⟨3, ![2, 8192, 4096]⟩
abbrev S2x1x4096 : Shape := ⟨3, ![2, 1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x1x4096, .f32⟩
  | .hbm, ⟨3, _⟩ => ⟨S4096, .f32⟩
  | .hbm, ⟨4, _⟩ => ⟨S4096, .f32⟩
  | .hbm, ⟨5, _⟩ => ⟨S2x1x4096, .f32⟩
  | .hbm, ⟨6, _⟩ => ⟨S2x1x4096, .f32⟩
  | .hbm, ⟨7, _⟩ => ⟨S2x8192x4096, .f32⟩
  | .hbm, ⟨8, _⟩ => ⟨S2x8192x4096, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x4096, .f32⟩
  | .hbm, ⟨20, _⟩ => ⟨S2x8192x4096, .f32⟩
  | .hbm, ⟨21, _⟩ => ⟨S1x1x4096, .f32⟩
  | .hbm, ⟨22, _⟩ => ⟨S2x8192x4096, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x4096, .f32⟩
  | .hbm, ⟨39, _⟩ => ⟨S2x8192x4096, .f32⟩
  | .hbm, ⟨40, _⟩ => ⟨S1x1x4096, .f32⟩
  | .hbm, ⟨41, _⟩ => ⟨S2x8192x4096, .f32⟩
  | .hbm, ⟨42, _⟩ => ⟨S2x8192x4096, .f32⟩
  | .hbm, ⟨43, _⟩ => ⟨S_, .f32⟩
  | .hbm, ⟨44, _⟩ => ⟨S2x1x4096, .f32⟩
  | .hbm, ⟨45, _⟩ => ⟨S2x1x4096, .f32⟩
  | .hbm, ⟨46, _⟩ => ⟨S2x8192x4096, .f32⟩
  | .hbm, ⟨47, _⟩ => ⟨S2x8192x4096, .f32⟩
  | .hbm, ⟨48, _⟩ => ⟨S2x8192x4096, .f32⟩
  | .hbm, ⟨49, _⟩ => ⟨S2x8192x4096, .f32⟩
  | .hbm, ⟨50, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel11.lean ====
abbrev S2x8192x4096 : Shape := ⟨3, ![2, 8192, 4096]⟩
abbrev S2x1x4096 : Shape := ⟨3, ![2, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x1x4096, .f32⟩
  | .hbm, ⟨3, _⟩ => ⟨S4096, .f32⟩
  | .hbm, ⟨4, _⟩ => ⟨S1x4096, .f32⟩
  | .hbm, ⟨5, _⟩ => ⟨S2x8192x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x256x4096, .f32⟩
  | .local _ .vmem, ⟨8, _⟩ => ⟨S1x256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S2x8192x4096 : Shape := ⟨3, ![2, 8192, 4096]⟩
abbrev S2x1x4096 : Shape := ⟨3, ![2, 1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x1x4096, .f32⟩
  | .hbm, ⟨3, _⟩ => ⟨S4096, .f32⟩
  | .hbm, ⟨4, _⟩ => ⟨S2x8192x4096, .f32⟩
  | .hbm, ⟨5, _⟩ => ⟨S2x8192x4096, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x4096, .f32⟩
  | .hbm, ⟨17, _⟩ => ⟨S2x8192x4096, .f32⟩
  | .hbm, ⟨18, _⟩ => ⟨S1x1x4096, .f32⟩
  | .hbm, ⟨19, _⟩ => ⟨S2x8192x4096, .f32⟩
  | .hbm, ⟨20, _⟩ => ⟨S2x8192x4096, .f32⟩
  | .hbm, ⟨21, _⟩ => ⟨S2x8192x4096, .f32⟩
  | .hbm, ⟨22, _⟩ => ⟨S2x8192x4096, .f32⟩
  | .hbm, ⟨23, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel12.lean ====
abbrev S2x8192x4096 : Shape := ⟨3, ![2, 8192, 4096]⟩
abbrev S4096 : Shape := ⟨1, ![4096]⟩
abbrev S2x1x4096 : Shape := ⟨3, ![2, 1, 4096]⟩
abbrev S1x4096 : Shape := ⟨2, ![1, 4096]⟩
abbrev S1x512x4096 : Shape := ⟨3, ![1, 512, 4096]⟩
abbrev S1x1x4096 : Shape := ⟨3, ![1, 1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S1x4096, .f32⟩
  | .hbm, ⟨5, _⟩ => ⟨S2x8192x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x512x4096, .bf16⟩
  | .local _ .vmem, ⟨8, _⟩ => ⟨S1x512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S2x8192x4096 : Shape := ⟨3, ![2, 8192, 4096]⟩
abbrev S4096 : Shape := ⟨1, ![4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x1x4096, .f32⟩
  | .hbm, ⟨18, _⟩ => ⟨S2x8192x4096, .f32⟩
  | .hbm, ⟨19, _⟩ => ⟨S2x8192x4096, .f32⟩
  | .hbm, ⟨20, _⟩ => ⟨S_, .f32⟩
  | .hbm, ⟨21, _⟩ => ⟨S2x1x4096, .f32⟩
  | .hbm, ⟨22, _⟩ => ⟨S2x1x4096, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel13.lean ====
abbrev S16384x11008 : Shape := ⟨2, ![16384, 11008]⟩
abbrev S1x11008x4096 : Shape := ⟨3, ![1, 11008, 4096]⟩
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S16384x4096 : Shape := ⟨2, ![16384, 4096]⟩
abbrev S8x24576 : Shape := ⟨2, ![8, 24576]⟩
abbrev S512x11008 : Shape := ⟨2, ![512, 11008]⟩
abbrev S1x11008x512 : Shape := ⟨3, ![1, 11008, 512]⟩
abbrev S1x4096x128 : Shape := ⟨3, ![1, 4096, 128]⟩
abbrev S1x1x128 : Shape := ⟨3, ![1, 1, 128]⟩
abbrev S512x512 : Shape := ⟨2, ![512, 512]⟩
abbrev S8x128 : Shape := ⟨2, ![8, 128]⟩
abbrev S4096x128 : Shape := ⟨2, ![4096, 128]⟩
abbrev S1x128 : Shape := ⟨2, ![1, 128]⟩
abbrev S11008x512 : Shape := ⟨2, ![11008, 512]⟩
abbrev S256x11008 : Shape := ⟨2, ![256, 11008]⟩
abbrev S256x512 : Shape := ⟨2, ![256, 512]⟩

abbrev nBuf : Space → Nat
  | .hbm => 8
  | .vmem => 13
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .bf16⟩
  | .hbm, ⟨2, _⟩ => ⟨S8x4096, .f32⟩
  | .hbm, ⟨3, _⟩ => ⟨S2x4096x24576, .f32⟩
  | .hbm, ⟨4, _⟩ => ⟨S2x24576, .f32⟩
  | .hbm, ⟨5, _⟩ => ⟨S2x1x24576, .f32⟩
  | .hbm, ⟨6, _⟩ => ⟨S16384x4096, .bf16⟩
  | .hbm, ⟨7, _⟩ => ⟨S8x24576, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S8x4096, .f32⟩
  | .local _ .vmem, ⟨5, _⟩ => ⟨S1x4096x128, .f32⟩
  | .local _ .vmem, ⟨6, _⟩ => ⟨S1x4096x128, .f32⟩
  | .local _ .vmem, ⟨7, _⟩ => ⟨S1x1x128, .f32⟩
  | .local _ .vmem, ⟨8, _⟩ => ⟨S1x1x128, .f32⟩
  | .local _ .vmem, ⟨9, _⟩ => ⟨S512x512, .bf16⟩
  | .local _ .vmem, ⟨10, _⟩ => ⟨S512x512, .bf16⟩
  | .local _ .vmem, ⟨11, _⟩ => ⟨S8x128, .f32⟩
  | .local _ .vmem, ⟨12, _⟩ => ⟨S8x128, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c191_i32 : BitVec 32 := 191#32
  let v2 : BitVec 32 := Scalar.minsi v1 c191_i32
  let c1_i32 : BitVec 32 := 1#32
  let c0_i32 : BitVec 32 := 0#32
  let c0_i32_0 : BitVec 32 := 0#32
  ![c1_i32.toNat, c0_i32.toNat, v2.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c191_i32 : BitVec 32 := 191#32
  let v2 : BitVec 32 := Scalar.minsi v1 c191_i32
  let c1_i32 : BitVec 32 := 1#32
  let c0_i32 : BitVec 32 := 0#32
  let c0_i32_0 : BitVec 32 := 0#32
  ![c1_i32.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c191_i32 : BitVec 32 := 191#32
  let v2 : BitVec 32 := Scalar.minsi v1 c191_i32
  let c0_i32 : BitVec 32 := 0#32
  let c0_i32_0 : BitVec 32 := 0#32
  ![c0_i32.toNat, v2.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S16384x11008 : Shape := ⟨2, ![16384, 11008]⟩
abbrev S1x11008x4096 : Shape := ⟨3, ![1, 11008, 4096]⟩
abbrev S8x4096 : Shape := ⟨2, ![8, 4096]⟩
abbrev S2x4096x24576 : Shape := ⟨3, ![2, 4096, 24576]⟩
abbrev S2x24576 : Shape := ⟨2, ![2, 24576]⟩
abbrev S11008x4096 : Shape := ⟨2, ![11008, 4096]⟩
abbrev S16384x4096 : Shape := ⟨2, ![16384, 4096]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩

abbrev nBuf : Space → Nat
  | .hbm => 27
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .bf16⟩
  | .hbm, ⟨2, _⟩ => ⟨S8x4096, .f32⟩
  | .hbm, ⟨3, _⟩ => ⟨S2x4096x24576, .f32⟩
  | .hbm, ⟨4, _⟩ => ⟨S2x24576, .f32⟩
  | .hbm, ⟨5, _⟩ => ⟨S16384x11008, .f32⟩
  | .hbm, ⟨6, _⟩ => ⟨S11008x4096, .bf16⟩
  | .hbm, ⟨7, _⟩ => ⟨S11008x4096, .f32⟩
  | .hbm, ⟨8, _⟩ => ⟨S16384x4096, .f32⟩
  | .hbm, ⟨9, _⟩ => ⟨S16384x4096, .bf16⟩
  | .hbm, ⟨10, _⟩ => ⟨S8x4096, .f32⟩
  | .hbm, ⟨11, _⟩ => ⟨S8x4096, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S_, .f32⟩
  | .hbm, ⟨16, _⟩ => ⟨S8x4096, .f32⟩
  | .hbm, ⟨17, _⟩ => ⟨S8x4096, .f32⟩
  | .hbm, ⟨18, _⟩ => ⟨S8x4096, .f32⟩
  | .hbm, ⟨19, _⟩ => ⟨S1x4096x24576, .f32⟩
  | .hbm, ⟨20, _⟩ => ⟨S4096x24576, .f32⟩
  | .hbm, ⟨21, _⟩ => ⟨S8x24576, .f32⟩
  | .hbm, ⟨22, _⟩ => ⟨S1x24576, .f32⟩
  | .hbm, ⟨23, _⟩ => ⟨S24576, .f32⟩
  | .hbm, ⟨24, _⟩ => ⟨S1x24576, .f32⟩
  | .hbm, ⟨25, _⟩ => ⟨S8x24576, .f32⟩
  | .hbm, ⟨26, _⟩ => ⟨S8x24576, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Kernel14.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩

abbrev nBuf : Space → Nat
  | .hbm => 20
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel15.lean ====
abbrev S2x8192x4096 : Shape := ⟨3, ![2, 8192, 4096]⟩
abbrev S2x4096x22016 : Shape := ⟨3, ![2, 4096, 22016]⟩
abbrev S2x3x22016 : Shape := ⟨3, ![2, 3, 22016]⟩
abbrev S2x11008x4096 : Shape := ⟨3, ![2, 11008, 4096]⟩
abbrev S16384x4096 : Shape := ⟨2, ![16384, 4096]⟩
abbrev S16384x11008 : Shape := ⟨2, ![16384, 11008]⟩
abbrev S1x11008x4096 : Shape := ⟨3, ![1, 11008, 4096]⟩
abbrev S2048x4096 : Shape := ⟨2, ![2048, 4096]⟩
abbrev S1x4096x256 : Shape := ⟨3, ![1, 4096, 256]⟩
abbrev S1x3x256 : Shape := ⟨3, ![1, 3, 256]⟩
abbrev S1x32x4096 : Shape := ⟨3, ![1, 32, 4096]⟩
abbrev S2048x256 : Shape := ⟨2, ![2048, 256]⟩
abbrev S32x4096 : Shape := ⟨2, ![32, 4096]⟩
abbrev S4096x256 : Shape := ⟨2, ![4096, 256]⟩
abbrev S3x256 : Shape := ⟨2, ![3, 256]⟩
abbrev S128x4096 : Shape := ⟨2, ![128, 4096]⟩
abbrev S128x256 : Shape := ⟨2, ![128, 256]⟩
abbrev S1x256 : Shape := ⟨2, ![1, 256]⟩

abbrev nBuf : Space → Nat
  | .hbm => 7
  | .vmem => 16
  | .smem => 0
  | _ => 0

abbrev bufTy : (tb : Table) → Fin (tcTables nBuf tb) → BufTy
  | .hbm, ⟨0, _⟩ => ⟨S2x8192x4096, .bf16⟩
  | .hbm, ⟨1, _⟩ => ⟨S2x4096x22016, .f32⟩
  | .hbm, ⟨2, _⟩ => ⟨S2x3x22016, .f32⟩
  | .hbm, ⟨3, _⟩ => ⟨S2x11008x4096, .f32⟩
  | .hbm, ⟨4, _⟩ => ⟨S16384x4096, .bf16⟩
  | .hbm, ⟨5, _⟩ => ⟨S16384x11008, .bf16⟩
  | .hbm, ⟨6, _⟩ => ⟨S1x11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x32x4096, .f32⟩
  | .local _ .vmem, ⟨11, _⟩ => ⟨S1x32x4096, .f32⟩
  | .local _ .vmem, ⟨12, _⟩ => ⟨S2048x256, .bf16⟩
  | .local _ .vmem, ⟨13, _⟩ => ⟨S2048x256, .bf16⟩
  | .local _ .vmem, ⟨14, _⟩ => ⟨S1x32x4096, .bf16⟩
  | .local _ .vmem, ⟨15, _⟩ => ⟨S1x32x4096, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S2x8192x4096 : Shape := ⟨3, ![2, 8192, 4096]⟩
abbrev S2x4096x22016 : Shape := ⟨3, ![2, 4096, 22016]⟩
abbrev S2x3x22016 : Shape := ⟨3, ![2, 3, 22016]⟩
abbrev S2x11008x4096 : Shape := ⟨3, ![2, 11008, 4096]⟩
abbrev S1x4096x22016 : Shape := ⟨3, ![1, 4096, 22016]⟩
abbrev S4096x22016 : Shape := ⟨2, ![4096, 22016]⟩
abbrev S2x8192x22016 : Shape := ⟨3, ![2, 8192, 22016]⟩
abbrev S1x3x22016 : Shape := ⟨3, ![1, 3, 22016]⟩
abbrev S3x22016 : Shape := ⟨2, ![3, 22016]⟩
abbrev S2x128x64x22016 : Shape := ⟨4, ![2, 128, 64, 22016]⟩
abbrev S_ : Shape := ⟨0, ![]⟩
abbrev S2x128x1x22016 : Shape := ⟨4, ![2, 128, 1, 22016]⟩
abbrev S2x128x63x22016 : Shape := ⟨4, ![2, 128, 63, 22016]⟩
abbrev S1x22016 : Shape := ⟨2, ![1, 22016]⟩
abbrev S22016 : Shape := ⟨1, ![22016]⟩
abbrev S1x1x1x22016 : Shape := ⟨4, ![1, 1, 1, 22016]⟩
abbrev S2x8192x11008 : Shape := ⟨3, ![2, 8192, 11008]⟩
abbrev S16384x11008 : Shape := ⟨2, ![16384, 11008]⟩
abbrev S1x11008x4096 : Shape := ⟨3, ![1, 11008, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x4096x22016, .f32⟩
  | .hbm, ⟨2, _⟩ => ⟨S2x3x22016, .f32⟩
  | .hbm, ⟨3, _⟩ => ⟨S2x11008x4096, .f32⟩
  | .hbm, ⟨4, _⟩ => ⟨S2x8192x4096, .f32⟩
  | .hbm, ⟨5, _⟩ => ⟨S1x4096x22016, .f32⟩
  | .hbm, ⟨6, _⟩ => ⟨S4096x22016, .f32⟩
  | .hbm, ⟨7, _⟩ => ⟨S2x8192x22016, .f32⟩
  | .hbm, ⟨8, _⟩ => ⟨S1x3x22016, .f32⟩
  | .hbm, ⟨9, _⟩ => ⟨S3x22016, .f32⟩
  | .hbm, ⟨10, _⟩ => ⟨S2x128x64x22016, .f32⟩
  | .hbm, ⟨11, _⟩ => ⟨S_, .f32⟩
  | .hbm, ⟨12, _⟩ => ⟨S2x128x1x22016, .f32⟩
  | .hbm, ⟨13, _⟩ => ⟨S2x128x63x22016, .f32⟩
  | .hbm, ⟨14, _⟩ => ⟨S2x128x64x22016, .f32⟩
  | .hbm, ⟨15, _⟩ => ⟨S2x128x63x22016, .f32⟩
  | .hbm, ⟨16, _⟩ => ⟨S2x128x64x22016, .f32⟩
  | .hbm, ⟨17, _⟩ => ⟨S1x22016, .f32⟩
  | .hbm, ⟨18, _⟩ => ⟨S22016, .f32⟩
  | .hbm, ⟨19, _⟩ => ⟨S1x1x1x22016, .f32⟩
  | .hbm, ⟨20, _⟩ => ⟨S2x128x64x22016, .f32⟩
  | .hbm, ⟨21, _⟩ => ⟨S2x128x64x22016, .f32⟩
  | .hbm, ⟨22, _⟩ => ⟨S1x22016, .f32⟩
  | .hbm, ⟨23, _⟩ => ⟨S22016, .f32⟩
  | .hbm, ⟨24, _⟩ => ⟨S1x1x1x22016, .f32⟩
  | .hbm, ⟨25, _⟩ => ⟨S2x128x64x22016, .f32⟩
  | .hbm, ⟨26, _⟩ => ⟨S2x128x64x22016, .f32⟩
  | .hbm, ⟨27, _⟩ => ⟨S2x128x64x22016, .f32⟩
  | .hbm, ⟨28, _⟩ => ⟨S1x22016, .f32⟩
  | .hbm, ⟨29, _⟩ => ⟨S22016, .f32⟩
  | .hbm, ⟨30, _⟩ => ⟨S1x1x1x22016, .f32⟩
  | .hbm, ⟨31, _⟩ => ⟨S2x128x64x22016, .f32⟩
  | .hbm, ⟨32, _⟩ => ⟨S2x128x64x22016, .f32⟩
  | .hbm, ⟨33, _⟩ => ⟨S2x128x64x22016, .f32⟩
  | .hbm, ⟨34, _⟩ => ⟨S2x8192x22016, .f32⟩
  | .hbm, ⟨35, _⟩ => ⟨S2x8192x11008, .f32⟩
  | .hbm, ⟨36, _⟩ => ⟨S2x8192x11008, .f32⟩
  | .hbm, ⟨37, _⟩ => ⟨S2x8192x11008, .f32⟩
  | .hbm, ⟨38, _⟩ => ⟨S2x8192x11008, .f32⟩
  | .hbm, ⟨39, _⟩ => ⟨S_, .f32⟩
  | .hbm, ⟨40, _⟩ => ⟨S2x8192x11008, .f32⟩
  | .hbm, ⟨41, _⟩ => ⟨S2x8192x11008, .f32⟩
  | .hbm, ⟨42, _⟩ => ⟨S_, .f32⟩
  | .hbm, ⟨43, _⟩ => ⟨S2x8192x11008, .f32⟩
  | .hbm, ⟨44, _⟩ => ⟨S2x8192x11008, .f32⟩
  | .hbm, ⟨45, _⟩ => ⟨S2x8192x11008, .f32⟩
  | .hbm, ⟨46, _⟩ => ⟨S2x8192x11008, .f32⟩
  | .hbm, ⟨47, _⟩ => ⟨S2x8192x11008, .bf16⟩
  | .hbm, ⟨48, _⟩ => ⟨S16384x11008, .bf16⟩
  | .hbm, ⟨49, _⟩ => ⟨S1x11008x4096, .f32⟩
  | .hbm, ⟨50, _⟩ => ⟨S1x11008x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Head.lean ====
/-
  What the kernel's body computes for one head in one direction, as vector operations on the values it loads: the same
  text for all sixteen, which differ only in the windows they read.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

/-- The logarithm of the sigmoid, element by element. -/
def lsig {s : Shape} (v : FVec F s .f32) : FVec F s .f32 :=
  subf (minimumf v (broadcast s (Scalar.ofBits .f32 0x00000000#32)))
    (log (addf (broadcast s (Scalar.ofBits .f32 0x3F800000#32)) (exp (subf (broadcast s (Scalar.ofBits .f32 0x00000000#32)) (absf v)))))

/-- The column of ones beside 127 columns of zeros. -/
def ones : FVec F S256x128 .bf16 :=
  truncf .bf16 (sitofp .f32 (extui 32 (cmpi .eq (iota .tc S256x128 32 [1] iota_S256x128_d1_w32) (broadcast S256x128 0#32)) natLt_1_32)) bitsLt_bf16_f32

/-- The rows at or after a column. -/
def lower : IVec S256x256 1 :=
  cmpi .sle (iota .tc S256x256 32 [1] iota_S256x256_d1_w32) (iota .tc S256x256 32 [0] iota_S256x256_d0_w32)

/-- The rows at or before a column. -/
def upper : IVec S256x256 1 :=
  cmpi .sge (iota .tc S256x256 32 [1] iota_S256x256_d1_w32) (iota .tc S256x256 32 [0] iota_S256x256_d0_w32)

/-- What one head in one direction reads: the two masks, the queries, the scaled keys, the values with the ones columns, the
    gates as columns and as rows, and the block of each scratch that the head owns. -/
structure In (F : FTy → Type) where
  mask : IVec S256x256 1
  maskT : IVec S256x256 1
  q : FVec F S256x256 .bf16
  k : FVec F S256x256 .bf16
  va : FVec F S256x640 .bf16
  igc : FVec F S256x1 .f32
  lfc : FVec F S256x1 .f32
  igr : FVec F S1x256 .f32
  lfr : FVec F S1x256 .f32
  m : Vec F S1x8x128 .f32
  s : Vec F S1x256x640 .f32

namespace In

variable (I : In F)

/-- The running sum of the log forget gates, as a column. -/
def bcum : FVec F S256x1 .f32 :=
  shapeCast S256x1 (multiReduction .add [1] S256 (select I.mask (broadcastTo S256x256 (shapeCast S1x256 I.lfr shapeCasts_S1x256_S1x256) broadcasts_S1x256_S256x256)
    (broadcast S256x256 (Scalar.ofBits .f32 0x00000000#32))) 0x00000000#32 reduces_S256x256_S256 (.inl rfl) rfl) shapeCasts_S256_S256x1

/-- The running sum of the log forget gates, as a row. -/
def brow : FVec F S1x256 .f32 :=
  shapeCast S1x256 (multiReduction .add [0] S256 (select I.maskT (broadcastTo S256x256 (shapeCast S256x1 I.lfc shapeCasts_S256x1_S256x1) broadcasts_S256x1_S256x256)
    (broadcast S256x256 (Scalar.ofBits .f32 0x00000000#32))) 0x00000000#32 reduces_S256x256_S256_2 (.inl rfl) rfl) shapeCasts_S256_S1x256

/-- The whole sum of the log forget gates. -/
def g : FVec F S1x1 .f32 := shapeCast S1x1 (multiReduction .add [1] S1 I.lfr 0x00000000#32 reduces_S1x256_S1 (.inl rfl) rfl) shapeCasts_S1_S1x1

/-- The stabiliser carried in. -/
def mold : FVec F S1x1 .f32 := extractStridedSlice S1x1 ![0, 0] (shapeCast S8x128 I.m shapeCasts_S1x8x128_S8x128) slices_S8x128_o0_0_S1x1

/-- The decay matrix, minus infinity off the mask. -/
def dmat : FVec F S256x256 .f32 :=
  select I.mask (addf (subf (broadcastTo S256x256 I.bcum broadcasts_S256x1_S256x256) (broadcastTo S256x256 I.brow broadcasts_S1x256_S256x256))
    (broadcastTo S256x256 I.igr broadcasts_S1x256_S256x256)) (broadcast S256x256 (Scalar.ofBits .f32 0xFF800000#32))

/-- What the carried stabiliser has become at each row. -/
def inter : FVec F S256x1 .f32 := addf I.bcum (broadcastTo S256x1 I.mold broadcasts_S1x1_S256x1)

/-- The stabiliser at each row. -/
def mt : FVec F S256x1 .f32 :=
  maximumf I.inter (shapeCast S256x1 (multiReduction .maximumf [1] S256 I.dmat 0xFF800000#32 reduces_S256x256_S256 (.inl rfl) rfl) shapeCasts_S256_S256x1)

/-- The weighted scores of the chunk's own rows. -/
def p : FVec F S256x256 .bf16 :=
  truncf .bf16 (mulf (matmul dot_S256x256_S256x256_S256x256_1_1_0_0_n_n none I.q I.k (constant S256x256 .f32 0x00000000#32))
    (exp (subf I.dmat (broadcastTo S256x256 I.mt broadcasts_S256x1_S256x256)))) bitsLt_bf16_f32

/-- The queries, decayed as the old state is. -/
def qw : FVec F S256x256 .bf16 :=
  truncf .bf16 (mulf (extf .f32 I.q bitsLt_bf16_f32) (broadcastTo S256x256 (exp (subf I.inter I.mt)) broadcasts_S256x1_S256x256)) bitsLt_bf16_f32

/-- The state carried in. -/
def sold : FVec F S256x640 .f32 := shapeCast S256x640 I.s shapeCasts_S1x256x640_S256x640

/-- The numerators, and in column 512 the denominators. -/
def o : FVec F S256x640 .f32 :=
  matmul dot_S256x512_S512x640_S256x640_1_0_0_1_n_n none
    (concatenate S256x512 1 [⟨S256x256, I.p⟩, ⟨S256x256, I.qw⟩] concatenates_S256x256_S256x256_S256x512_d1)
    (concatenate S512x640 0 [⟨S256x640, I.va⟩, ⟨S256x640, truncf .bf16 I.sold bitsLt_bf16_f32⟩] concatenates_S256x640_S256x640_S512x640_d0)
    (constant S256x640 .f32 0x00000000#32)

/-- The denominators, bounded away from zero. -/
def den : FVec F S256x1 .f32 :=
  maximumf (absf (extractStridedSlice S256x1 ![0, 512] I.o slices_S256x640_o0_512_S256x1))
    (exp (subf (broadcast S256x1 (Scalar.ofBits .f32 0x00000000#32)) I.mt))

/-- The block of the head's output. -/
def out : FVec F S1x256x512 .bf16 :=
  shapeCast S1x256x512 (truncf .bf16 (mulf (extractStridedSlice S256x512 ![0, 0] I.o slices_S256x640_o0_0_S256x512)
    (broadcastTo S256x512 (divf (broadcast S256x1 (Scalar.ofBits .f32 0x3F800000#32)) I.den) broadcasts_S256x1_S256x512)) bitsLt_bf16_f32) shapeCasts_S256x512_S1x256x512

/-- The stabiliser after the chunk. -/
def mnew : FVec F S1x1 .f32 :=
  maximumf (addf I.g I.mold) (shapeCast S1x1 (multiReduction .maximumf [1] S1
    (addf (subf (broadcastTo S1x256 I.g broadcasts_S1x1_S1x256) I.brow) I.igr) 0xFF800000#32 reduces_S1x256_S1 (.inl rfl) rfl) shapeCasts_S1_S1x1)

/-- The keys, weighted as they enter the state. -/
def kw : FVec F S256x256 .bf16 :=
  truncf .bf16 (mulf (extf .f32 I.k bitsLt_bf16_f32) (broadcastTo S256x256 (exp (subf (addf (subf (broadcastTo S256x1 I.g broadcasts_S1x1_S256x1) I.bcum) I.igc)
    (broadcastTo S256x1 I.mnew broadcasts_S1x1_S256x1))) broadcasts_S256x1_S256x256)) bitsLt_bf16_f32

/-- The state after the chunk. -/
def snew : FVec F S1x256x640 .f32 :=
  shapeCast S1x256x640 (addf (mulf (broadcastTo S256x640 (exp (subf (addf I.g I.mold) I.mnew)) broadcasts_S1x1_S256x640) I.sold)
    (matmul dot_S256x256_S256x640_S256x640_0_0_1_1_n_n none I.kw I.va (constant S256x640 .f32 0x00000000#32))) shapeCasts_S256x640_S1x256x640

/-- The stabiliser after the chunk, filling the head's block of its scratch. -/
def mblk : FVec F S1x8x128 .f32 :=
  shapeCast S1x8x128 (broadcastTo S8x128 (shapeCast S1x1 I.mnew shapeCasts_S1x1_S1x1) broadcasts_S1x1_S8x128) shapeCasts_S8x128_S1x8x128

end In

/-! ## The windows of a head -/

theorem inbQ (h : Fin 8) : ∀ a, (![0, 0, 256 * h.val] : Fin 3 → ℕ) a + (![1, 256, 256] : Fin 3 → ℕ) a ≤ S1x256x2048.size a := by
  revert h; decide

theorem inbV (h : Fin 8) : ∀ a, (![0, 0, 512 * h.val] : Fin 3 → ℕ) a + (![1, 256, 512] : Fin 3 → ℕ) a ≤ S1x256x4096.size a := by
  revert h; decide

theorem inbS (s : Fin 16) : ∀ a, (![s.val, 0, 0] : Fin 3 → ℕ) a + (![1, 256, 640] : Fin 3 → ℕ) a ≤ S16x256x640.size a := by
  revert s; decide

theorem inbM (s : Fin 16) : ∀ a, (![s.val, 0, 0] : Fin 3 → ℕ) a + (![1, 8, 128] : Fin 3 → ℕ) a ≤ S16x8x128.size a := by
  revert s; decide

theorem slC (n : Fin 32) : S256x32.Slices ![0, n.val] S256x1 := by revert n; decide

theorem slR (n : Fin 32) : S32x256.Slices ![n.val, 0] S1x256 := by revert n; decide

/-- A head's columns of a block of queries or keys. -/
def rQ (h : Fin 8) : Rect S1x256x2048 := Rect.unit ![0, 0, 256 * h.val] ![1, 256, 256] (inbQ h)
/-- A head's columns of a block of values or outputs. -/
def rV (h : Fin 8) : Rect S1x256x4096 := Rect.unit ![0, 0, 512 * h.val] ![1, 256, 512] (inbV h)
/-- A head's block of the carried states. -/
def rS (s : Fin 16) : Rect S16x256x640 := Rect.unit ![s.val, 0, 0] ![1, 256, 640] (inbS s)
/-- A head's block of the carried stabilisers. -/
def rM (s : Fin 16) : Rect S16x8x128 := Rect.unit ![s.val, 0, 0] ![1, 8, 128] (inbM s)

/-- What a direction reads at a point: queries, keys and values of the context and of the latents, the gates of both as
    columns and as rows. -/
structure Blocks (F : FTy → Type) where
  qc : Vec F S1x256x2048 .bf16
  kc : Vec F S1x256x2048 .bf16
  vc : Vec F S1x256x4096 .bf16
  ql : Vec F S1x256x2048 .bf16
  kl : Vec F S1x256x2048 .bf16
  vl : Vec F S1x256x4096 .bf16
  gcc : Vec F S1x256x32 .f32
  grc : Vec F S1x32x256 .f32
  gcl : Vec F S1x256x32 .f32
  grl : Vec F S1x32x256 .f32

/-- The bit that says a point is the context's. -/
def isCtx (i : grid0.Coords) : BitVec 1 := Scalar.cmpi .slt (BitVec.ofNat 32 (i 1).val) 1#32

variable (b : BitVec 1) (X : Blocks F)

/-- The gates as columns. -/
def Blocks.gcol : FVec F S256x32 .f32 :=
  Scalar.select b (shapeCast S256x32 X.gcc shapeCasts_S1x256x32_S256x32) (shapeCast S256x32 X.gcl shapeCasts_S1x256x32_S256x32)

/-- The gates as rows. -/
def Blocks.grow : FVec F S32x256 .f32 :=
  Scalar.select b (shapeCast S32x256 X.grc shapeCasts_S1x32x256_S32x256) (shapeCast S32x256 X.grl shapeCasts_S1x32x256_S32x256)

/-- A head's queries. -/
def Blocks.q (h : Fin 8) : FVec F S256x256 .bf16 :=
  Scalar.select b (shapeCast S256x256 (View.ld X.qc (rQ h)) shapeCasts_S1x256x256_S256x256)
    (shapeCast S256x256 (View.ld X.ql (rQ h)) shapeCasts_S1x256x256_S256x256)

/-- A head's keys, scaled. -/
def Blocks.k (h : Fin 8) : FVec F S256x256 .bf16 :=
  mulf (Scalar.select b (shapeCast S256x256 (View.ld X.kc (rQ h)) shapeCasts_S1x256x256_S256x256)
    (shapeCast S256x256 (View.ld X.kl (rQ h)) shapeCasts_S1x256x256_S256x256)) (broadcast S256x256 (Scalar.ofBits .bf16 0x3D80#16))

/-- A head's values, beside the ones columns. -/
def Blocks.va (h : Fin 8) : FVec F S256x640 .bf16 :=
  concatenate S256x640 1 [⟨S256x512, Scalar.select b (shapeCast S256x512 (View.ld X.vc (rV h)) shapeCasts_S1x256x512_S256x512)
    (shapeCast S256x512 (View.ld X.vl (rV h)) shapeCasts_S1x256x512_S256x512)⟩, ⟨S256x128, ones⟩] concatenates_S256x512_S256x128_S256x640_d1

/-- What head `h` reads, its gates' columns `ci` and `cf`, its scratch blocks `si`. -/
def inOf (mask maskT : IVec S256x256 1) (h : Fin 8) (ci cf : Fin 32) (si : Fin 16) (xs : Vec F S16x256x640 .f32) (xm : Vec F S16x8x128 .f32) : In F where
  mask := mask
  maskT := maskT
  q := X.q b h
  k := X.k b h
  va := X.va b h
  igc := extractStridedSlice S256x1 ![0, ci.val] (X.gcol b) (slC ci)
  lfc := extractStridedSlice S256x1 ![0, cf.val] (lsig (X.gcol b)) (slC cf)
  igr := extractStridedSlice S1x256 ![ci.val, 0] (X.grow b) (slR ci)
  lfr := extractStridedSlice S1x256 ![cf.val, 0] (lsig (X.grow b)) (slR cf)
  m := View.ld xm (rM si)
  s := View.ld xs (rS si)

/-- A head of the forward direction. -/
def inF (h : Fin 8) (xs : Vec F S16x256x640 .f32) (xm : Vec F S16x8x128 .f32) : In F :=
  inOf b X lower upper h ⟨h.val, by omega⟩ ⟨8 + h.val, by omega⟩ ⟨h.val, by omega⟩ xs xm

/-- A head of the backward direction. -/
def inB (h : Fin 8) (xs : Vec F S16x256x640 .f32) (xm : Vec F S16x8x128 .f32) : In F :=
  inOf b X upper lower h ⟨16 + h.val, by omega⟩ ⟨24 + h.val, by omega⟩ ⟨8 + h.val, by omega⟩ xs xm

/-- A head's columns, element by element: column `x` of head `h` is column `512 h + x`. -/
def gather8 (f : Fin 8 → Vec F S1x256x512 .bf16) : Vec F S1x256x4096 .bf16 := fun y =>
  f ⟨(y 2).val / 512, by have : (y 2).val < 4096 := (y 2).isLt; omega⟩
    (fun a => match a with
      | ⟨0, _⟩ => y 0
      | ⟨1, _⟩ => y 1
      | ⟨2, _⟩ => ⟨(y 2).val % 512, Nat.mod_lt _ (by decide)⟩)

theorem gather8_emb (f : Fin 8 → Vec F S1x256x512 .bf16) (h : Fin 8) (x : (rV h).shape.Idx) : gather8 f ((rV h).emb x) = f h x := by
  have h2 : (((rV h).emb x) 2).val = 512 * h.val + (x 2).val := by
    rw [Rect.emb_apply]; show 512 * h.val + 1 * (x 2).val = _; omega
  have hx : (x 2).val < 512 := (x 2).isLt
  unfold gather8
  have e1 : (⟨(((rV h).emb x) 2).val / 512, by have : (((rV h).emb x) 2).val < 4096 := (((rV h).emb x) 2).isLt; omega⟩ : Fin 8) = h := Fin.ext (by
    show (((rV h).emb x) 2).val / 512 = h.val
    omega)
  rw [e1]
  congr 1
  funext a
  match a with
  | ⟨0, _⟩ => exact Fin.ext (by show (((rV h).emb x) 0).val = _; rw [Rect.emb_apply]; show 0 + 1 * (x 0).val = (x 0).val; omega)
  | ⟨1, _⟩ => exact Fin.ext (by show (((rV h).emb x) 1).val = _; rw [Rect.emb_apply]; show 0 + 1 * (x 1).val = (x 1).val; omega)
  | ⟨2, _⟩ => exact Fin.ext (by show (((rV h).emb x) 2).val % 512 = (x 2).val; omega)

/-- Sixteen blocks stacked along the leading axis: the states. -/
def stackS (f : Fin 16 → Vec F S1x256x640 .f32) : Vec F S16x256x640 .f32 := fun y =>
  f (y 0) (fun a => match a with
    | ⟨0, _⟩ => (0 : Fin 1)
    | ⟨1, _⟩ => y 1
    | ⟨2, _⟩ => y 2)

theorem stackS_emb (f : Fin 16 → Vec F S1x256x640 .f32) (s : Fin 16) (x : (rS s).shape.Idx) : stackS f ((rS s).emb x) = f s x := by
  have hx : (x 0).val = 0 := by have : (x 0).val < 1 := (x 0).isLt; omega
  have e1 : ((rS s).emb x) 0 = s := Fin.ext (by rw [Rect.emb_apply]; show s.val + 1 * (x 0).val = s.val; omega)
  unfold stackS
  rw [e1]
  congr 1
  funext a
  match a with
  | ⟨0, _⟩ => exact Fin.ext hx.symm
  | ⟨1, _⟩ => exact Fin.ext (by show (((rS s).emb x) 1).val = _; rw [Rect.emb_apply]; show 0 + 1 * (x 1).val = (x 1).val; omega)
  | ⟨2, _⟩ => exact Fin.ext (by show (((rS s).emb x) 2).val = _; rw [Rect.emb_apply]; show 0 + 1 * (x 2).val = (x 2).val; omega)

/-- Sixteen blocks stacked along the leading axis: the stabilisers. -/
def stackM (f : Fin 16 → Vec F S1x8x128 .f32) : Vec F S16x8x128 .f32 := fun y =>
  f (y 0) (fun a => match a with
    | ⟨0, _⟩ => (0 : Fin 1)
    | ⟨1, _⟩ => y 1
    | ⟨2, _⟩ => y 2)

theorem stackM_emb (f : Fin 16 → Vec F S1x8x128 .f32) (s : Fin 16) (x : (rM s).shape.Idx) : stackM f ((rM s).emb x) = f s x := by
  have hx : (x 0).val = 0 := by have : (x 0).val < 1 := (x 0).isLt; omega
  have e1 : ((rM s).emb x) 0 = s := Fin.ext (by rw [Rect.emb_apply]; show s.val + 1 * (x 0).val = s.val; omega)
  unfold stackM
  rw [e1]
  congr 1
  funext a
  match a with
  | ⟨0, _⟩ => exact Fin.ext hx.symm
  | ⟨1, _⟩ => exact Fin.ext (by show (((rM s).emb x) 1).val = _; rw [Rect.emb_apply]; show 0 + 1 * (x 1).val = (x 1).val; omega)
  | ⟨2, _⟩ => exact Fin.ext (by show (((rM s).emb x) 2).val = _; rw [Rect.emb_apply]; show 0 + 1 * (x 2).val = (x 2).val; omega)

/-- All sixteen heads: the forward direction's eight, then the backward direction's. -/
def inAll (Xf Xb : Blocks F) (s : Fin 16) (xs : Vec F S16x256x640 .f32) (xm : Vec F S16x8x128 .f32) : In F :=
  if hs : s.val < 8 then inF b Xf ⟨s.val, hs⟩ xs xm else inB b Xb ⟨s.val - 8, by omega⟩ xs xm

theorem inAll_F (Xf Xb : Blocks F) (h : Fin 8) (xs : Vec F S16x256x640 .f32) (xm : Vec F S16x8x128 .f32) :
    inAll b Xf Xb ⟨h.val, by omega⟩ xs xm = inF b Xf h xs xm := dif_pos h.isLt

theorem inAll_B (Xf Xb : Blocks F) (h : Fin 8) (xs : Vec F S16x256x640 .f32) (xm : Vec F S16x8x128 .f32) :
    inAll b Xf Xb ⟨8 + h.val, by omega⟩ xs xm = inB b Xb h xs xm :=
  (dif_neg (by show ¬ 8 + h.val < 8; omega)).trans (by congr 1; exact Fin.ext (by show 8 + h.val - 8 = h.val; omega))

/-! ## What a point reads and is handed -/

variable (m : (ℓ : Loc nD τ sig) → Buf (Elt F) ℓ)

/-- What the forward direction reads at point `t`. -/
def blkF (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t⟩

/-- What the backward direction reads at point `t`. -/
def blkB (c : Dev nD) (t : Fin cfg0.N) : Blocks F :=
  ⟨iblk m c 10 t, iblk m c 11 t, iblk m c 12 t, iblk m c 13 t, iblk m c 14 t, iblk m c 15 t, iblk m c 16 t, iblk m c 17 t, iblk m c 18 t, iblk m c 19 t⟩

/-- The states the point before left. -/
def xsB (c : Dev nD) (t : Fin cfg0.N) : Vec F S16x256x640 .f32 := (outsAt0 m c (t.val - 1) (Nat.lt_of_le_of_lt (Nat.sub_le _ _) t.isLt)).2.2.1

/-- The stabilisers the point before left. -/
def xmB (c : Dev nD) (t : Fin cfg0.N) : Vec F S16x8x128 .f32 := (outsAt0 m c (t.val - 1) (Nat.lt_of_le_of_lt (Nat.sub_le _ _) t.isLt)).2.2.2

/-- The zeros a batch element's first point starts from: the states. -/
def xsA : Vec F S16x256x640 .f32 := k0_pay3

/-- The zeros a batch element's first point starts from: the stabilisers. -/
def xmA : Vec F S16x8x128 .f32 := k0_pay4

end Cert.KernelIdeal.Body

end
-- ==== Proof.Recurrence.lean ====
/-
  The recurrence of one head in one direction, over the real numbers, and what one chunk of it computes. Nothing here
  mentions a program: a lane is five sequences indexed by the token, and the theorems say that a chunk of `T` tokens,
  taken in any order `e` of its rows, carries the closed forms of the recurrence from its first token to its end.
-/
module

public import Idealize.ShloMosaic.PureOps.Ideal
public import Idealize.ShloMosaic.PureOps.Ideal.Laws
public import Mathlib.Algebra.BigOperators.Fin
public import Mathlib.Analysis.SpecialFunctions.Exp

@[expose] public section

noncomputable section

namespace Cert.Scan

open Idealize.ShloMosaic Finset

/-- One head in one direction: the queries, the scaled keys, the values with the column of ones appended (a token and a
    column), the log input gates and the log forget gates (a token). -/
structure Lane where
  q : ℕ → ℕ → ℝ
  k : ℕ → ℕ → ℝ
  v : ℕ → ℕ → ℝ
  i : ℕ → ℝ
  f : ℕ → ℝ

namespace Lane

variable (L : Lane)

/-- The sum of the first `n` log forget gates. -/
def B (n : ℕ) : ℝ := ∑ s ∈ range n, L.f s

/-- The stabiliser after `n` tokens: `m ← max (f + m) i`, from zero. -/
def M : ℕ → ℝ
  | 0 => 0
  | n + 1 => max (L.f n + M n) (L.i n)

/-- The weight of token `s` in the state after `n` tokens. -/
def w (n s : ℕ) : ℝ := Real.exp (L.B n - L.B (s + 1) + L.i s - L.M n)

/-- The state after `n` tokens: the weighted sum of the outer products of keys and values. -/
def S (n d j : ℕ) : ℝ := ∑ s ∈ range n, L.w n s * L.k s d * L.v s j

/-- The query of token `t` read against the state after it. -/
def num (t j : ℕ) : ℝ := ∑ s ∈ range (t + 1), L.w (t + 1) s * (∑ d : Fin 256, L.q t d * L.k s d) * L.v s j

/-- The denominator of token `t`: the ones column (column 512), bounded away from zero. -/
def den (t : ℕ) : ℝ := max |L.num t 512| (Real.exp (-L.M (t + 1)))

/-- The head's output at token `t`. -/
def H (t j : ℕ) : ℝ := L.num t j / L.den t

theorem den_pos (t : ℕ) : 0 < L.den t := lt_max_of_lt_right (Real.exp_pos _)

theorem B_succ (n : ℕ) : L.B (n + 1) = L.B n + L.f n := sum_range_succ _ _

theorem B_add (n a : ℕ) : L.B (n + a) = L.B n + ∑ s ∈ range a, L.f (n + s) := by
  unfold B; exact sum_range_add _ _ _

/-- The stabiliser after `a` further tokens is the least bound of what is carried and of each token's own weight. -/
theorem M_le_iff (n a : ℕ) (c : ℝ) :
    L.M (n + a) ≤ c ↔ L.B (n + a) - L.B n + L.M n ≤ c ∧ ∀ s < a, L.B (n + a) - L.B (n + s + 1) + L.i (n + s) ≤ c := by
  induction a generalizing c with
  | zero => simp
  | succ a ih =>
    have hB : L.B (n + (a + 1)) = L.B (n + a) + L.f (n + a) := L.B_succ (n + a)
    have h1 : L.M (n + (a + 1)) ≤ c ↔ L.M (n + a) ≤ c - L.f (n + a) ∧ L.i (n + a) ≤ c := by
      show max (L.f (n + a) + L.M (n + a)) (L.i (n + a)) ≤ c ↔ _
      rw [max_le_iff]
      constructor
      · rintro ⟨h, h'⟩; exact ⟨by linarith, h'⟩
      · rintro ⟨h, h'⟩; exact ⟨by linarith, h'⟩
    rw [h1, ih, hB]
    constructor
    · rintro ⟨⟨h, h'⟩, h''⟩
      refine ⟨by linarith, fun s hs => ?_⟩
      rcases Nat.lt_succ_iff_lt_or_eq.mp hs with hs | rfl
      · have := h' s hs; linarith
      · have : L.B (n + s + 1) = L.B (n + s) + L.f (n + s) := L.B_succ _
        linarith
    · rintro ⟨h, h'⟩
      refine ⟨⟨by linarith, fun s hs => ?_⟩, ?_⟩
      · have := h' s (by omega); linarith
      · have h2 := h' a (by omega)
        have : L.B (n + a + 1) = L.B (n + a) + L.f (n + a) := L.B_succ _
        linarith

/-- What is carried is at most the stabiliser. -/
theorem carry_le (n a : ℕ) : L.B (n + a) - L.B n + L.M n ≤ L.M (n + a) := ((L.M_le_iff n a _).mp le_rfl).1

/-- A weight after `a` further tokens is the old weight, decayed. -/
theorem w_add (n a s : ℕ) : L.w (n + a) s = Real.exp (L.B (n + a) - L.B n + L.M n - L.M (n + a)) * L.w n s := by
  unfold w; rw [← Real.exp_add]; congr 1; ring

/-- The state after a chunk: the old state decayed, plus the chunk's own weighted outer products. -/
theorem S_add (n a d j : ℕ) :
    L.S (n + a) d j = Real.exp (L.B (n + a) - L.B n + L.M n - L.M (n + a)) * L.S n d j
      + ∑ s ∈ range a, L.w (n + a) (n + s) * L.k (n + s) d * L.v (n + s) j := by
  unfold S
  rw [sum_range_add, mul_sum]
  congr 1
  refine sum_congr rfl fun s _ => ?_
  rw [L.w_add n a s]; ring

/-- A token's query read against the state after it: the chunk's own tokens up to it, plus the decayed old state. -/
theorem num_add (n r j : ℕ) :
    L.num (n + r) j = (∑ s ∈ range (r + 1), L.w (n + r + 1) (n + s) * (∑ d : Fin 256, L.q (n + r) d * L.k (n + s) d) * L.v (n + s) j)
      + Real.exp (L.B (n + r + 1) - L.B n + L.M n - L.M (n + r + 1)) * ∑ d : Fin 256, L.q (n + r) d * L.S n d j := by
  unfold num
  rw [show n + r + 1 = n + (r + 1) from by omega, sum_range_add, add_comm]
  congr 1
  unfold S
  simp only [mul_sum]
  rw [sum_comm]
  simp only [L.w_add n (r + 1)]
  refine sum_congr rfl fun s _ => ?_
  rw [sum_mul]
  refine sum_congr rfl fun d _ => ?_
  ring

end Lane

/-! ## The chunk -/

section Chunk

variable {T : ℕ} (e : Equiv.Perm (Fin T))

/-- A sum over the rows up to a row, in the order `e`, is a sum over the tokens up to its token. -/
theorem sum_upto (g : ℕ → ℝ) (r : Fin T) :
    (∑ c : Fin T, if e c ≤ e r then g (e c) else 0) = ∑ s ∈ range ((e r : ℕ) + 1), g s := by
  rw [Equiv.sum_comp e (fun c : Fin T => if c ≤ e r then g c else 0)]
  have h := Fin.sum_univ_eq_sum_range (fun s => if s ≤ (e r : ℕ) then g s else 0) T
  have h2 : (∑ c : Fin T, if c ≤ e r then g c else 0) = ∑ c : Fin T, if (c : ℕ) ≤ (e r : ℕ) then g c else 0 := rfl
  rw [h2, h, ← sum_filter]
  refine sum_congr ?_ fun _ _ => rfl
  ext s
  simp only [mem_filter, mem_range]
  have := (e r).isLt
  omega

/-- A sum over the rows, in the order `e`, is the sum over the chunk's tokens. -/
theorem sum_all (g : ℕ → ℝ) : (∑ c : Fin T, g (e c)) = ∑ s ∈ range T, g s := by
  rw [Equiv.sum_comp e (fun c : Fin T => g c)]
  exact Fin.sum_univ_eq_sum_range g T

/-- A real sum read as an extended real. -/
theorem coe_sum {ι : Type*} (s : Finset ι) (g : ι → ℝ) : ((∑ x ∈ s, g x : ℝ) : EReal) = ∑ x ∈ s, (g x : EReal) := by
  classical
  induction s using Finset.induction_on with
  | empty => simp
  | insert a s ha ih => rw [sum_insert ha, sum_insert ha, EReal.coe_add, ih]

theorem coe_ite (p : Prop) [Decidable p] (x y : ℝ) : ((if p then x else y : ℝ) : EReal) = if p then (x : EReal) else (y : EReal) := by
  split <;> rfl

/-- The fold of the maximum from minus infinity is at most `c` when every element is. -/
theorem fold_max_le {ι : Type*} (s : Finset ι) (g : ι → EReal) (c : EReal) : s.fold max ⊥ g ≤ c ↔ ∀ x ∈ s, g x ≤ c := by
  rw [Finset.fold_max_le]; simp

theorem exp_coe (x : ℝ) : Ideal.exp (x : EReal) = (Real.exp x : EReal) := rfl

/-- The exponential of a masked difference: zero where the mask hides it. -/
theorem exp_masked (p : Prop) [Decidable p] (x y : ℝ) :
    Ideal.exp ((if p then (x : EReal) else ⊥) - (y : EReal)) = ((if p then Real.exp (x - y) else 0 : ℝ) : EReal) := by
  split
  · rw [← EReal.coe_sub]; rfl
  · rfl

/-- The inverse of a positive real. -/
theorem div_coe (x : ℝ) {y : ℝ} (h : 0 < y) : Ideal.div (x : EReal) (y : EReal) = ((x / y : ℝ) : EReal) := by
  unfold Ideal.div
  rw [if_neg (by simpa using h.ne'), div_eq_mul_inv, EReal.coe_mul, EReal.coe_inv]

theorem abs_coe (x : ℝ) : max (x : EReal) (-(x : EReal)) = ((|x| : ℝ) : EReal) := by
  rw [← EReal.coe_neg, ← EReal.coe_strictMono.monotone.map_max]; rfl

theorem max_coe (x y : ℝ) : max (x : EReal) (y : EReal) = ((max x y : ℝ) : EReal) :=
  (EReal.coe_strictMono.monotone.map_max).symm

variable (L : Lane) (n : ℕ)

/-- The running sum of the chunk's log forget gates at a row. -/
def bc (r : Fin T) : ℝ := L.B (n + (e r : ℕ) + 1) - L.B n

/-- The chunk's whole sum of log forget gates. -/
def gsum (T : ℕ) : ℝ := L.B (n + T) - L.B n

theorem cum_eq (r : Fin T) : (∑ c : Fin T, if e c ≤ e r then ((L.f (n + (e c : ℕ)) : ℝ) : EReal) else 0) = (bc e L n r : EReal) := by
  have h : (∑ c : Fin T, if e c ≤ e r then ((L.f (n + (e c : ℕ)) : ℝ) : EReal) else 0)
      = ((∑ c : Fin T, if e c ≤ e r then L.f (n + (e c : ℕ)) else 0 : ℝ) : EReal) := by
    rw [coe_sum]; exact sum_congr rfl fun c _ => (coe_ite _ _ _).symm
  rw [h, sum_upto e (fun s => L.f (n + s)), bc, Nat.add_assoc, L.B_add n]
  congr 1; ring

theorem total_eq : (∑ c : Fin T, ((L.f (n + (e c : ℕ)) : ℝ) : EReal)) = (gsum L n T : EReal) := by
  rw [← coe_sum, sum_all e (fun s => L.f (n + s)), gsum, L.B_add n]
  congr 1; ring

/-- The stabiliser at a row: the larger of what is carried and the row maximum of the masked decay matrix. -/
theorem mt_eq (r : Fin T) :
    max ((bc e L n r : EReal) + (L.M n : EReal))
      ((univ : Finset (Fin T)).fold max ⊥ fun c => if e c ≤ e r then (bc e L n r : EReal) - (bc e L n c : EReal) + ((L.i (n + (e c : ℕ)) : ℝ) : EReal) else ⊥)
      = (L.M (n + (e r : ℕ) + 1) : EReal) := by
  refine eq_of_forall_ge_iff fun c => ?_
  rw [max_le_iff, fold_max_le]
  induction c with
  | bot =>
    simp only [le_bot_iff, EReal.coe_ne_bot, iff_false, ← EReal.coe_add, false_and, not_false_eq_true]
  | top => simp
  | coe c =>
    rw [← EReal.coe_add, EReal.coe_le_coe_iff, EReal.coe_le_coe_iff, Nat.add_assoc, L.M_le_iff]
    refine and_congr (by rw [bc, Nat.add_assoc]) ?_
    constructor
    · intro h s hs
      have hsT : s < T := by have := (e r).isLt; omega
      have h1 := h (e.symm ⟨s, hsT⟩) (mem_univ _)
      rw [Equiv.apply_symm_apply, if_pos (show (⟨s, hsT⟩ : Fin T) ≤ e r from Nat.lt_succ_iff.mp hs)] at h1
      rw [← EReal.coe_sub, ← EReal.coe_add, EReal.coe_le_coe_iff] at h1
      unfold bc at h1
      rw [Equiv.apply_symm_apply] at h1
      simp only [Nat.add_assoc] at h1 ⊢
      linarith
    · intro h x _
      split
      · rename_i hx
        have h1 := h (e x : ℕ) (Nat.lt_succ_iff.mpr hx)
        rw [← EReal.coe_sub, ← EReal.coe_add, EReal.coe_le_coe_iff]
        unfold bc
        simp only [Nat.add_assoc] at h1 ⊢
        linarith
      · exact bot_le

/-- The stabiliser after the chunk. -/
theorem mnew_eq :
    max ((gsum L n T : EReal) + (L.M n : EReal))
      ((univ : Finset (Fin T)).fold max ⊥ fun c => (gsum L n T : EReal) - (bc e L n c : EReal) + ((L.i (n + (e c : ℕ)) : ℝ) : EReal))
      = (L.M (n + T) : EReal) := by
  refine eq_of_forall_ge_iff fun c => ?_
  rw [max_le_iff, fold_max_le]
  induction c with
  | bot => simp only [le_bot_iff, EReal.coe_ne_bot, iff_false, ← EReal.coe_add, false_and, not_false_eq_true]
  | top => simp
  | coe c =>
    rw [← EReal.coe_add, EReal.coe_le_coe_iff, EReal.coe_le_coe_iff, L.M_le_iff]
    refine and_congr (by rw [gsum]) ?_
    constructor
    · intro h s hs
      have h1 := h (e.symm ⟨s, hs⟩) (mem_univ _)
      rw [← EReal.coe_sub, ← EReal.coe_add, EReal.coe_le_coe_iff] at h1
      unfold bc gsum at h1
      rw [Equiv.apply_symm_apply] at h1
      simp only [Nat.add_assoc] at h1 ⊢
      linarith
    · intro h x _
      have h1 := h (e x : ℕ) (e x).isLt
      rw [← EReal.coe_sub, ← EReal.coe_add, EReal.coe_le_coe_iff]
      unfold bc gsum
      simp only [Nat.add_assoc] at h1 ⊢
      linarith

/-- The weight of a row's token at another row of the chunk, zero when it comes later. -/
def wrow (r c : Fin T) : ℝ :=
  if e c ≤ e r then Real.exp (bc e L n r - bc e L n c + L.i (n + (e c : ℕ)) - L.M (n + (e r : ℕ) + 1)) else 0

/-- The weight of a row's token in the state after the chunk. -/
def wend (c : Fin T) : ℝ := Real.exp (gsum L n T - bc e L n c + L.i (n + (e c : ℕ)) - L.M (n + T))

theorem exp_wrow (r c : Fin T) :
    Ideal.exp ((if e c ≤ e r then (bc e L n r : EReal) - (bc e L n c : EReal) + ((L.i (n + (e c : ℕ)) : ℝ) : EReal) else ⊥)
      - (L.M (n + (e r : ℕ) + 1) : EReal)) = (wrow e L n r c : EReal) := by
  rw [← EReal.coe_sub, ← EReal.coe_add]; exact exp_masked _ _ _

theorem exp_wend (c : Fin T) :
    Ideal.exp ((gsum L n T : EReal) - (bc e L n c : EReal) + ((L.i (n + (e c : ℕ)) : ℝ) : EReal) - (L.M (n + T) : EReal))
      = (wend e L n c : EReal) := by
  rw [← EReal.coe_sub, ← EReal.coe_add, ← EReal.coe_sub]; rfl

/-- The decay of the old state seen from a row. -/
def wold (r : Fin T) : ℝ := Real.exp (bc e L n r + L.M n - L.M (n + (e r : ℕ) + 1))

/-- The decay of the old state over the chunk. -/
def woldEnd (T : ℕ) : ℝ := Real.exp (gsum L n T + L.M n - L.M (n + T))

theorem exp_wold (r : Fin T) :
    Ideal.exp ((bc e L n r : EReal) + (L.M n : EReal) - (L.M (n + (e r : ℕ) + 1) : EReal)) = (wold e L n r : EReal) := by
  rw [← EReal.coe_add, ← EReal.coe_sub]; rfl

theorem exp_woldEnd :
    Ideal.exp ((gsum L n T : EReal) + (L.M n : EReal) - (L.M (n + T) : EReal)) = (woldEnd L n T : EReal) := by
  rw [← EReal.coe_add, ← EReal.coe_sub]; rfl

/-- The numerator at a row: the chunk's own tokens, weighted, plus the old state, decayed. -/
theorem num_eq (r : Fin T) (j : ℕ) :
    (∑ c : Fin T, (∑ d : Fin 256, L.q (n + (e r : ℕ)) d * L.k (n + (e c : ℕ)) d) * wrow e L n r c * L.v (n + (e c : ℕ)) j)
      + wold e L n r * (∑ d : Fin 256, L.q (n + (e r : ℕ)) d * L.S n d j) = L.num (n + (e r : ℕ)) j := by
  rw [L.num_add n, ← sum_upto e (fun s => L.w (n + (e r : ℕ) + 1) (n + s) * (∑ d : Fin 256, L.q (n + (e r : ℕ)) d * L.k (n + s) d) * L.v (n + s) j)]
  congr 1
  refine sum_congr rfl fun c _ => ?_
  unfold wrow
  split
  · have : bc e L n r - bc e L n c + L.i (n + (e c : ℕ)) - L.M (n + (e r : ℕ) + 1)
        = L.B (n + (e r : ℕ) + 1) - L.B (n + (e c : ℕ) + 1) + L.i (n + (e c : ℕ)) - L.M (n + (e r : ℕ) + 1) := by unfold bc; ring
    rw [this]; unfold Lane.w; ring
  · ring

/-- The state after the chunk: the old state, decayed, plus the chunk's own tokens, weighted. -/
theorem snew_eq (d j : ℕ) :
    woldEnd L n T * L.S n d j + (∑ c : Fin T, L.k (n + (e c : ℕ)) d * wend e L n c * L.v (n + (e c : ℕ)) j) = L.S (n + T) d j := by
  rw [L.S_add n T]
  congr 1
  rw [← sum_all e (fun s => L.w (n + T) (n + s) * L.k (n + s) d * L.v (n + s) j)]
  refine sum_congr rfl fun c _ => ?_
  have : gsum L n T - bc e L n c + L.i (n + (e c : ℕ)) - L.M (n + T)
      = L.B (n + T) - L.B (n + (e c : ℕ) + 1) + L.i (n + (e c : ℕ)) - L.M (n + T) := by unfold bc gsum; ring
  unfold wend; rw [this]; unfold Lane.w; ring

end Chunk

end Cert.Scan

end
-- ==== Proof.HeadValue.lean ====
/-
  What one head's block operations compute over the extended reals: when its inputs are a chunk of a lane, its running sums, its
  stabilisers and its weights are the chunk's.
-/
module

public import proofs.«01_k».proof.Proof.Head
public import proofs.«01_k».proof.Proof.Recurrence
public import Idealize.ShloMosaic.Lib.Pointwise

@[expose] public section

set_option maxRecDepth 16384
set_option maxHeartbeats 2000000

noncomputable section

namespace Cert.KernelIdeal.Body

open Idealize.ShloMosaic Idealize.ShloMosaic.TcCoe Idealize.SL.Sem
open Cert.KernelIdeal Cert.KernelIdeal.Gen Cert.Scan

/-- A head's inputs are the chunk of the lane `L` that starts at token `n`, its rows in the order `e`. -/
structure Reads (I : In Ideal) (e : Equiv.Perm (Fin 256)) (L : Lane) (n : ℕ) : Prop where
  mask : ∀ r c, I.mask (ix2 r c) = if e c ≤ e r then 1#1 else 0#1
  maskT : ∀ r c, I.maskT (ix2 r c) = if e r ≤ e c then 1#1 else 0#1
  q : ∀ (r d : Fin 256), I.q (ix2 r d) = ((L.q (n + e r) d : ℝ) : EReal)
  k : ∀ (r d : Fin 256), I.k (ix2 r d) = ((L.k (n + e r) d : ℝ) : EReal)
  va : ∀ (r : Fin 256) (j : Fin 640), I.va (ix2 r j) = ((L.v (n + e r) j : ℝ) : EReal)
  igc : ∀ r : Fin 256, I.igc (ix2 r 0) = ((L.i (n + e r) : ℝ) : EReal)
  lfc : ∀ r : Fin 256, I.lfc (ix2 r 0) = ((L.f (n + e r) : ℝ) : EReal)
  igr : ∀ r : Fin 256, I.igr (ix2 0 r) = ((L.i (n + e r) : ℝ) : EReal)
  lfr : ∀ r : Fin 256, I.lfr (ix2 0 r) = ((L.f (n + e r) : ℝ) : EReal)
  m : ∀ (a : Fin 8) (b : Fin 128), I.m (ix3 0 a b) = ((L.M n : ℝ) : EReal)
  s : ∀ (d : Fin 256) (j : Fin 640), I.s (ix3 0 d j) = ((L.S n d j : ℝ) : EReal)

theorem sel_ite {α : Type} (p : Prop) [Decidable p] (x y : α) : Scalar.select (if p then 1#1 else 0#1) x y = if p then x else y := by
  split <;> rfl

theorem ninf : Ideal.ofBits FTy.f32 0xFF800000#32 = ⊥ := by
  simp [Ideal.ofBits, Ideal.ieee]

variable {I : In Ideal} {e : Equiv.Perm (Fin 256)} {L : Lane} {n : ℕ} (h : Reads I e L n)
include h

theorem bcum_eq (r : Fin 256) (z : Fin 1) : I.bcum (ix2 r z) = (bc e L n r : EReal) := by
  unfold In.bcum
  pointwise
  rw [← cum_eq]
  exact Finset.sum_congr rfl fun c _ => by rw [h.mask, sel_ite, h.lfr]

theorem brow_eq (r : Fin 256) (z : Fin 1) : I.brow (ix2 z r) = (bc e L n r : EReal) := by
  unfold In.brow
  pointwise
  rw [← cum_eq]
  exact Finset.sum_congr rfl fun c _ => by rw [h.maskT, sel_ite, h.lfc]

theorem g_eq (y z : Fin 1) : I.g (ix2 y z) = (gsum L n 256 : EReal) := by
  unfold In.g
  pointwise
  rw [← total_eq e]
  exact Finset.sum_congr rfl fun c _ => h.lfr c

theorem mold_eq (y z : Fin 1) : I.mold (ix2 y z) = (L.M n : EReal) := by
  unfold In.mold
  pointwise
  exact h.m _ _

theorem dmat_eq (r c : Fin 256) : I.dmat (ix2 r c) = if e c ≤ e r then (bc e L n r : EReal) - (bc e L n c : EReal) + ((L.i (n + (e c : ℕ)) : ℝ) : EReal) else ⊥ := by
  unfold In.dmat
  pointwise
  rw [h.mask, sel_ite, bcum_eq h, brow_eq h, h.igr, ninf]

theorem inter_eq (r : Fin 256) (z : Fin 1) : I.inter (ix2 r z) = (bc e L n r : EReal) + (L.M n : EReal) := by
  unfold In.inter
  pointwise
  rw [bcum_eq h, mold_eq h]

theorem mt_eq' (r : Fin 256) (z : Fin 1) : I.mt (ix2 r z) = (L.M (n + (e r : ℕ) + 1) : EReal) := by
  unfold In.mt
  pointwise
  rw [inter_eq h, ninf, ← mt_eq e L n r]
  congr 2
  funext c
  exact dmat_eq h r c

theorem mnew_eq' (y z : Fin 1) : I.mnew (ix2 y z) = (L.M (n + 256) : EReal) := by
  unfold In.mnew
  pointwise
  rw [g_eq h, mold_eq h, ninf, ← mnew_eq e L n]
  congr 2
  funext c
  rw [g_eq h, brow_eq h, h.igr]

theorem p_eq (r c : Fin 256) : I.p (ix2 r c) = (((∑ d : Fin 256, L.q (n + (e r : ℕ)) d * L.k (n + (e c : ℕ)) d) * wrow e L n r c : ℝ) : EReal) := by
  unfold In.p
  pointwise
  rw [dmat_eq h, mt_eq' h, exp_wrow, EReal.coe_mul, coe_sum]
  congr 1
  exact Finset.sum_congr rfl fun d _ => by rw [h.q, h.k, EReal.coe_mul]

theorem qw_eq (r d : Fin 256) : I.qw (ix2 r d) = ((L.q (n + (e r : ℕ)) d * wold e L n r : ℝ) : EReal) := by
  unfold In.qw
  pointwise
  rw [inter_eq h, mt_eq' h, exp_wold, h.q, EReal.coe_mul]

theorem kw_eq (r d : Fin 256) : I.kw (ix2 r d) = ((L.k (n + (e r : ℕ)) d * wend e L n r : ℝ) : EReal) := by
  unfold In.kw
  pointwise
  rw [g_eq h, bcum_eq h, h.igc, mnew_eq' h, exp_wend, h.k, EReal.coe_mul]

theorem snew_eq' (d : Fin 256) (j : Fin 640) (z : Fin 1) : I.snew (ix3 z d j) = ((L.S (n + 256) d j : ℝ) : EReal) := by
  unfold In.snew In.sold
  pointwise
  rw [g_eq h, mold_eq h, mnew_eq' h, exp_woldEnd, h.s, ← snew_eq e L n, EReal.coe_add, EReal.coe_mul, coe_sum]
  congr 1
  exact Finset.sum_congr rfl fun c _ => by rw [kw_eq h, h.va, ← EReal.coe_mul]

theorem mblk_eq (z : Fin 1) (a : Fin 8) (b : Fin 128) : I.mblk (ix3 z a b) = ((L.M (n + 256) : ℝ) : EReal) := by
  unfold In.mblk
  pointwise
  exact mnew_eq' h _ _

theorem o_eq (r : Fin 256) (j : Fin 640) : I.o (ix2 r j) = (L.num (n + e r) j : EReal) := by
  unfold In.o
  pointwise
  rw [← num_eq e L n r j, EReal.coe_add, coe_sum, Finset.mul_sum, coe_sum]
  congr 1
  · exact Finset.sum_congr rfl fun c _ => by rw [p_eq h, h.va, ← EReal.coe_mul]
  · refine Finset.sum_congr rfl fun d _ => ?_
    have hs : I.sold (ix2 d j) = ((L.S n d j : ℝ) : EReal) := by
      unfold In.sold
      pointwise
      exact h.s d j
    rw [qw_eq h, hs, ← EReal.coe_mul]
    congr 1
    ring

theorem out_eq (z : Fin 1) (r : Fin 256) (j : Fin 512) : I.out (ix3 z r j) = ((L.H (n + e r) j : ℝ) : EReal) := by
  unfold In.out In.den
  pointwise
  rw [o_eq h, o_eq h, mt_eq' h]
  have ha : (FloatOps.absf (F := Ideal) (φ := .f32) ((L.num (n + (e r : ℕ)) ((512 : Fin 640) : ℕ) : ℝ) : EReal)) = ((|L.num (n + (e r : ℕ)) 512| : ℝ) : EReal) := abs_coe _
  have hz : (0 : EReal) - ((L.M (n + (e r : ℕ) + 1) : ℝ) : EReal) = ((-L.M (n + (e r : ℕ) + 1) : ℝ) : EReal) := by
    rw [zero_sub, EReal.coe_neg]
  rw [ha, hz, exp_coe, max_coe, ← EReal.coe_one]
  change ((L.num (n + (e r : ℕ)) j : ℝ) : EReal) * Ideal.div ((1 : ℝ) : EReal) ((L.den (n + (e r : ℕ)) : ℝ) : EReal) = _
  rw [div_coe _ (L.den_pos _), ← EReal.coe_mul]
  congr 1
  show L.num _ _ * (1 / L.den _) = L.num _ _ / L.den _
  ring

end Cert.KernelIdeal.Body

end
-- ==== Proof.Lanes.lean ====
/-
  The lanes of the scan: for a direction, a batch element and a head, the tokens in the order in which they enter the state — the
  context, then the latents; for the backward direction each from its end — with their queries, scaled keys, values and gates.
-/
module

public import proofs.«01_k».proof.Proof.Recurrence
public import Idealize.ShloMosaic.Lib.Pointwise

@[expose] public section

noncomputable section

namespace Cert.Scan

open Idealize.ShloMosaic Finset

/-- An array of 2 batch elements, `R` rows and `N` columns. -/
abbrev Arr (R N : ℕ) : Type := (⟨3, ![2, R, N]⟩ : Shape).Idx → EReal

/-- Token `n`'s entry in column `c`: the context's tokens first, then the latents'; backward, each from its last row. -/
def tok {N : ℕ} [NeZero N] (Xc : Arr 256 N) (Xl : Arr 8192 N) (back : Bool) (b : Fin 2) (n c : ℕ) : EReal :=
  if n < 256 then Xc (ix3 b (Fin.ofNat 256 (if back then 255 - n else n)) (Fin.ofNat N c))
  else Xl (ix3 b (Fin.ofNat 8192 (if back then 8447 - n else n - 256)) (Fin.ofNat N c))

/-- Every entry of an array is a real number. -/
def AllReal {ι : Type} (X : ι → EReal) : Prop := ∀ y, ((X y).toReal : EReal) = X y

theorem tok_real {N : ℕ} [NeZero N] {Xc : Arr 256 N} {Xl : Arr 8192 N} (hc : AllReal Xc) (hl : AllReal Xl) (back : Bool) (b : Fin 2) (n c : ℕ) :
    ((tok Xc Xl back b n c).toReal : EReal) = tok Xc Xl back b n c := by
  unfold tok
  split
  · exact hc _
  · exact hl _

/-- The logarithm of the sigmoid. -/
def lsigR (x : ℝ) : ℝ := min x 0 - Real.log (1 + Real.exp (-|x|))

/-- The lane of a direction, a batch element and a head. The projections' columns are the queries of the eight heads, their
    keys, their values; the gates' columns are the forward input gates, the forward forget gates, then the backward ones. -/
def lane (Qc : Arr 256 12288) (Gc : Arr 256 32) (Ql : Arr 8192 12288) (Gl : Arr 8192 32) (back : Bool) (b : Fin 2) (h : Fin 8) : Lane where
  q n d := (tok Qc Ql back b n (256 * h + d)).toReal
  k n d := (tok Qc Ql back b n (2048 + (256 * h + d))).toReal * (1 / 16)
  v n j := if j < 512 then (tok Qc Ql back b n (4096 + (512 * h + j))).toReal else if j = 512 then 1 else 0
  i n := (tok Gc Gl back b n ((if back then 16 else 0) + h)).toReal
  f n := lsigR (tok Gc Gl back b n ((if back then 16 else 0) + 8 + h)).toReal

/-- The order of a chunk's rows: forward as they stand, backward from the last. -/
def order (T : ℕ) (back : Bool) : Equiv.Perm (Fin T) := if back then Fin.revPerm else Equiv.refl _

/-- A row of the context's chunk, in the direction's order, is the context's row as it stands. -/
theorem tok_ctx {N : ℕ} [NeZero N] (Xc : Arr 256 N) (Xl : Arr 8192 N) (back : Bool) (b : Fin 2) (i : ℕ) (hi : i = 0) (r : Fin 256) (c : ℕ) (hc : c < N) :
    tok Xc Xl back b (256 * i + order 256 back r) c = Xc (ix3 b r ⟨c, hc⟩) := by
  subst hi
  have hr := r.isLt
  unfold tok
  rw [if_pos (by have := (order 256 back r).isLt; omega)]
  have h1 : Fin.ofNat 256 (if back then 255 - (256 * 0 + (order 256 back r : ℕ)) else 256 * 0 + (order 256 back r : ℕ)) = r := by
    apply Fin.ext
    cases back
    · show (256 * 0 + r.val) % 256 = r.val; omega
    · show (255 - (256 * 0 + (Fin.rev r).val)) % 256 = r.val; rw [Fin.val_rev]; omega
  have h2 : Fin.ofNat N c = ⟨c, hc⟩ := Fin.ext (Nat.mod_eq_of_lt hc)
  rw [h1, h2]

/-- A row of a chunk of latents, in the direction's order, is the row as it stands of the direction's block. -/
theorem tok_lat {N : ℕ} [NeZero N] (Xc : Arr 256 N) (Xl : Arr 8192 N) (back : Bool) (b : Fin 2) (i : ℕ) (hi : i ≠ 0) (hi' : i < 33) (r : Fin 256) (c : ℕ) (hc : c < N) :
    tok Xc Xl back b (256 * i + order 256 back r) c
      = Xl (ix3 b ⟨256 * (if back then 31 - (i - 1) else i - 1) + r, by have := r.isLt; split <;> omega⟩ ⟨c, hc⟩) := by
  have hr := r.isLt
  unfold tok
  rw [if_neg (by omega)]
  have h1 : Fin.ofNat 8192 (if back then 8447 - (256 * i + (order 256 back r : ℕ)) else 256 * i + (order 256 back r : ℕ) - 256)
      = ⟨256 * (if back then 31 - (i - 1) else i - 1) + r, by split <;> omega⟩ := by
    apply Fin.ext
    cases back
    · show (256 * i + r.val - 256) % 8192 = 256 * (i - 1) + r.val; omega
    · show (8447 - (256 * i + (Fin.rev r).val)) % 8192 = 256 * (31 - (i - 1)) + r.val; rw [Fin.val_rev]; omega
  have h2 : Fin.ofNat N c = ⟨c, hc⟩ := Fin.ext (Nat.mod_eq_of_lt hc)
  rw [h1, h2]

theorem one_add_exp_pos (x : ℝ) : 0 < 1 + Real.exp x := by positivity

/-- The logarithm of a positive real. -/
theorem log_coe {x : ℝ} (h : 0 < x) : Ideal.log (x : EReal) = ((Real.log x : ℝ) : EReal) := by
  show (if x ≤ 0 then (⊥ : EReal) else ((Real.log x : ℝ) : EReal)) = _
  rw [if_neg (not_le.mpr h)]

theorem min_coe (x y : ℝ) : min (x : EReal) (y : EReal) = ((min x y : ℝ) : EReal) :=
  (EReal.coe_strictMono.monotone.map_min).symm

end Cert.Scan

end
-- ==== Proof.KernelReads.lean ====
/-
  What the kernel's windows hold at a point: the rows of a chunk, in the direction's order.
-/
module

public import proofs.«01_k».proof.Proof.HeadValue
public import proofs.«01_k».proof.Proof.Lanes

@[expose] public section

set_option maxRecDepth 16384
set_option maxHeartbeats 2000000

noncomputable section

namespace Cert.KernelIdeal.Body

open Idealize.ShloMosaic Idealize.ShloMosaic.TcCoe Idealize.SL.Sem
open Cert.KernelIdeal Cert.KernelIdeal.Gen Cert.Scan

variable (m : (ℓ : Loc nD τ sig) → Buf (Elt Ideal) ℓ)

/-- The context's projections. -/
def Qc (c : Dev nD) : Arr 256 12288 := m ((c : Thread nD τ).loc main_arg0)
/-- The context's gates. -/
def Gc (c : Dev nD) : Arr 256 32 := m ((c : Thread nD τ).loc main_arg1)
/-- The latents' projections. -/
def Ql (c : Dev nD) : Arr 8192 12288 := m ((c : Thread nD τ).loc main_arg2)
/-- The latents' gates. -/
def Gl (c : Dev nD) : Arr 8192 32 := m ((c : Thread nD τ).loc main_arg3)

theorem idx_ctx : ∀ t : Fin cfg0.N, win0_0.index t = ![t.val / 33, 0, 0] ∧ win0_1.index t = ![t.val / 33, 0, 1] ∧ win0_2.index t = ![t.val / 33, 0, 1]
    ∧ win0_6.index t = ![t.val / 33, 0, 0] ∧ win0_7.index t = ![t.val / 33, 0, 0]
    ∧ win0_10.index t = ![t.val / 33, 0, 0] ∧ win0_11.index t = ![t.val / 33, 0, 1] ∧ win0_12.index t = ![t.val / 33, 0, 1]
    ∧ win0_16.index t = ![t.val / 33, 0, 0] ∧ win0_17.index t = ![t.val / 33, 0, 0] := by decide +kernel

theorem idx_fwd : ∀ t : Fin cfg0.N, win0_3.index t = ![t.val / 33, t.val % 33 - 1, 0] ∧ win0_4.index t = ![t.val / 33, t.val % 33 - 1, 1]
    ∧ win0_5.index t = ![t.val / 33, t.val % 33 - 1, 1] ∧ win0_8.index t = ![t.val / 33, t.val % 33 - 1, 0]
    ∧ win0_9.index t = ![t.val / 33, 0, t.val % 33 - 1] ∧ win0_20.index t = ![t.val / 33, t.val % 33 - 1, 0] := by decide +kernel

theorem idx_bwd : ∀ t : Fin cfg0.N, win0_13.index t = ![t.val / 33, 31 - (t.val % 33 - 1), 0] ∧ win0_14.index t = ![t.val / 33, 31 - (t.val % 33 - 1), 1]
    ∧ win0_15.index t = ![t.val / 33, 31 - (t.val % 33 - 1), 1] ∧ win0_18.index t = ![t.val / 33, 31 - (t.val % 33 - 1), 0]
    ∧ win0_19.index t = ![t.val / 33, 0, 31 - (t.val % 33 - 1)] ∧ win0_21.index t = ![t.val / 33, 31 - (t.val % 33 - 1), 0] := by decide +kernel

theorem isCtx_eq : ∀ t : Fin cfg0.N, isCtx (grid0.coords t) = if t.val % 33 = 0 then 1#1 else 0#1 := by decide +kernel

/-- The batch element of a point. -/
def bt (t : Fin cfg0.N) : Fin 2 := ⟨t.val / 33, by have : t.val < 66 := t.isLt; omega⟩

/-- What a direction reads at a point is chunk `i` of the batch element `b`. -/
structure IsChunk (s : BitVec 1) (X : Blocks Ideal) (Qc : Arr 256 12288) (Gc : Arr 256 32) (Ql : Arr 8192 12288) (Gl : Arr 8192 32)
    (back : Bool) (b : Fin 2) (i : ℕ) : Prop where
  q : ∀ (r : Fin 256) (j : Fin 2048), Scalar.select s (X.qc (ix3 0 r j)) (X.ql (ix3 0 r j)) = tok Qc Ql back b (256 * i + order 256 back r) j
  k : ∀ (r : Fin 256) (j : Fin 2048), Scalar.select s (X.kc (ix3 0 r j)) (X.kl (ix3 0 r j)) = tok Qc Ql back b (256 * i + order 256 back r) (2048 + j)
  v : ∀ (r : Fin 256) (j : Fin 4096), Scalar.select s (X.vc (ix3 0 r j)) (X.vl (ix3 0 r j)) = tok Qc Ql back b (256 * i + order 256 back r) (4096 + j)
  gc : ∀ (r : Fin 256) (j : Fin 32), Scalar.select s (X.gcc (ix3 0 r j)) (X.gcl (ix3 0 r j)) = tok Gc Gl back b (256 * i + order 256 back r) j
  gr : ∀ (r : Fin 256) (j : Fin 32), Scalar.select s (X.grc (ix3 0 j r)) (X.grl (ix3 0 j r)) = tok Gc Gl back b (256 * i + order 256 back r) j

theorem V_v0 (c : Dev nD) (a : Fin 2) (g : Fin 32) (r : Fin 256) : V m c main_v0 (ix3 a g r) = m ((c : Thread nD τ).loc main_arg1) (ix3 a r g) := by
  entry_read
  pointwise

theorem V_v1 (c : Dev nD) (a : Fin 2) (g : Fin 32) (r : Fin 8192) : V m c main_v1 (ix3 a g r) = m ((c : Thread nD τ).loc main_arg3) (ix3 a r g) := by
  entry_read
  pointwise

/-- The forward windows hold the chunk of the point. -/
theorem blkF_chunk (c : Dev nD) (t : Fin cfg0.N) :
    IsChunk (isCtx (grid0.coords t)) (blkF m c t) (Qc m c) (Gc m c) (Ql m c) (Gl m c) false (bt t) (t.val % 33) := by
  obtain ⟨e0, e1, e2, e6, e7, e10, e11, e12, e16, e17⟩ := idx_ctx t
  obtain ⟨e3, e4, e5, e8, e9, -⟩ := idx_fwd t
  obtain ⟨e13, e14, e15, e18, e19, -⟩ := idx_bwd t
  have ht : t.val < 66 := t.isLt
  constructor
  case q =>
    intro r j
    have hr := r.isLt
    have hj := j.isLt
    rw [isCtx_eq, sel_ite]
    split
    next h0 =>
      rw [tok_ctx _ _ _ _ _ h0 _ _ (by omega)]
      unfold blkF Qc
      dsimp only
      blk_ext [iblk, V, e0, bt]
    next h0 =>
      rw [tok_lat _ _ _ _ _ h0 (by omega) _ _ (by omega)]
      unfold blkF Ql
      dsimp only
      blk_ext [iblk, V, e3, bt]
      rw [if_neg Bool.false_ne_true]; omega
  case k =>
    intro r j
    have hr := r.isLt
    have hj := j.isLt
    rw [isCtx_eq, sel_ite]
    split
    next h0 =>
      rw [tok_ctx _ _ _ _ _ h0 _ _ (by omega)]
      unfold blkF Qc
      dsimp only
      blk_ext [iblk, V, e1, bt]
    next h0 =>
      rw [tok_lat _ _ _ _ _ h0 (by omega) _ _ (by omega)]
      unfold blkF Ql
      dsimp only
      blk_ext [iblk, V, e4, bt]
      rw [if_neg Bool.false_ne_true]; omega
  case v =>
    intro r j
    have hr := r.isLt
    have hj := j.isLt
    rw [isCtx_eq, sel_ite]
    split
    next h0 =>
      rw [tok_ctx _ _ _ _ _ h0 _ _ (by omega)]
      unfold blkF Qc
      dsimp only
      blk_ext [iblk, V, e2, bt]
    next h0 =>
      rw [tok_lat _ _ _ _ _ h0 (by omega) _ _ (by omega)]
      unfold blkF Ql
      dsimp only
      blk_ext [iblk, V, e5, bt]
      rw [if_neg Bool.false_ne_true]; omega
  case gc =>
    intro r j
    have hr := r.isLt
    have hj := j.isLt
    rw [isCtx_eq, sel_ite]
    split
    next h0 =>
      rw [tok_ctx _ _ _ _ _ h0 _ _ (by omega)]
      unfold blkF Gc
      dsimp only
      blk_ext [iblk, V, e6, bt]
    next h0 =>
      rw [tok_lat _ _ _ _ _ h0 (by omega) _ _ (by omega)]
      unfold blkF Gl
      dsimp only
      blk_ext [iblk, V, e8, bt]
      rw [if_neg Bool.false_ne_true]; omega
  case gr =>
    intro r j
    have hr := r.isLt
    have hj := j.isLt
    rw [isCtx_eq, sel_ite]
    split
    next h0 =>
      rw [tok_ctx _ _ _ _ _ h0 _ _ (by omega)]
      unfold blkF Gc
      dsimp only
      refine Eq.trans (congrArg (V m c main_v0) (?_ : ((cfg0.win 7).blk t).view.emb (ix3 0 j r) = ix3 (bt t) j r)) (V_v0 m c _ _ _)
      blk_ext [e7, bt]
    next h0 =>
      rw [tok_lat _ _ _ _ _ h0 (by omega) _ _ (by omega)]
      unfold blkF Gl
      dsimp only
      refine Eq.trans (congrArg (V m c main_v1) (?_ : ((cfg0.win 9).blk t).view.emb (ix3 0 j r) = ix3 (bt t) j ⟨256 * (t.val % 33 - 1) + r, by omega⟩)) (V_v1 m c _ _ _)
      blk_ext [e9, bt]

/-- The backward windows hold the chunk of the point. -/
theorem blkB_chunk (c : Dev nD) (t : Fin cfg0.N) :
    IsChunk (isCtx (grid0.coords t)) (blkB m c t) (Qc m c) (Gc m c) (Ql m c) (Gl m c) true (bt t) (t.val % 33) := by
  obtain ⟨e0, e1, e2, e6, e7, e10, e11, e12, e16, e17⟩ := idx_ctx t
  obtain ⟨e3, e4, e5, e8, e9, -⟩ := idx_fwd t
  obtain ⟨e13, e14, e15, e18, e19, -⟩ := idx_bwd t
  have ht : t.val < 66 := t.isLt
  constructor
  case q =>
    intro r j
    have hr := r.isLt
    have hj := j.isLt
    rw [isCtx_eq, sel_ite]
    split
    next h0 =>
      rw [tok_ctx _ _ _ _ _ h0 _ _ (by omega)]
      unfold blkB Qc
      dsimp only
      blk_ext [iblk, V, e10, bt]
    next h0 =>
      rw [tok_lat _ _ _ _ _ h0 (by omega) _ _ (by omega)]
      unfold blkB Ql
      dsimp only
      blk_ext [iblk, V, e13, bt]
      rw [if_pos trivial]; omega
  case k =>
    intro r j
    have hr := r.isLt
    have hj := j.isLt
    rw [isCtx_eq, sel_ite]
    split
    next h0 =>
      rw [tok_ctx _ _ _ _ _ h0 _ _ (by omega)]
      unfold blkB Qc
      dsimp only
      blk_ext [iblk, V, e11, bt]
    next h0 =>
      rw [tok_lat _ _ _ _ _ h0 (by omega) _ _ (by omega)]
      unfold blkB Ql
      dsimp only
      blk_ext [iblk, V, e14, bt]
      rw [if_pos trivial]; omega
  case v =>
    intro r j
    have hr := r.isLt
    have hj := j.isLt
    rw [isCtx_eq, sel_ite]
    split
    next h0 =>
      rw [tok_ctx _ _ _ _ _ h0 _ _ (by omega)]
      unfold blkB Qc
      dsimp only
      blk_ext [iblk, V, e12, bt]
    next h0 =>
      rw [tok_lat _ _ _ _ _ h0 (by omega) _ _ (by omega)]
      unfold blkB Ql
      dsimp only
      blk_ext [iblk, V, e15, bt]
      rw [if_pos trivial]; omega
  case gc =>
    intro r j
    have hr := r.isLt
    have hj := j.isLt
    rw [isCtx_eq, sel_ite]
    split
    next h0 =>
      rw [tok_ctx _ _ _ _ _ h0 _ _ (by omega)]
      unfold blkB Gc
      dsimp only
      blk_ext [iblk, V, e16, bt]
    next h0 =>
      rw [tok_lat _ _ _ _ _ h0 (by omega) _ _ (by omega)]
      unfold blkB Gl
      dsimp only
      blk_ext [iblk, V, e18, bt]
      rw [if_pos trivial]; omega
  case gr =>
    intro r j
    have hr := r.isLt
    have hj := j.isLt
    rw [isCtx_eq, sel_ite]
    split
    next h0 =>
      rw [tok_ctx _ _ _ _ _ h0 _ _ (by omega)]
      unfold blkB Gc
      dsimp only
      refine Eq.trans (congrArg (V m c main_v0) (?_ : ((cfg0.win 17).blk t).view.emb (ix3 0 j r) = ix3 (bt t) j r)) (V_v0 m c _ _ _)
      blk_ext [e17, bt]
    next h0 =>
      rw [tok_lat _ _ _ _ _ h0 (by omega) _ _ (by omega)]
      unfold blkB Gl
      dsimp only
      refine Eq.trans (congrArg (V m c main_v1) (?_ : ((cfg0.win 19).blk t).view.emb (ix3 0 j r) = ix3 (bt t) j ⟨256 * (31 - (t.val % 33 - 1)) + r, by omega⟩)) (V_v1 m c _ _ _)
      blk_ext [e19, bt]

end Cert.KernelIdeal.Body

end
-- ==== Proof.KernelChunk.lean ====
/-
  The kernel's heads read chunks of the lanes: the forward heads with the mask of the rows at or before a row, the backward heads
  with the mask of the rows at or after it.
-/
module

public import proofs.«01_k».proof.Proof.KernelReads
public import Idealize.ShloMosaic.Lib.WordCmp

@[expose] public section

set_option maxRecDepth 16384

noncomputable section

namespace Cert.KernelIdeal.Body

open Idealize.ShloMosaic Idealize.ShloMosaic.TcCoe Idealize.SL.Sem
open Cert.KernelIdeal Cert.KernelIdeal.Gen Cert.Scan

theorem lower_apply (r c : Fin 256) : lower (ix2 r c) = if c ≤ r then 1#1 else 0#1 := by
  unfold lower
  pointwise
  have hr := r.isLt
  have hc := c.isLt
  rw [WordCmp.cmpi_sle_ofNat (by omega) (by omega)]
  by_cases h : c ≤ r
  · rw [if_pos h, decide_eq_true (show c.val ≤ r.val from h)]; rfl
  · rw [if_neg h, decide_eq_false (show ¬ c.val ≤ r.val from h)]; rfl

theorem upper_apply (r c : Fin 256) : upper (ix2 r c) = if r ≤ c then 1#1 else 0#1 := by
  unfold upper
  pointwise
  have hr := r.isLt
  have hc := c.isLt
  rw [WordCmp.cmpi_sge_ofNat (by omega) (by omega)]
  by_cases h : r ≤ c
  · rw [if_pos h, decide_eq_true (show r.val ≤ c.val from h)]; rfl
  · rw [if_neg h, decide_eq_false (show ¬ r.val ≤ c.val from h)]; rfl

theorem ones_apply (r : Fin 256) (j : Fin 128) : (ones (F := Ideal)) (ix2 r j) = if j.val = 0 then 1 else 0 := by
  unfold ones
  pointwise
  have hj := j.isLt
  by_cases h : j.val = 0
  · rw [if_pos h, h]
    show ((BitVec.toInt (BitVec.setWidth 32 (IntOp.cmpi CmpIPredicate.eq (BitVec.ofNat 32 0) 0#32)) : ℝ) : EReal) = 1
    rw [show BitVec.toInt (BitVec.setWidth 32 (IntOp.cmpi CmpIPredicate.eq (BitVec.ofNat 32 0) 0#32)) = 1 from by decide]
    simp
  · rw [if_neg h]
    have h0 : IntOp.cmpi CmpIPredicate.eq (BitVec.ofNat 32 j.val) 0#32 = 0#1 := by
      show BitVec.ofBool (BitVec.ofNat 32 j.val == 0#32) = 0#1
      rw [beq_eq_false_iff_ne.mpr]
      · rfl
      · intro hh
        have := congrArg BitVec.toNat hh
        simp at this
        omega
    rw [h0]
    show ((BitVec.toInt (BitVec.setWidth 32 0#1) : ℝ) : EReal) = 0
    rw [show BitVec.toInt (BitVec.setWidth 32 0#1) = 0 from by decide]
    simp

theorem lsig_apply {s : Shape} (v : FVec Ideal s .f32) (y : s.Idx) (x : ℝ) (h : v y = x) : lsig v y = ((lsigR x : ℝ) : EReal) := by
  unfold lsig
  pointwise
  rw [h]
  have ha : (FloatOps.absf (F := Ideal) (φ := .f32) (x : EReal)) = ((|x| : ℝ) : EReal) := abs_coe _
  rw [ha, zero_sub, ← EReal.coe_neg, exp_coe, ← EReal.coe_one, ← EReal.coe_add, log_coe (one_add_exp_pos _), ← EReal.coe_zero, min_coe, ← EReal.coe_sub]
  rfl

theorem sixteenth : Ideal.ofBits FTy.bf16 0x3D80#16 = ((1 / 16 : ℝ) : EReal) := by
  simp [Ideal.ofBits, Ideal.ieee]
  rw [← EReal.coe_mul]
  norm_num

theorem ldQ {e : EltTy} (X : Vec Ideal S1x256x2048 e) (h : Fin 8) (r d : Fin 256) :
    View.ld X (rQ h) (ix3 0 r d) = X (ix3 0 r ⟨256 * h + d, by omega⟩) := by
  refine congrArg X (funext fun a => Fin.ext ?_)
  match a with
  | ⟨0, _⟩ => rfl
  | ⟨1, _⟩ => show 0 + 1 * r.val = r.val; omega
  | ⟨2, _⟩ => show 256 * h.val + 1 * d.val = 256 * h.val + d.val; omega

theorem ldV {e : EltTy} (X : Vec Ideal S1x256x4096 e) (h : Fin 8) (r : Fin 256) (d : Fin 512) :
    View.ld X (rV h) (ix3 0 r d) = X (ix3 0 r ⟨512 * h + d, by omega⟩) := by
  refine congrArg X (funext fun a => Fin.ext ?_)
  match a with
  | ⟨0, _⟩ => rfl
  | ⟨1, _⟩ => show 0 + 1 * r.val = r.val; omega
  | ⟨2, _⟩ => show 512 * h.val + 1 * d.val = 512 * h.val + d.val; omega

theorem ldS {e : EltTy} (X : Vec Ideal S16x256x640 e) (s : Fin 16) (d : Fin 256) (j : Fin 640) :
    View.ld X (rS s) (ix3 0 d j) = X (ix3 s d j) := by
  refine congrArg X (funext fun a => Fin.ext ?_)
  match a with
  | ⟨0, _⟩ => rfl
  | ⟨1, _⟩ => show 0 + 1 * d.val = d.val; omega
  | ⟨2, _⟩ => show 0 + 1 * j.val = j.val; omega

theorem ldM {e : EltTy} (X : Vec Ideal S16x8x128 e) (s : Fin 16) (d : Fin 8) (j : Fin 128) :
    View.ld X (rM s) (ix3 0 d j) = X (ix3 s d j) := by
  refine congrArg X (funext fun a => Fin.ext ?_)
  match a with
  | ⟨0, _⟩ => rfl
  | ⟨1, _⟩ => show 0 + 1 * d.val = d.val; omega
  | ⟨2, _⟩ => show 0 + 1 * j.val = j.val; omega

/-- A choice by a bit, read at an index. -/
theorem sel_apply {s : Shape} {φ : FTy} (b : BitVec 1) (x y : FVec Ideal s φ) (i : s.Idx) : Scalar.select b x y i = Scalar.select b (x i) (y i) := by
  unfold Scalar.select
  split <;> rfl

theorem blockQ (s : BitVec 1) (A B : FVec Ideal S1x256x256 .bf16) (r d : Fin 256) :
    Scalar.select s (shapeCast S256x256 A shapeCasts_S1x256x256_S256x256) (shapeCast S256x256 B shapeCasts_S1x256x256_S256x256) (ix2 r d)
      = Scalar.select s (A (ix3 0 r d)) (B (ix3 0 r d)) := by
  pointwise

theorem blockV (s : BitVec 1) (A B : FVec Ideal S1x256x512 .bf16) (r : Fin 256) (d : Fin 512) :
    Scalar.select s (shapeCast S256x512 A shapeCasts_S1x256x512_S256x512) (shapeCast S256x512 B shapeCasts_S1x256x512_S256x512) (ix2 r d)
      = Scalar.select s (A (ix3 0 r d)) (B (ix3 0 r d)) := by
  pointwise

theorem beside (A : FVec Ideal S256x512 .bf16) (B : FVec Ideal S256x128 .bf16) (r : Fin 256) (j : Fin 640) :
    concatenate S256x640 1 [⟨S256x512, A⟩, ⟨S256x128, B⟩] concatenates_S256x512_S256x128_S256x640_d1 (ix2 r j)
      = if hj : j.val < 512 then A (ix2 r ⟨j, hj⟩) else B (ix2 r ⟨j - 512, by omega⟩) := by
  pointwise

theorem q_apply (s : BitVec 1) (X : Blocks Ideal) (h : Fin 8) (r d : Fin 256) :
    X.q s h (ix2 r d) = Scalar.select s (X.qc (ix3 0 r ⟨256 * h + d, by omega⟩)) (X.ql (ix3 0 r ⟨256 * h + d, by omega⟩)) :=
  (blockQ s (View.ld X.qc (rQ h)) (View.ld X.ql (rQ h)) r d).trans (congrArg₂ (Scalar.select s) (ldQ X.qc h r d) (ldQ X.ql h r d))

theorem k_apply (s : BitVec 1) (X : Blocks Ideal) (h : Fin 8) (r d : Fin 256) :
    X.k s h (ix2 r d) = Scalar.select s (X.kc (ix3 0 r ⟨256 * h + d, by omega⟩)) (X.kl (ix3 0 r ⟨256 * h + d, by omega⟩)) * ((1 / 16 : ℝ) : EReal) :=
  congrArg₂ (· * ·) ((blockQ s (View.ld X.kc (rQ h)) (View.ld X.kl (rQ h)) r d).trans (congrArg₂ (Scalar.select s) (ldQ X.kc h r d) (ldQ X.kl h r d))) sixteenth

theorem va_apply (s : BitVec 1) (X : Blocks Ideal) (h : Fin 8) (r : Fin 256) (j : Fin 640) :
    X.va s h (ix2 r j) = if hj : j.val < 512 then Scalar.select s (X.vc (ix3 0 r ⟨512 * h + j, by omega⟩)) (X.vl (ix3 0 r ⟨512 * h + j, by omega⟩))
      else if j.val = 512 then 1 else 0 := by
  have hj' := j.isLt
  refine (beside _ _ r j).trans ?_
  split
  next hj =>
    exact (blockV s (View.ld X.vc (rV h)) (View.ld X.vl (rV h)) r ⟨j, hj⟩).trans (congrArg₂ (Scalar.select s) (ldV X.vc h r ⟨j, hj⟩) (ldV X.vl h r ⟨j, hj⟩))
  next hj =>
    rw [ones_apply]
    refine if_congr ?_ rfl rfl
    show j.val - 512 = 0 ↔ _
    omega

theorem gcol_apply (s : BitVec 1) (X : Blocks Ideal) (r : Fin 256) (j : Fin 32) :
    X.gcol s (ix2 r j) = Scalar.select s (X.gcc (ix3 0 r j)) (X.gcl (ix3 0 r j)) := by
  unfold Blocks.gcol
  pointwise

theorem grow_apply (s : BitVec 1) (X : Blocks Ideal) (r : Fin 256) (j : Fin 32) :
    X.grow s (ix2 j r) = Scalar.select s (X.grc (ix3 0 j r)) (X.grl (ix3 0 j r)) := by
  unfold Blocks.grow
  pointwise

theorem colC (v : FVec Ideal S256x32 .f32) (n : Fin 32) (r : Fin 256) : extractStridedSlice S256x1 ![0, n.val] v (slC n) (ix2 r 0) = v (ix2 r n) := by
  refine congrArg v (funext fun a => Fin.ext ?_)
  match a with
  | ⟨0, _⟩ => show 0 + r.val = r.val; omega
  | ⟨1, _⟩ => show n.val + 0 = n.val; omega

theorem rowR (v : FVec Ideal S32x256 .f32) (n : Fin 32) (r : Fin 256) : extractStridedSlice S1x256 ![n.val, 0] v (slR n) (ix2 0 r) = v (ix2 n r) := by
  refine congrArg v (funext fun a => Fin.ext ?_)
  match a with
  | ⟨0, _⟩ => show n.val + 0 = n.val; omega
  | ⟨1, _⟩ => show 0 + r.val = r.val; omega

/-- A head reads a chunk of its lane. -/
theorem reads {s : BitVec 1} {X : Blocks Ideal} {Qc : Arr 256 12288} {Gc : Arr 256 32} {Ql : Arr 8192 12288} {Gl : Arr 8192 32}
    {back : Bool} {b : Fin 2} {i : ℕ} (hX : IsChunk s X Qc Gc Ql Gl back b i)
    (hQc : AllReal Qc) (hGc : AllReal Gc) (hQl : AllReal Ql) (hGl : AllReal Gl)
    (mask maskT : IVec S256x256 1) (hmask : ∀ r c, mask (ix2 r c) = if order 256 back c ≤ order 256 back r then 1#1 else 0#1)
    (hmaskT : ∀ r c, maskT (ix2 r c) = if order 256 back r ≤ order 256 back c then 1#1 else 0#1)
    (h : Fin 8) (ci cf : Fin 32) (hci : ci.val = (if back then 16 else 0) + h) (hcf : cf.val = (if back then 16 else 0) + 8 + h) (si : Fin 16)
    (xs : Vec Ideal S16x256x640 .f32) (xm : Vec Ideal S16x8x128 .f32)
    (hs : ∀ (d : Fin 256) (j : Fin 640), xs (ix3 si d j) = (((lane Qc Gc Ql Gl back b h).S (256 * i) d j : ℝ) : EReal))
    (hm : ∀ (a : Fin 8) (l : Fin 128), xm (ix3 si a l) = (((lane Qc Gc Ql Gl back b h).M (256 * i) : ℝ) : EReal)) :
    Reads (inOf s X mask maskT h ci cf si xs xm) (order 256 back) (lane Qc Gc Ql Gl back b h) (256 * i) where
  mask := hmask
  maskT := hmaskT
  q r d := by
    show X.q s h (ix2 r d) = _
    rw [q_apply, hX.q]
    exact (tok_real hQc hQl _ _ _ _).symm
  k r d := by
    show X.k s h (ix2 r d) = _
    rw [k_apply, hX.k, ← tok_real hQc hQl, ← EReal.coe_mul]
    rfl
  va r j := by
    show X.va s h (ix2 r j) = _
    rw [va_apply]
    unfold lane
    dsimp only
    split
    next hj => rw [hX.v]; exact (tok_real hQc hQl _ _ _ _).symm
    next hj => split <;> simp
  igc r := by
    show extractStridedSlice S256x1 ![0, ci.val] (X.gcol s) (slC ci) (ix2 r 0) = _
    rw [colC, gcol_apply, hX.gc, ← tok_real hGc hGl, hci]
    rfl
  lfc r := by
    show extractStridedSlice S256x1 ![0, cf.val] (lsig (X.gcol s)) (slC cf) (ix2 r 0) = _
    rw [colC]
    refine lsig_apply _ _ _ ?_
    rw [gcol_apply, hX.gc, hcf]
    exact (tok_real hGc hGl _ _ _ _).symm
  igr r := by
    show extractStridedSlice S1x256 ![ci.val, 0] (X.grow s) (slR ci) (ix2 0 r) = _
    rw [rowR, grow_apply, hX.gr, ← tok_real hGc hGl, hci]
    rfl
  lfr r := by
    show extractStridedSlice S1x256 ![cf.val, 0] (lsig (X.grow s)) (slR cf) (ix2 0 r) = _
    rw [rowR]
    refine lsig_apply _ _ _ ?_
    rw [grow_apply, hX.gr, hcf]
    exact (tok_real hGc hGl _ _ _ _).symm
  m a l := (ldM xm si a l).trans (hm a l)
  s d j := (ldS xs si d j).trans (hs d j)

end Cert.KernelIdeal.Body

end
-- ==== Proof.OutsA.lean ====
/-
  What a batch element's first point leaves in the two output blocks: each of the eight stores is a head's output.
-/
module

public import proofs.«01_k».proof.Proof.Head

@[expose] public section

set_option maxRecDepth 16384
set_option maxHeartbeats 8000000

noncomputable section

namespace Cert.KernelIdeal.Body

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- What a first point of a batch element leaves in the forward output block. -/
theorem out20_A (c : Dev nD) (t : Fin cfg0.N) (h : t.val % 33 = 0) :
    (outsAt0 m c t.val t.isLt).1 = gather8 fun hd => (inF (isCtx (grid0.coords t)) (blkF m c t) hd xsA xmA).out := by
  rw [outsAt0_A m c t h]
  dsimp only
  unfold out0_A_20
  rw [View.read_writes_junk_eq_canon]
  funext y
  refine View.canon_apply_of_pieces _ _ (View.PiecesOf.mem ?_) y (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨fun x => Eq.trans (congrFun ?_ x) (gather8_emb _ 7 x).symm, fun x => Eq.trans (congrFun ?_ x) (gather8_emb _ 6 x).symm, fun x => Eq.trans (congrFun ?_ x) (gather8_emb _ 5 x).symm, fun x => Eq.trans (congrFun ?_ x) (gather8_emb _ 4 x).symm, fun x => Eq.trans (congrFun ?_ x) (gather8_emb _ 3 x).symm, fun x => Eq.trans (congrFun ?_ x) (gather8_emb _ 2 x).symm, fun x => Eq.trans (congrFun ?_ x) (gather8_emb _ 1 x).symm, fun x => Eq.trans (congrFun ?_ x) (gather8_emb _ 0 x).symm, trivial⟩
  all_goals
    dsimp only
    frame_open
    simp (disch := decide) only [↓ View.readCov_skip, ↓ View.readCov_cons_toLoadRect, ↓ View.readCov_fill, View.readAt_eq_ld, Memref.IsWhole.read_unread,
      read_unread_whole, View.ld_unit_lit']
    simp only [In.out, In.snew, In.mblk, In.mnew, In.kw, In.den, In.o, In.sold, In.qw, In.p, In.mt, In.inter, In.dmat, In.mold, In.brow, In.bcum, In.g,
      inF, inB, inOf, Blocks.q, Blocks.k, Blocks.va, Blocks.gcol, Blocks.grow, blkF, blkB, xsA, xmA]
    rfl

/-- What a first point of a batch element leaves in the backward output block. -/
theorem out21_A (c : Dev nD) (t : Fin cfg0.N) (h : t.val % 33 = 0) :
    (outsAt0 m c t.val t.isLt).2.1 = gather8 fun hd => (inB (isCtx (grid0.coords t)) (blkB m c t) hd xsA xmA).out := by
  rw [outsAt0_A m c t h]
  dsimp only
  unfold out0_A_21
  rw [View.read_writes_junk_eq_canon]
  funext y
  refine View.canon_apply_of_pieces _ _ (View.PiecesOf.mem ?_) y (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨fun x => Eq.trans (congrFun ?_ x) (gather8_emb _ 7 x).symm, fun x => Eq.trans (congrFun ?_ x) (gather8_emb _ 6 x).symm, fun x => Eq.trans (congrFun ?_ x) (gather8_emb _ 5 x).symm, fun x => Eq.trans (congrFun ?_ x) (gather8_emb _ 4 x).symm, fun x => Eq.trans (congrFun ?_ x) (gather8_emb _ 3 x).symm, fun x => Eq.trans (congrFun ?_ x) (gather8_emb _ 2 x).symm, fun x => Eq.trans (congrFun ?_ x) (gather8_emb _ 1 x).symm, fun x => Eq.trans (congrFun ?_ x) (gather8_emb _ 0 x).symm, trivial⟩
  all_goals
    dsimp only
    frame_open
    simp (disch := decide) only [↓ View.readCov_skip, ↓ View.readCov_cons_toLoadRect, ↓ View.readCov_fill, View.readAt_eq_ld, Memref.IsWhole.read_unread,
      read_unread_whole, View.ld_unit_lit']
    simp only [In.out, In.snew, In.mblk, In.mnew, In.kw, In.den, In.o, In.sold, In.qw, In.p, In.mt, In.inter, In.dmat, In.mold, In.brow, In.bcum, In.g,
      inF, inB, inOf, Blocks.q, Blocks.k, Blocks.va, Blocks.gcol, Blocks.grow, blkF, blkB, xsA, xmA]
    rfl

end Cert.KernelIdeal.Body

end
-- ==== Proof.OutsB.lean ====
/-
  What any later point leaves in the two output blocks: each of the eight stores is a head's output.
-/
module

public import proofs.«01_k».proof.Proof.Head

@[expose] public section

set_option maxRecDepth 16384
set_option maxHeartbeats 8000000

noncomputable section

namespace Cert.KernelIdeal.Body

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- What a later point of a batch element leaves in the forward output block. -/
theorem out20_B (c : Dev nD) (t : Fin cfg0.N) (h : ¬t.val % 33 = 0) :
    (outsAt0 m c t.val t.isLt).1 = gather8 fun hd => (inF (isCtx (grid0.coords t)) (blkF m c t) hd (xsB m c t) (xmB m c t)).out := by
  rw [outsAt0_B m c t h]
  dsimp only
  unfold out0_B_20
  rw [View.read_writes_junk_eq_canon]
  funext y
  refine View.canon_apply_of_pieces _ _ (View.PiecesOf.mem ?_) y (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨fun x => Eq.trans (congrFun ?_ x) (gather8_emb _ 7 x).symm, fun x => Eq.trans (congrFun ?_ x) (gather8_emb _ 6 x).symm, fun x => Eq.trans (congrFun ?_ x) (gather8_emb _ 5 x).symm, fun x => Eq.trans (congrFun ?_ x) (gather8_emb _ 4 x).symm, fun x => Eq.trans (congrFun ?_ x) (gather8_emb _ 3 x).symm, fun x => Eq.trans (congrFun ?_ x) (gather8_emb _ 2 x).symm, fun x => Eq.trans (congrFun ?_ x) (gather8_emb _ 1 x).symm, fun x => Eq.trans (congrFun ?_ x) (gather8_emb _ 0 x).symm, trivial⟩
  all_goals
    dsimp only
    frame_open
    simp (disch := decide) only [↓ View.readCov_skip, ↓ View.readCov_cons_toLoadRect, ↓ View.readCov_fill, View.readAt_eq_ld, Memref.IsWhole.read_unread,
      read_unread_whole, View.ld_unit_lit']
    simp only [In.out, In.snew, In.mblk, In.mnew, In.kw, In.den, In.o, In.sold, In.qw, In.p, In.mt, In.inter, In.dmat, In.mold, In.brow, In.bcum, In.g,
      inF, inB, inOf, Blocks.q, Blocks.k, Blocks.va, Blocks.gcol, Blocks.grow, blkF, blkB, xsB, xmB]
    rfl

/-- What a later point of a batch element leaves in the backward output block. -/
theorem out21_B (c : Dev nD) (t : Fin cfg0.N) (h : ¬t.val % 33 = 0) :
    (outsAt0 m c t.val t.isLt).2.1 = gather8 fun hd => (inB (isCtx (grid0.coords t)) (blkB m c t) hd (xsB m c t) (xmB m c t)).out := by
  rw [outsAt0_B m c t h]
  dsimp only
  unfold out0_B_21
  rw [View.read_writes_junk_eq_canon]
  funext y
  refine View.canon_apply_of_pieces _ _ (View.PiecesOf.mem ?_) y (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨fun x => Eq.trans (congrFun ?_ x) (gather8_emb _ 7 x).symm, fun x => Eq.trans (congrFun ?_ x) (gather8_emb _ 6 x).symm, fun x => Eq.trans (congrFun ?_ x) (gather8_emb _ 5 x).symm, fun x => Eq.trans (congrFun ?_ x) (gather8_emb _ 4 x).symm, fun x => Eq.trans (congrFun ?_ x) (gather8_emb _ 3 x).symm, fun x => Eq.trans (congrFun ?_ x) (gather8_emb _ 2 x).symm, fun x => Eq.trans (congrFun ?_ x) (gather8_emb _ 1 x).symm, fun x => Eq.trans (congrFun ?_ x) (gather8_emb _ 0 x).symm, trivial⟩
  all_goals
    dsimp only
    frame_open
    simp (disch := decide) only [↓ View.readCov_skip, ↓ View.readCov_cons_toLoadRect, ↓ View.readCov_fill, View.readAt_eq_ld, Memref.IsWhole.read_unread,
      read_unread_whole, View.ld_unit_lit']
    simp only [In.out, In.snew, In.mblk, In.mnew, In.kw, In.den, In.o, In.sold, In.qw, In.p, In.mt, In.inter, In.dmat, In.mold, In.brow, In.bcum, In.g,
      inF, inB, inOf, Blocks.q, Blocks.k, Blocks.va, Blocks.gcol, Blocks.grow, blkF, blkB, xsB, xmB]
    rfl

end Cert.KernelIdeal.Body

end
-- ==== Proof.CarryA.lean ====
/-
  What a batch element's first point leaves in the two scratches: each of the sixteen stores is a head's new state or stabiliser.
-/
module

public import proofs.«01_k».proof.Proof.Head

@[expose] public section

set_option maxRecDepth 16384
set_option maxHeartbeats 8000000

noncomputable section

namespace Cert.KernelIdeal.Body

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- What a first point of a batch element leaves in the states. -/
theorem states_A (c : Dev nD) (t : Fin cfg0.N) (h : t.val % 33 = 0) :
    (outsAt0 m c t.val t.isLt).2.2.1 = stackS fun s => (inAll (isCtx (grid0.coords t)) (blkF m c t) (blkB m c t) s xsA xmA).snew := by
  rw [outsAt0_A m c t h]
  dsimp only
  unfold sout0_A_0
  rw [View.read_writes_junk_eq_canon]
  funext y
  unfold kernelRun0_A
  dsimp only
  refine View.canon_append_of_piecesOf _ [_] [_, _, _, _, _, _, _, _, _, _, _, _, _, _, _, _] ?_ y (View.cover_of_tiledL (s := S16x256x640) _ ![1, 256, 640] (by sl_kernel_rfl) y)
  refine ⟨
    fun x => Eq.trans (congrFun ?_ x) ((congrFun (congrArg In.snew (inAll_B (isCtx (grid0.coords t)) (blkF m c t) (blkB m c t) 7 xsA xmA)) x).symm.trans (stackS_emb (fun s => (inAll (isCtx (grid0.coords t)) (blkF m c t) (blkB m c t) s xsA xmA).snew) 15 x).symm),
    fun x => Eq.trans (congrFun ?_ x) ((congrFun (congrArg In.snew (inAll_B (isCtx (grid0.coords t)) (blkF m c t) (blkB m c t) 6 xsA xmA)) x).symm.trans (stackS_emb (fun s => (inAll (isCtx (grid0.coords t)) (blkF m c t) (blkB m c t) s xsA xmA).snew) 14 x).symm),
    fun x => Eq.trans (congrFun ?_ x) ((congrFun (congrArg In.snew (inAll_B (isCtx (grid0.coords t)) (blkF m c t) (blkB m c t) 5 xsA xmA)) x).symm.trans (stackS_emb (fun s => (inAll (isCtx (grid0.coords t)) (blkF m c t) (blkB m c t) s xsA xmA).snew) 13 x).symm),
    fun x => Eq.trans (congrFun ?_ x) ((congrFun (congrArg In.snew (inAll_B (isCtx (grid0.coords t)) (blkF m c t) (blkB m c t) 4 xsA xmA)) x).symm.trans (stackS_emb (fun s => (inAll (isCtx (grid0.coords t)) (blkF m c t) (blkB m c t) s xsA xmA).snew) 12 x).symm),
    fun x => Eq.trans (congrFun ?_ x) ((congrFun (congrArg In.snew (inAll_B (isCtx (grid0.coords t)) (blkF m c t) (blkB m c t) 3 xsA xmA)) x).symm.trans (stackS_emb (fun s => (inAll (isCtx (grid0.coords t)) (blkF m c t) (blkB m c t) s xsA xmA).snew) 11 x).symm),
    fun x => Eq.trans (congrFun ?_ x) ((congrFun (congrArg In.snew (inAll_B (isCtx (grid0.coords t)) (blkF m c t) (blkB m c t) 2 xsA xmA)) x).symm.trans (stackS_emb (fun s => (inAll (isCtx (grid0.coords t)) (blkF m c t) (blkB m c t) s xsA xmA).snew) 10 x).symm),
    fun x => Eq.trans (congrFun ?_ x) ((congrFun (congrArg In.snew (inAll_B (isCtx (grid0.coords t)) (blkF m c t) (blkB m c t) 1 xsA xmA)) x).symm.trans (stackS_emb (fun s => (inAll (isCtx (grid0.coords t)) (blkF m c t) (blkB m c t) s xsA xmA).snew) 9 x).symm),
    fun x => Eq.trans (congrFun ?_ x) ((congrFun (congrArg In.snew (inAll_B (isCtx (grid0.coords t)) (blkF m c t) (blkB m c t) 0 xsA xmA)) x).symm.trans (stackS_emb (fun s => (inAll (isCtx (grid0.coords t)) (blkF m c t) (blkB m c t) s xsA xmA).snew) 8 x).symm),
    fun x => Eq.trans (congrFun ?_ x) ((congrFun (congrArg In.snew (inAll_F (isCtx (grid0.coords t)) (blkF m c t) (blkB m c t) 7 xsA xmA)) x).symm.trans (stackS_emb (fun s => (inAll (isCtx (grid0.coords t)) (blkF m c t) (blkB m c t) s xsA xmA).snew) 7 x).symm),
    fun x => Eq.trans (congrFun ?_ x) ((congrFun (congrArg In.snew (inAll_F (isCtx (grid0.coords t)) (blkF m c t) (blkB m c t) 6 xsA xmA)) x).symm.trans (stackS_emb (fun s => (inAll (isCtx (grid0.coords t)) (blkF m c t) (blkB m c t) s xsA xmA).snew) 6 x).symm),
    fun x => Eq.trans (congrFun ?_ x) ((congrFun (congrArg In.snew (inAll_F (isCtx (grid0.coords t)) (blkF m c t) (blkB m c t) 5 xsA xmA)) x).symm.trans (stackS_emb (fun s => (inAll (isCtx (grid0.coords t)) (blkF m c t) (blkB m c t) s xsA xmA).snew) 5 x).symm),
    fun x => Eq.trans (congrFun ?_ x) ((congrFun (congrArg In.snew (inAll_F (isCtx (grid0.coords t)) (blkF m c t) (blkB m c t) 4 xsA xmA)) x).symm.trans (stackS_emb (fun s => (inAll (isCtx (grid0.coords t)) (blkF m c t) (blkB m c t) s xsA xmA).snew) 4 x).symm),
    fun x => Eq.trans (congrFun ?_ x) ((congrFun (congrArg In.snew (inAll_F (isCtx (grid0.coords t)) (blkF m c t) (blkB m c t) 3 xsA xmA)) x).symm.trans (stackS_emb (fun s => (inAll (isCtx (grid0.coords t)) (blkF m c t) (blkB m c t) s xsA xmA).snew) 3 x).symm),
    fun x => Eq.trans (congrFun ?_ x) ((congrFun (congrArg In.snew (inAll_F (isCtx (grid0.coords t)) (blkF m c t) (blkB m c t) 2 xsA xmA)) x).symm.trans (stackS_emb (fun s => (inAll (isCtx (grid0.coords t)) (blkF m c t) (blkB m c t) s xsA xmA).snew) 2 x).symm),
    fun x => Eq.trans (congrFun ?_ x) ((congrFun (congrArg In.snew (inAll_F (isCtx (grid0.coords t)) (blkF m c t) (blkB m c t) 1 xsA xmA)) x).symm.trans (stackS_emb (fun s => (inAll (isCtx (grid0.coords t)) (blkF m c t) (blkB m c t) s xsA xmA).snew) 1 x).symm),
    fun x => Eq.trans (congrFun ?_ x) ((congrFun (congrArg In.snew (inAll_F (isCtx (grid0.coords t)) (blkF m c t) (blkB m c t) 0 xsA xmA)) x).symm.trans (stackS_emb (fun s => (inAll (isCtx (grid0.coords t)) (blkF m c t) (blkB m c t) s xsA xmA).snew) 0 x).symm), trivial⟩
  all_goals
    dsimp only
    frame_open
    simp (disch := decide) only [↓ View.readCov_skip, ↓ View.readCov_cons_toLoadRect, ↓ View.readCov_fill, View.readAt_eq_ld, Memref.IsWhole.read_unread,
      read_unread_whole, View.ld_unit_lit']
    simp only [In.out, In.snew, In.mblk, In.mnew, In.kw, In.den, In.o, In.sold, In.qw, In.p, In.mt, In.inter, In.dmat, In.mold, In.brow, In.bcum, In.g,
      inF, inB, inOf, Blocks.q, Blocks.k, Blocks.va, Blocks.gcol, Blocks.grow, blkF, blkB, xsA, xmA]
    rfl

/-- What a first point of a batch element leaves in the stabilisers. -/
theorem stabs_A (c : Dev nD) (t : Fin cfg0.N) (h : t.val % 33 = 0) :
    (outsAt0 m c t.val t.isLt).2.2.2 = stackM fun s => (inAll (isCtx (grid0.coords t)) (blkF m c t) (blkB m c t) s xsA xmA).mblk := by
  rw [outsAt0_A m c t h]
  dsimp only
  unfold sout0_A_1
  rw [View.read_writes_junk_eq_canon]
  funext y
  unfold kernelRun0_A
  dsimp only
  refine View.canon_append_of_piecesOf _ [_] [_, _, _, _, _, _, _, _, _, _, _, _, _, _, _, _] ?_ y (View.cover_of_tiledL (s := S16x8x128) _ ![1, 8, 128] (by sl_kernel_rfl) y)
  refine ⟨
    fun x => Eq.trans (congrFun ?_ x) ((congrFun (congrArg In.mblk (inAll_B (isCtx (grid0.coords t)) (blkF m c t) (blkB m c t) 7 xsA xmA)) x).symm.trans (stackM_emb (fun s => (inAll (isCtx (grid0.coords t)) (blkF m c t) (blkB m c t) s xsA xmA).mblk) 15 x).symm),
    fun x => Eq.trans (congrFun ?_ x) ((congrFun (congrArg In.mblk (inAll_B (isCtx (grid0.coords t)) (blkF m c t) (blkB m c t) 6 xsA xmA)) x).symm.trans (stackM_emb (fun s => (inAll (isCtx (grid0.coords t)) (blkF m c t) (blkB m c t) s xsA xmA).mblk) 14 x).symm),
    fun x => Eq.trans (congrFun ?_ x) ((congrFun (congrArg In.mblk (inAll_B (isCtx (grid0.coords t)) (blkF m c t) (blkB m c t) 5 xsA xmA)) x).symm.trans (stackM_emb (fun s => (inAll (isCtx (grid0.coords t)) (blkF m c t) (blkB m c t) s xsA xmA).mblk) 13 x).symm),
    fun x => Eq.trans (congrFun ?_ x) ((congrFun (congrArg In.mblk (inAll_B (isCtx (grid0.coords t)) (blkF m c t) (blkB m c t) 4 xsA xmA)) x).symm.trans (stackM_emb (fun s => (inAll (isCtx (grid0.coords t)) (blkF m c t) (blkB m c t) s xsA xmA).mblk) 12 x).symm),
    fun x => Eq.trans (congrFun ?_ x) ((congrFun (congrArg In.mblk (inAll_B (isCtx (grid0.coords t)) (blkF m c t) (blkB m c t) 3 xsA xmA)) x).symm.trans (stackM_emb (fun s => (inAll (isCtx (grid0.coords t)) (blkF m c t) (blkB m c t) s xsA xmA).mblk) 11 x).symm),
    fun x => Eq.trans (congrFun ?_ x) ((congrFun (congrArg In.mblk (inAll_B (isCtx (grid0.coords t)) (blkF m c t) (blkB m c t) 2 xsA xmA)) x).symm.trans (stackM_emb (fun s => (inAll (isCtx (grid0.coords t)) (blkF m c t) (blkB m c t) s xsA xmA).mblk) 10 x).symm),
    fun x => Eq.trans (congrFun ?_ x) ((congrFun (congrArg In.mblk (inAll_B (isCtx (grid0.coords t)) (blkF m c t) (blkB m c t) 1 xsA xmA)) x).symm.trans (stackM_emb (fun s => (inAll (isCtx (grid0.coords t)) (blkF m c t) (blkB m c t) s xsA xmA).mblk) 9 x).symm),
    fun x => Eq.trans (congrFun ?_ x) ((congrFun (congrArg In.mblk (inAll_B (isCtx (grid0.coords t)) (blkF m c t) (blkB m c t) 0 xsA xmA)) x).symm.trans (stackM_emb (fun s => (inAll (isCtx (grid0.coords t)) (blkF m c t) (blkB m c t) s xsA xmA).mblk) 8 x).symm),
    fun x => Eq.trans (congrFun ?_ x) ((congrFun (congrArg In.mblk (inAll_F (isCtx (grid0.coords t)) (blkF m c t) (blkB m c t) 7 xsA xmA)) x).symm.trans (stackM_emb (fun s => (inAll (isCtx (grid0.coords t)) (blkF m c t) (blkB m c t) s xsA xmA).mblk) 7 x).symm),
    fun x => Eq.trans (congrFun ?_ x) ((congrFun (congrArg In.mblk (inAll_F (isCtx (grid0.coords t)) (blkF m c t) (blkB m c t) 6 xsA xmA)) x).symm.trans (stackM_emb (fun s => (inAll (isCtx (grid0.coords t)) (blkF m c t) (blkB m c t) s xsA xmA).mblk) 6 x).symm),
    fun x => Eq.trans (congrFun ?_ x) ((congrFun (congrArg In.mblk (inAll_F (isCtx (grid0.coords t)) (blkF m c t) (blkB m c t) 5 xsA xmA)) x).symm.trans (stackM_emb (fun s => (inAll (isCtx (grid0.coords t)) (blkF m c t) (blkB m c t) s xsA xmA).mblk) 5 x).symm),
    fun x => Eq.trans (congrFun ?_ x) ((congrFun (congrArg In.mblk (inAll_F (isCtx (grid0.coords t)) (blkF m c t) (blkB m c t) 4 xsA xmA)) x).symm.trans (stackM_emb (fun s => (inAll (isCtx (grid0.coords t)) (blkF m c t) (blkB m c t) s xsA xmA).mblk) 4 x).symm),
    fun x => Eq.trans (congrFun ?_ x) ((congrFun (congrArg In.mblk (inAll_F (isCtx (grid0.coords t)) (blkF m c t) (blkB m c t) 3 xsA xmA)) x).symm.trans (stackM_emb (fun s => (inAll (isCtx (grid0.coords t)) (blkF m c t) (blkB m c t) s xsA xmA).mblk) 3 x).symm),
    fun x => Eq.trans (congrFun ?_ x) ((congrFun (congrArg In.mblk (inAll_F (isCtx (grid0.coords t)) (blkF m c t) (blkB m c t) 2 xsA xmA)) x).symm.trans (stackM_emb (fun s => (inAll (isCtx (grid0.coords t)) (blkF m c t) (blkB m c t) s xsA xmA).mblk) 2 x).symm),
    fun x => Eq.trans (congrFun ?_ x) ((congrFun (congrArg In.mblk (inAll_F (isCtx (grid0.coords t)) (blkF m c t) (blkB m c t) 1 xsA xmA)) x).symm.trans (stackM_emb (fun s => (inAll (isCtx (grid0.coords t)) (blkF m c t) (blkB m c t) s xsA xmA).mblk) 1 x).symm),
    fun x => Eq.trans (congrFun ?_ x) ((congrFun (congrArg In.mblk (inAll_F (isCtx (grid0.coords t)) (blkF m c t) (blkB m c t) 0 xsA xmA)) x).symm.trans (stackM_emb (fun s => (inAll (isCtx (grid0.coords t)) (blkF m c t) (blkB m c t) s xsA xmA).mblk) 0 x).symm), trivial⟩
  all_goals
    dsimp only
    frame_open
    simp (disch := decide) only [↓ View.readCov_skip, ↓ View.readCov_cons_toLoadRect, ↓ View.readCov_fill, View.readAt_eq_ld, Memref.IsWhole.read_unread,
      read_unread_whole, View.ld_unit_lit']
    simp only [In.out, In.snew, In.mblk, In.mnew, In.kw, In.den, In.o, In.sold, In.qw, In.p, In.mt, In.inter, In.dmat, In.mold, In.brow, In.bcum, In.g,
      inF, inB, inOf, Blocks.q, Blocks.k, Blocks.va, Blocks.gcol, Blocks.grow, blkF, blkB, xsA, xmA]
    rfl

end Cert.KernelIdeal.Body

end
-- ==== Proof.CarryB.lean ====
/-
  What any later point leaves in the two scratches: each of the sixteen stores is a head's new state or stabiliser.
-/
module

public import proofs.«01_k».proof.Proof.Head

@[expose] public section

set_option maxRecDepth 16384
set_option maxHeartbeats 8000000

noncomputable section

namespace Cert.KernelIdeal.Body

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- What a later point of a batch element leaves in the states. -/
theorem states_B (c : Dev nD) (t : Fin cfg0.N) (h : ¬t.val % 33 = 0) :
    (outsAt0 m c t.val t.isLt).2.2.1 = stackS fun s => (inAll (isCtx (grid0.coords t)) (blkF m c t) (blkB m c t) s (xsB m c t) (xmB m c t)).snew := by
  rw [outsAt0_B m c t h]
  dsimp only
  unfold sout0_B_0
  rw [View.read_writes_junk_eq_canon]
  funext y
  refine View.canon_apply_of_pieces _ _ (View.PiecesOf.mem ?_) y (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨
    fun x => Eq.trans (congrFun ?_ x) ((congrFun (congrArg In.snew (inAll_B (isCtx (grid0.coords t)) (blkF m c t) (blkB m c t) 7 (xsB m c t) (xmB m c t))) x).symm.trans (stackS_emb (fun s => (inAll (isCtx (grid0.coords t)) (blkF m c t) (blkB m c t) s (xsB m c t) (xmB m c t)).snew) 15 x).symm),
    fun x => Eq.trans (congrFun ?_ x) ((congrFun (congrArg In.snew (inAll_B (isCtx (grid0.coords t)) (blkF m c t) (blkB m c t) 6 (xsB m c t) (xmB m c t))) x).symm.trans (stackS_emb (fun s => (inAll (isCtx (grid0.coords t)) (blkF m c t) (blkB m c t) s (xsB m c t) (xmB m c t)).snew) 14 x).symm),
    fun x => Eq.trans (congrFun ?_ x) ((congrFun (congrArg In.snew (inAll_B (isCtx (grid0.coords t)) (blkF m c t) (blkB m c t) 5 (xsB m c t) (xmB m c t))) x).symm.trans (stackS_emb (fun s => (inAll (isCtx (grid0.coords t)) (blkF m c t) (blkB m c t) s (xsB m c t) (xmB m c t)).snew) 13 x).symm),
    fun x => Eq.trans (congrFun ?_ x) ((congrFun (congrArg In.snew (inAll_B (isCtx (grid0.coords t)) (blkF m c t) (blkB m c t) 4 (xsB m c t) (xmB m c t))) x).symm.trans (stackS_emb (fun s => (inAll (isCtx (grid0.coords t)) (blkF m c t) (blkB m c t) s (xsB m c t) (xmB m c t)).snew) 12 x).symm),
    fun x => Eq.trans (congrFun ?_ x) ((congrFun (congrArg In.snew (inAll_B (isCtx (grid0.coords t)) (blkF m c t) (blkB m c t) 3 (xsB m c t) (xmB m c t))) x).symm.trans (stackS_emb (fun s => (inAll (isCtx (grid0.coords t)) (blkF m c t) (blkB m c t) s (xsB m c t) (xmB m c t)).snew) 11 x).symm),
    fun x => Eq.trans (congrFun ?_ x) ((congrFun (congrArg In.snew (inAll_B (isCtx (grid0.coords t)) (blkF m c t) (blkB m c t) 2 (xsB m c t) (xmB m c t))) x).symm.trans (stackS_emb (fun s => (inAll (isCtx (grid0.coords t)) (blkF m c t) (blkB m c t) s (xsB m c t) (xmB m c t)).snew) 10 x).symm),
    fun x => Eq.trans (congrFun ?_ x) ((congrFun (congrArg In.snew (inAll_B (isCtx (grid0.coords t)) (blkF m c t) (blkB m c t) 1 (xsB m c t) (xmB m c t))) x).symm.trans (stackS_emb (fun s => (inAll (isCtx (grid0.coords t)) (blkF m c t) (blkB m c t) s (xsB m c t) (xmB m c t)).snew) 9 x).symm),
    fun x => Eq.trans (congrFun ?_ x) ((congrFun (congrArg In.snew (inAll_B (isCtx (grid0.coords t)) (blkF m c t) (blkB m c t) 0 (xsB m c t) (xmB m c t))) x).symm.trans (stackS_emb (fun s => (inAll (isCtx (grid0.coords t)) (blkF m c t) (blkB m c t) s (xsB m c t) (xmB m c t)).snew) 8 x).symm),
    fun x => Eq.trans (congrFun ?_ x) ((congrFun (congrArg In.snew (inAll_F (isCtx (grid0.coords t)) (blkF m c t) (blkB m c t) 7 (xsB m c t) (xmB m c t))) x).symm.trans (stackS_emb (fun s => (inAll (isCtx (grid0.coords t)) (blkF m c t) (blkB m c t) s (xsB m c t) (xmB m c t)).snew) 7 x).symm),
    fun x => Eq.trans (congrFun ?_ x) ((congrFun (congrArg In.snew (inAll_F (isCtx (grid0.coords t)) (blkF m c t) (blkB m c t) 6 (xsB m c t) (xmB m c t))) x).symm.trans (stackS_emb (fun s => (inAll (isCtx (grid0.coords t)) (blkF m c t) (blkB m c t) s (xsB m c t) (xmB m c t)).snew) 6 x).symm),
    fun x => Eq.trans (congrFun ?_ x) ((congrFun (congrArg In.snew (inAll_F (isCtx (grid0.coords t)) (blkF m c t) (blkB m c t) 5 (xsB m c t) (xmB m c t))) x).symm.trans (stackS_emb (fun s => (inAll (isCtx (grid0.coords t)) (blkF m c t) (blkB m c t) s (xsB m c t) (xmB m c t)).snew) 5 x).symm),
    fun x => Eq.trans (congrFun ?_ x) ((congrFun (congrArg In.snew (inAll_F (isCtx (grid0.coords t)) (blkF m c t) (blkB m c t) 4 (xsB m c t) (xmB m c t))) x).symm.trans (stackS_emb (fun s => (inAll (isCtx (grid0.coords t)) (blkF m c t) (blkB m c t) s (xsB m c t) (xmB m c t)).snew) 4 x).symm),
    fun x => Eq.trans (congrFun ?_ x) ((congrFun (congrArg In.snew (inAll_F (isCtx (grid0.coords t)) (blkF m c t) (blkB m c t) 3 (xsB m c t) (xmB m c t))) x).symm.trans (stackS_emb (fun s => (inAll (isCtx (grid0.coords t)) (blkF m c t) (blkB m c t) s (xsB m c t) (xmB m c t)).snew) 3 x).symm),
    fun x => Eq.trans (congrFun ?_ x) ((congrFun (congrArg In.snew (inAll_F (isCtx (grid0.coords t)) (blkF m c t) (blkB m c t) 2 (xsB m c t) (xmB m c t))) x).symm.trans (stackS_emb (fun s => (inAll (isCtx (grid0.coords t)) (blkF m c t) (blkB m c t) s (xsB m c t) (xmB m c t)).snew) 2 x).symm),
    fun x => Eq.trans (congrFun ?_ x) ((congrFun (congrArg In.snew (inAll_F (isCtx (grid0.coords t)) (blkF m c t) (blkB m c t) 1 (xsB m c t) (xmB m c t))) x).symm.trans (stackS_emb (fun s => (inAll (isCtx (grid0.coords t)) (blkF m c t) (blkB m c t) s (xsB m c t) (xmB m c t)).snew) 1 x).symm),
    fun x => Eq.trans (congrFun ?_ x) ((congrFun (congrArg In.snew (inAll_F (isCtx (grid0.coords t)) (blkF m c t) (blkB m c t) 0 (xsB m c t) (xmB m c t))) x).symm.trans (stackS_emb (fun s => (inAll (isCtx (grid0.coords t)) (blkF m c t) (blkB m c t) s (xsB m c t) (xmB m c t)).snew) 0 x).symm), trivial⟩
  all_goals
    dsimp only
    frame_open
    simp (disch := decide) only [↓ View.readCov_skip, ↓ View.readCov_cons_toLoadRect, ↓ View.readCov_fill, View.readAt_eq_ld, Memref.IsWhole.read_unread,
      read_unread_whole, View.ld_unit_lit']
    simp only [In.out, In.snew, In.mblk, In.mnew, In.kw, In.den, In.o, In.sold, In.qw, In.p, In.mt, In.inter, In.dmat, In.mold, In.brow, In.bcum, In.g,
      inF, inB, inOf, Blocks.q, Blocks.k, Blocks.va, Blocks.gcol, Blocks.grow, blkF, blkB, xsB, xmB]
    rfl

/-- What a later point of a batch element leaves in the stabilisers. -/
theorem stabs_B (c : Dev nD) (t : Fin cfg0.N) (h : ¬t.val % 33 = 0) :
    (outsAt0 m c t.val t.isLt).2.2.2 = stackM fun s => (inAll (isCtx (grid0.coords t)) (blkF m c t) (blkB m c t) s (xsB m c t) (xmB m c t)).mblk := by
  rw [outsAt0_B m c t h]
  dsimp only
  unfold sout0_B_1
  rw [View.read_writes_junk_eq_canon]
  funext y
  refine View.canon_apply_of_pieces _ _ (View.PiecesOf.mem ?_) y (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine ⟨
    fun x => Eq.trans (congrFun ?_ x) ((congrFun (congrArg In.mblk (inAll_B (isCtx (grid0.coords t)) (blkF m c t) (blkB m c t) 7 (xsB m c t) (xmB m c t))) x).symm.trans (stackM_emb (fun s => (inAll (isCtx (grid0.coords t)) (blkF m c t) (blkB m c t) s (xsB m c t) (xmB m c t)).mblk) 15 x).symm),
    fun x => Eq.trans (congrFun ?_ x) ((congrFun (congrArg In.mblk (inAll_B (isCtx (grid0.coords t)) (blkF m c t) (blkB m c t) 6 (xsB m c t) (xmB m c t))) x).symm.trans (stackM_emb (fun s => (inAll (isCtx (grid0.coords t)) (blkF m c t) (blkB m c t) s (xsB m c t) (xmB m c t)).mblk) 14 x).symm),
    fun x => Eq.trans (congrFun ?_ x) ((congrFun (congrArg In.mblk (inAll_B (isCtx (grid0.coords t)) (blkF m c t) (blkB m c t) 5 (xsB m c t) (xmB m c t))) x).symm.trans (stackM_emb (fun s => (inAll (isCtx (grid0.coords t)) (blkF m c t) (blkB m c t) s (xsB m c t) (xmB m c t)).mblk) 13 x).symm),
    fun x => Eq.trans (congrFun ?_ x) ((congrFun (congrArg In.mblk (inAll_B (isCtx (grid0.coords t)) (blkF m c t) (blkB m c t) 4 (xsB m c t) (xmB m c t))) x).symm.trans (stackM_emb (fun s => (inAll (isCtx (grid0.coords t)) (blkF m c t) (blkB m c t) s (xsB m c t) (xmB m c t)).mblk) 12 x).symm),
    fun x => Eq.trans (congrFun ?_ x) ((congrFun (congrArg In.mblk (inAll_B (isCtx (grid0.coords t)) (blkF m c t) (blkB m c t) 3 (xsB m c t) (xmB m c t))) x).symm.trans (stackM_emb (fun s => (inAll (isCtx (grid0.coords t)) (blkF m c t) (blkB m c t) s (xsB m c t) (xmB m c t)).mblk) 11 x).symm),
    fun x => Eq.trans (congrFun ?_ x) ((congrFun (congrArg In.mblk (inAll_B (isCtx (grid0.coords t)) (blkF m c t) (blkB m c t) 2 (xsB m c t) (xmB m c t))) x).symm.trans (stackM_emb (fun s => (inAll (isCtx (grid0.coords t)) (blkF m c t) (blkB m c t) s (xsB m c t) (xmB m c t)).mblk) 10 x).symm),
    fun x => Eq.trans (congrFun ?_ x) ((congrFun (congrArg In.mblk (inAll_B (isCtx (grid0.coords t)) (blkF m c t) (blkB m c t) 1 (xsB m c t) (xmB m c t))) x).symm.trans (stackM_emb (fun s => (inAll (isCtx (grid0.coords t)) (blkF m c t) (blkB m c t) s (xsB m c t) (xmB m c t)).mblk) 9 x).symm),
    fun x => Eq.trans (congrFun ?_ x) ((congrFun (congrArg In.mblk (inAll_B (isCtx (grid0.coords t)) (blkF m c t) (blkB m c t) 0 (xsB m c t) (xmB m c t))) x).symm.trans (stackM_emb (fun s => (inAll (isCtx (grid0.coords t)) (blkF m c t) (blkB m c t) s (xsB m c t) (xmB m c t)).mblk) 8 x).symm),
    fun x => Eq.trans (congrFun ?_ x) ((congrFun (congrArg In.mblk (inAll_F (isCtx (grid0.coords t)) (blkF m c t) (blkB m c t) 7 (xsB m c t) (xmB m c t))) x).symm.trans (stackM_emb (fun s => (inAll (isCtx (grid0.coords t)) (blkF m c t) (blkB m c t) s (xsB m c t) (xmB m c t)).mblk) 7 x).symm),
    fun x => Eq.trans (congrFun ?_ x) ((congrFun (congrArg In.mblk (inAll_F (isCtx (grid0.coords t)) (blkF m c t) (blkB m c t) 6 (xsB m c t) (xmB m c t))) x).symm.trans (stackM_emb (fun s => (inAll (isCtx (grid0.coords t)) (blkF m c t) (blkB m c t) s (xsB m c t) (xmB m c t)).mblk) 6 x).symm),
    fun x => Eq.trans (congrFun ?_ x) ((congrFun (congrArg In.mblk (inAll_F (isCtx (grid0.coords t)) (blkF m c t) (blkB m c t) 5 (xsB m c t) (xmB m c t))) x).symm.trans (stackM_emb (fun s => (inAll (isCtx (grid0.coords t)) (blkF m c t) (blkB m c t) s (xsB m c t) (xmB m c t)).mblk) 5 x).symm),
    fun x => Eq.trans (congrFun ?_ x) ((congrFun (congrArg In.mblk (inAll_F (isCtx (grid0.coords t)) (blkF m c t) (blkB m c t) 4 (xsB m c t) (xmB m c t))) x).symm.trans (stackM_emb (fun s => (inAll (isCtx (grid0.coords t)) (blkF m c t) (blkB m c t) s (xsB m c t) (xmB m c t)).mblk) 4 x).symm),
    fun x => Eq.trans (congrFun ?_ x) ((congrFun (congrArg In.mblk (inAll_F (isCtx (grid0.coords t)) (blkF m c t) (blkB m c t) 3 (xsB m c t) (xmB m c t))) x).symm.trans (stackM_emb (fun s => (inAll (isCtx (grid0.coords t)) (blkF m c t) (blkB m c t) s (xsB m c t) (xmB m c t)).mblk) 3 x).symm),
    fun x => Eq.trans (congrFun ?_ x) ((congrFun (congrArg In.mblk (inAll_F (isCtx (grid0.coords t)) (blkF m c t) (blkB m c t) 2 (xsB m c t) (xmB m c t))) x).symm.trans (stackM_emb (fun s => (inAll (isCtx (grid0.coords t)) (blkF m c t) (blkB m c t) s (xsB m c t) (xmB m c t)).mblk) 2 x).symm),
    fun x => Eq.trans (congrFun ?_ x) ((congrFun (congrArg In.mblk (inAll_F (isCtx (grid0.coords t)) (blkF m c t) (blkB m c t) 1 (xsB m c t) (xmB m c t))) x).symm.trans (stackM_emb (fun s => (inAll (isCtx (grid0.coords t)) (blkF m c t) (blkB m c t) s (xsB m c t) (xmB m c t)).mblk) 1 x).symm),
    fun x => Eq.trans (congrFun ?_ x) ((congrFun (congrArg In.mblk (inAll_F (isCtx (grid0.coords t)) (blkF m c t) (blkB m c t) 0 (xsB m c t) (xmB m c t))) x).symm.trans (stackM_emb (fun s => (inAll (isCtx (grid0.coords t)) (blkF m c t) (blkB m c t) s (xsB m c t) (xmB m c t)).mblk) 0 x).symm), trivial⟩
  all_goals
    dsimp only
    frame_open
    simp (disch := decide) only [↓ View.readCov_skip, ↓ View.readCov_cons_toLoadRect, ↓ View.readCov_fill, View.readAt_eq_ld, Memref.IsWhole.read_unread,
      read_unread_whole, View.ld_unit_lit']
    simp only [In.out, In.snew, In.mblk, In.mnew, In.kw, In.den, In.o, In.sold, In.qw, In.p, In.mt, In.inter, In.dmat, In.mold, In.brow, In.bcum, In.g,
      inF, inB, inOf, Blocks.q, Blocks.k, Blocks.va, Blocks.gcol, Blocks.grow, blkF, blkB, xsB, xmB]
    rfl

end Cert.KernelIdeal.Body

end
-- ==== Proof.KernelScan.lean ====
/-
  What the kernel holds after every point: the scratches hold every head's state and stabiliser after the chunk, the output blocks
  every head's outputs at its rows.
-/
module

public import proofs.«01_k».proof.Proof.KernelChunk
public import proofs.«01_k».proof.Proof.OutsA
public import proofs.«01_k».proof.Proof.OutsB
public import proofs.«01_k».proof.Proof.CarryA
public import proofs.«01_k».proof.Proof.CarryB

@[expose] public section

set_option maxRecDepth 16384

noncomputable section

namespace Cert.KernelIdeal.Body

open Idealize.ShloMosaic Idealize.ShloMosaic.TcCoe Idealize.SL.Sem
open Cert.KernelIdeal Cert.KernelIdeal.Gen Cert.Scan

variable (m : (ℓ : Loc nD τ sig) → Buf (Elt Ideal) ℓ)

/-- Every entry of the four inputs is a real number. -/
structure Real4 (c : Dev nD) : Prop where
  qc : AllReal (Qc m c)
  gc : AllReal (Gc m c)
  ql : AllReal (Ql m c)
  gl : AllReal (Gl m c)

/-- The lane of a direction, a batch element and a head, from the four inputs. -/
abbrev laneOf (c : Dev nD) (back : Bool) (b : Fin 2) (h : Fin 8) : Lane := lane (Qc m c) (Gc m c) (Ql m c) (Gl m c) back b h

/-- The scratches hold the states and the stabilisers after `n` tokens. -/
structure Carried (c : Dev nD) (b : Fin 2) (n : ℕ) (xs : Vec Ideal S16x256x640 .f32) (xm : Vec Ideal S16x8x128 .f32) : Prop where
  sF : ∀ (h : Fin 8) (d : Fin 256) (j : Fin 640), xs (ix3 ⟨h.val, by omega⟩ d j) = (((laneOf m c false b h).S n d j : ℝ) : EReal)
  sB : ∀ (h : Fin 8) (d : Fin 256) (j : Fin 640), xs (ix3 ⟨8 + h.val, by omega⟩ d j) = (((laneOf m c true b h).S n d j : ℝ) : EReal)
  mF : ∀ (h : Fin 8) (a : Fin 8) (l : Fin 128), xm (ix3 ⟨h.val, by omega⟩ a l) = (((laneOf m c false b h).M n : ℝ) : EReal)
  mB : ∀ (h : Fin 8) (a : Fin 8) (l : Fin 128), xm (ix3 ⟨8 + h.val, by omega⟩ a l) = (((laneOf m c true b h).M n : ℝ) : EReal)

variable {m}

theorem readsF {c : Dev nD} (hr : Real4 m c) (t : Fin cfg0.N) {xs : Vec Ideal S16x256x640 .f32} {xm : Vec Ideal S16x8x128 .f32}
    (hc : Carried m c (bt t) (256 * (t.val % 33)) xs xm) (h : Fin 8) :
    Reads (inF (isCtx (grid0.coords t)) (blkF m c t) h xs xm) (order 256 false) (laneOf m c false (bt t) h) (256 * (t.val % 33)) :=
  reads (blkF_chunk m c t) hr.qc hr.gc hr.ql hr.gl lower upper (fun r k => lower_apply r k) (fun r k => upper_apply r k) h _ _
    (by simp) (by simp) _ xs xm (hc.sF h) (hc.mF h)

theorem readsB {c : Dev nD} (hr : Real4 m c) (t : Fin cfg0.N) {xs : Vec Ideal S16x256x640 .f32} {xm : Vec Ideal S16x8x128 .f32}
    (hc : Carried m c (bt t) (256 * (t.val % 33)) xs xm) (h : Fin 8) :
    Reads (inB (isCtx (grid0.coords t)) (blkB m c t) h xs xm) (order 256 true) (laneOf m c true (bt t) h) (256 * (t.val % 33)) :=
  reads (blkB_chunk m c t) hr.qc hr.gc hr.ql hr.gl upper lower
    (fun r k => (upper_apply r k).trans (if_congr (by show r ≤ k ↔ Fin.rev k ≤ Fin.rev r; exact Fin.rev_le_rev.symm) rfl rfl))
    (fun r k => (lower_apply r k).trans (if_congr (by show k ≤ r ↔ Fin.rev r ≤ Fin.rev k; exact Fin.rev_le_rev.symm) rfl rfl)) h _ _
    (by simp) (by simp) _ xs xm (hc.sB h) (hc.mB h)

theorem zeros_carried (m : (ℓ : Loc nD τ sig) → Buf (Elt Ideal) ℓ) (c : Dev nD) (b : Fin 2) : Carried m c b 0 xsA xmA := by
  have h1 : ∀ y, (xsA (F := Ideal)) y = 0 := fun y => by unfold xsA k0_pay3; pointwise
  have h2 : ∀ y, (xmA (F := Ideal)) y = 0 := fun y => by unfold xmA k0_pay4; pointwise
  constructor <;> intros
  · rw [h1]; simp [Lane.S]
  · rw [h1]; simp [Lane.S]
  · rw [h2]; simp [Lane.M]
  · rw [h2]; simp [Lane.M]

theorem stackS_apply (f : Fin 16 → Vec Ideal S1x256x640 .f32) (s : Fin 16) (d : Fin 256) (j : Fin 640) : stackS f (ix3 s d j) = f s (ix3 0 d j) :=
  congrArg (f s) (funext fun a => match a with | ⟨0, _⟩ => rfl | ⟨1, _⟩ => rfl | ⟨2, _⟩ => rfl)

theorem stackM_apply (f : Fin 16 → Vec Ideal S1x8x128 .f32) (s : Fin 16) (d : Fin 8) (j : Fin 128) : stackM f (ix3 s d j) = f s (ix3 0 d j) :=
  congrArg (f s) (funext fun a => match a with | ⟨0, _⟩ => rfl | ⟨1, _⟩ => rfl | ⟨2, _⟩ => rfl)

/-- One point carries the states and stabilisers over its chunk. -/
theorem step_carried {c : Dev nD} (hr : Real4 m c) (t : Fin cfg0.N) {xs : Vec Ideal S16x256x640 .f32} {xm : Vec Ideal S16x8x128 .f32}
    (hc : Carried m c (bt t) (256 * (t.val % 33)) xs xm) :
    Carried m c (bt t) (256 * (t.val % 33 + 1))
      (stackS fun s => (inAll (isCtx (grid0.coords t)) (blkF m c t) (blkB m c t) s xs xm).snew)
      (stackM fun s => (inAll (isCtx (grid0.coords t)) (blkF m c t) (blkB m c t) s xs xm).mblk) := by
  have hn : 256 * (t.val % 33 + 1) = 256 * (t.val % 33) + 256 := by omega
  rw [hn]
  constructor
  · intro h d j
    rw [stackS_apply, inAll_F]
    exact snew_eq' (readsF hr t hc h) d j 0
  · intro h d j
    rw [stackS_apply, inAll_B]
    exact snew_eq' (readsB hr t hc h) d j 0
  · intro h d j
    rw [stackM_apply, inAll_F]
    exact mblk_eq (readsF hr t hc h) 0 d j
  · intro h d j
    rw [stackM_apply, inAll_B]
    exact mblk_eq (readsB hr t hc h) 0 d j

/-- The states and stabilisers the points leave. -/
theorem carried {c : Dev nD} (hr : Real4 m c) : ∀ (n : ℕ) (hn : n < cfg0.N),
    Carried m c (bt ⟨n, hn⟩) (256 * (n % 33 + 1)) (outsAt0 m c n hn).2.2.1 (outsAt0 m c n hn).2.2.2 := by
  intro n
  induction n with
  | zero =>
    intro hn
    rw [states_A m c ⟨0, hn⟩ rfl, stabs_A m c ⟨0, hn⟩ rfl]
    exact step_carried hr ⟨0, hn⟩ (zeros_carried m c _)
  | succ n ih =>
    intro hn
    by_cases h : (n + 1) % 33 = 0
    · rw [states_A m c ⟨n + 1, hn⟩ h, stabs_A m c ⟨n + 1, hn⟩ h]
      refine step_carried hr ⟨n + 1, hn⟩ ?_
      rw [show 256 * ((n + 1) % 33) = 0 from by omega]
      exact zeros_carried m c _
    · rw [states_B m c ⟨n + 1, hn⟩ h, stabs_B m c ⟨n + 1, hn⟩ h]
      refine step_carried hr ⟨n + 1, hn⟩ ?_
      have hb : bt ⟨n + 1, hn⟩ = bt ⟨n, by omega⟩ := Fin.ext (by show (n + 1) / 33 = n / 33; omega)
      rw [hb, show 256 * ((n + 1) % 33) = 256 * (n % 33 + 1) from by omega]
      exact ih (by omega)

theorem gather8_apply (f : Fin 8 → Vec Ideal S1x256x512 .bf16) (r : Fin 256) (j : Fin 4096) :
    gather8 f (ix3 0 r j) = f ⟨j.val / 512, by omega⟩ (ix3 0 r ⟨j.val % 512, by omega⟩) :=
  congrArg (f _) (funext fun a => match a with | ⟨0, _⟩ => rfl | ⟨1, _⟩ => rfl | ⟨2, _⟩ => rfl)

/-- The forward output block after a point. -/
theorem out20 {c : Dev nD} (hr : Real4 m c) (t : Fin cfg0.N) (r : Fin 256) (j : Fin 4096) :
    (outsAt0 m c t.val t.isLt).1 (ix3 0 r j)
      = (((laneOf m c false (bt t) ⟨j.val / 512, by omega⟩).H (256 * (t.val % 33) + order 256 false r) (j.val % 512) : ℝ) : EReal) := by
  by_cases h : t.val % 33 = 0
  · rw [out20_A m c t h, gather8_apply]
    refine out_eq (readsF hr t ?_ _) 0 r ⟨j.val % 512, by omega⟩
    rw [h]
    exact zeros_carried m c _
  · rw [out20_B m c t h, gather8_apply]
    refine out_eq (readsF hr t ?_ _) 0 r ⟨j.val % 512, by omega⟩
    have hb : bt t = bt ⟨t.val - 1, by omega⟩ := Fin.ext (by show t.val / 33 = (t.val - 1) / 33; omega)
    rw [hb, show 256 * (t.val % 33) = 256 * ((t.val - 1) % 33 + 1) from by omega]
    exact carried hr (t.val - 1) _

/-- The backward output block after a point. -/
theorem out21 {c : Dev nD} (hr : Real4 m c) (t : Fin cfg0.N) (r : Fin 256) (j : Fin 4096) :
    (outsAt0 m c t.val t.isLt).2.1 (ix3 0 r j)
      = (((laneOf m c true (bt t) ⟨j.val / 512, by omega⟩).H (256 * (t.val % 33) + order 256 true r) (j.val % 512) : ℝ) : EReal) := by
  by_cases h : t.val % 33 = 0
  · rw [out21_A m c t h, gather8_apply]
    refine out_eq (readsB hr t ?_ _) 0 r ⟨j.val % 512, by omega⟩
    rw [h]
    exact zeros_carried m c _
  · rw [out21_B m c t h, gather8_apply]
    refine out_eq (readsB hr t ?_ _) 0 r ⟨j.val % 512, by omega⟩
    have hb : bt t = bt ⟨t.val - 1, by omega⟩ := Fin.ext (by show t.val / 33 = (t.val - 1) / 33; omega)
    rw [hb, show 256 * (t.val % 33) = 256 * ((t.val - 1) % 33 + 1) from by omega]
    exact carried hr (t.val - 1) _

end Cert.KernelIdeal.Body

end
-- ==== Proof.KernelArray.lean ====
/-
  What the kernel's two result arrays hold: at every latent token and every column, the output of the column's head.
-/
module

public import proofs.«01_k».proof.Proof.KernelScan

@[expose] public section

set_option maxRecDepth 16384

noncomputable section

namespace Cert.KernelIdeal.Body

open Idealize.ShloMosaic Idealize.ShloMosaic.TcCoe Idealize.SL.Sem
open Cert.KernelIdeal Cert.KernelIdeal.Gen Cert.Scan

variable {m : (ℓ : Loc nD τ sig) → Buf (Elt Ideal) ℓ}

theorem flush_20 : ∀ t : Fin cfg0.N, (cfg0.win 20).flush t = true → ¬ t.val % 33 = 0 := by decide +kernel
theorem flush_21 : ∀ t : Fin cfg0.N, (cfg0.win 21).flush t = true → ¬ t.val % 33 = 0 := by decide +kernel

/-- The forward outputs. -/
def HF (m : (ℓ : Loc nD τ sig) → Buf (Elt Ideal) ℓ) (c : Dev nD) : Vec Ideal S2x8192x4096 .bf16 := fun y =>
  (((laneOf m c false (y 0) ⟨(y 2).val / 512, by have : (y 2).val < 4096 := (y 2).isLt; omega⟩).H (256 + (y 1).val) ((y 2).val % 512) : ℝ) : EReal)

/-- The backward outputs. -/
def HB (m : (ℓ : Loc nD τ sig) → Buf (Elt Ideal) ℓ) (c : Dev nD) : Vec Ideal S2x8192x4096 .bf16 := fun y =>
  (((laneOf m c true (y 0) ⟨(y 2).val / 512, by have : (y 2).val < 4096 := (y 2).isLt; omega⟩).H (8447 - (y 1).val) ((y 2).val % 512) : ℝ) : EReal)

/-- The forward result array. -/
theorem array20 {c : Dev nD} (hr : Real4 m c) : (dats m 0 c).arrAt 20 cfg0.N = HF m c := by
  refine (dats m 0 c).arrAt_eq_of_covers 20 _ (by decide +kernel) fun t hf y => ?_
  have h0 := flush_20 t hf
  obtain ⟨-, -, -, -, -, e⟩ := idx_fwd t
  have hy0 : (y 0).val < 1 := (y 0).isLt
  have hy1 : (y 1).val < 256 := (y 1).isLt
  have hy2 : (y 2).val < 4096 := (y 2).isLt
  have ht : t.val < 66 := t.isLt
  have hemb : ((cfg0.win 20).blk t).view.emb y = ix3 (bt t) ⟨256 * (t.val % 33 - 1) + (y 1).val, by omega⟩ ⟨(y 2).val, hy2⟩ := by
    blk_ext [e, bt]
  rw [hemb]
  blk_simp
  rw [after0_20]
  have hy : (outsAt0 m c t.val t.isLt).1 y = (outsAt0 m c t.val t.isLt).1 (ix3 0 ⟨(y 1).val, hy1⟩ ⟨(y 2).val, hy2⟩) :=
    congrArg _ (funext fun a => match a with
      | ⟨0, _⟩ => Fin.ext (by show (y 0).val = 0; omega)
      | ⟨1, _⟩ => rfl
      | ⟨2, _⟩ => rfl)
  refine hy.trans ((out20 hr t ⟨(y 1).val, hy1⟩ ⟨(y 2).val, hy2⟩).trans ?_)
  show _ = (((laneOf m c false (bt t) ⟨(y 2).val / 512, _⟩).H (256 + (256 * (t.val % 33 - 1) + (y 1).val)) ((y 2).val % 512) : ℝ) : EReal)
  have e1 : 256 * (t.val % 33) + (order 256 false ⟨(y 1).val, hy1⟩ : ℕ) = 256 + (256 * (t.val % 33 - 1) + (y 1).val) := by
    show 256 * (t.val % 33) + (y 1).val = _; omega
  rw [e1]

/-- The backward result array. -/
theorem array21 {c : Dev nD} (hr : Real4 m c) : (dats m 0 c).arrAt 21 cfg0.N = HB m c := by
  refine (dats m 0 c).arrAt_eq_of_covers 21 _ (by decide +kernel) fun t hf y => ?_
  have h0 := flush_21 t hf
  obtain ⟨-, -, -, -, -, e⟩ := idx_bwd t
  have hy0 : (y 0).val < 1 := (y 0).isLt
  have hy1 : (y 1).val < 256 := (y 1).isLt
  have hy2 : (y 2).val < 4096 := (y 2).isLt
  have ht : t.val < 66 := t.isLt
  have hemb : ((cfg0.win 21).blk t).view.emb y = ix3 (bt t) ⟨256 * (31 - (t.val % 33 - 1)) + (y 1).val, by omega⟩ ⟨(y 2).val, hy2⟩ := by
    blk_ext [e, bt]
  rw [hemb]
  blk_simp
  rw [after0_21]
  have hy : (outsAt0 m c t.val t.isLt).2.1 y = (outsAt0 m c t.val t.isLt).2.1 (ix3 0 ⟨(y 1).val, hy1⟩ ⟨(y 2).val, hy2⟩) :=
    congrArg _ (funext fun a => match a with
      | ⟨0, _⟩ => Fin.ext (by show (y 0).val = 0; omega)
      | ⟨1, _⟩ => rfl
      | ⟨2, _⟩ => rfl)
  refine hy.trans ((out21 hr t ⟨(y 1).val, hy1⟩ ⟨(y 2).val, hy2⟩).trans ?_)
  show _ = (((laneOf m c true (bt t) ⟨(y 2).val / 512, _⟩).H (8447 - (256 * (31 - (t.val % 33 - 1)) + (y 1).val)) ((y 2).val % 512) : ℝ) : EReal)
  have e1 : 256 * (t.val % 33) + (order 256 true ⟨(y 1).val, hy1⟩ : ℕ) = 8447 - (256 * (31 - (t.val % 33 - 1)) + (y 1).val) := by
    show 256 * (t.val % 33) + (Fin.rev (⟨(y 1).val, hy1⟩ : Fin 256)).val = _; rw [Fin.val_rev]; show 256 * (t.val % 33) + (256 - ((y 1).val + 1)) = _; omega
  rw [e1]

end Cert.KernelIdeal.Body

end
-- ==== Proof.RefCumsum.lean ====
/-
  The reference's cumulative sum, which it takes as a sum over windows of a chunk padded below, read at one place.
-/
module

public import proofs.«01_k».proof.Proof.Lanes
public import Idealize.ShloMosaic.Lib.Pointwise

@[expose] public section

set_option maxRecDepth 16384

noncomputable section

namespace Cert.Scan

open Idealize.ShloMosaic

/-- A left fold that adds `g n` at each position of a list of all of `Fin N` is the sum of `g`. -/
theorem foldl_finRange {N : ℕ} (g : Fin N → EReal) : (List.finRange N).foldl (fun r n => r + g n) 0 = ∑ n, g n := by
  rw [← List.sum_ofFn, List.ofFn_eq_map, List.sum_eq_foldl, List.foldl_map]

/-- The indices of a `[1, 1, N]` array are the positions on its last axis. -/
def lastAxis (N : ℕ) : (⟨3, ![1, 1, N]⟩ : Shape).Idx ≃ Fin N where
  toFun w := w 2
  invFun c := Idealize.ShloMosaic.ix3 0 0 c
  left_inv w := by
    funext a
    match a with
    | ⟨0, _⟩ => exact Subsingleton.elim (α := Fin 1) _ _
    | ⟨1, _⟩ => exact Subsingleton.elim (α := Fin 1) _ _
    | ⟨2, _⟩ => rfl
  right_inv c := rfl

/-- Summing what a window of 128 that ends at `r` covers is summing the entries up to `r`. -/
theorem window_sum (x : Fin 128 → EReal) (r : Fin 128) :
    (∑ w : Fin 128, if h : 127 ≤ r.val + w.val then x ⟨r.val + w.val - 127, by omega⟩ else 0) = ∑ c : Fin 128, if c ≤ r then x c else 0 := by
  rw [← Finset.sum_filter]
  have e : (∑ w : Fin 128, if h : 127 ≤ r.val + w.val then x ⟨r.val + w.val - 127, by omega⟩ else 0)
      = ∑ w ∈ Finset.univ.filter (fun w : Fin 128 => 127 ≤ r.val + w.val), x ⟨r.val + w.val - 127, by omega⟩ := by
    rw [Finset.sum_filter]
    exact Finset.sum_congr rfl fun w _ => by split <;> rfl
  rw [e]
  refine Finset.sum_nbij' (fun w => ⟨r.val + w.val - 127, by omega⟩) (fun c => ⟨(c.val + 127 - r.val) % 128, Nat.mod_lt _ (by decide)⟩) ?_ ?_ ?_ ?_ ?_
  · intro w hw
    simp only [Finset.mem_filter, Finset.mem_univ, true_and, Fin.le_def] at hw ⊢
    omega
  · intro c hc
    simp only [Finset.mem_filter, Finset.mem_univ, true_and, Fin.le_def] at hc ⊢
    omega
  · intro w hw
    simp only [Finset.mem_filter, Finset.mem_univ, true_and] at hw
    apply Fin.ext
    show (r.val + w.val - 127 + 127 - r.val) % 128 = w.val
    omega
  · intro c hc
    simp only [Finset.mem_filter, Finset.mem_univ, true_and, Fin.le_def] at hc
    apply Fin.ext
    show r.val + (c.val + 127 - r.val) % 128 - 127 = c.val
    omega
  · intro w _
    rfl

/-- The cumulative sum along the last axis: the entry at `r` is the sum of the entries up to `r`. -/
theorem cumsum_apply {A B : ℕ} {u : Shape} (x : FVec Ideal ⟨3, ![A, B, 128]⟩ .f32) (init : u.Idx → Ideal .f32) (h0 : ∀ y, init y = (0 : EReal))
    (h : (⟨3, ![A, B, 128]⟩ : Shape).ReduceWindows ![1, 1, 128] ![1, 1, 1] ![0, 0, 127] ![0, 0, 0] ⟨3, ![A, B, 128]⟩) (hu : 0 < u.numel)
    (a : Fin A) (b : Fin B) (r : Fin 128) :
    Host.reduceWindowAdd ![1, 1, 128] ![1, 1, 1] ![0, 0, 127] ![0, 0, 0] x init h hu (Idealize.ShloMosaic.ix3 a b r)
      = ∑ c : Fin 128, if c ≤ r then (x (Idealize.ShloMosaic.ix3 a b c) : EReal) else 0 := by
  rw [← window_sum]
  show Host.reduceWindow (· + ·) _ _ _ _ x (fun _ : (⟨0, ![]⟩ : Shape).Idx => init (Shape.Idx.first hu)) h (by decide) (Idealize.ShloMosaic.ix3 a b r) = _
  unfold Host.reduceWindow
  dsimp only
  rw [h0]
  refine (foldl_finRange _).trans ?_
  refine (Finset.sum_congr rfl fun n _ => ?_).trans ((Equiv.sum_comp (⟨3, ![1, 1, 128]⟩ : Shape).rowMajor.symm (fun w : (⟨3, ![1, 1, 128]⟩ : Shape).Idx =>
    if hin : ∀ i : Fin 3, (![0, 0, 127] : Fin 3 → ℕ) i ≤ ((Idealize.ShloMosaic.ix3 a b r : (⟨3, ![A, B, 128]⟩ : Shape).Idx) (i.cast h.1.symm)).val * (![1, 1, 1] : Fin 3 → ℕ) i + (w i).val
        ∧ ((Idealize.ShloMosaic.ix3 a b r : (⟨3, ![A, B, 128]⟩ : Shape).Idx) (i.cast h.1.symm)).val * (![1, 1, 1] : Fin 3 → ℕ) i + (w i).val - (![0, 0, 127] : Fin 3 → ℕ) i < (![A, B, 128] : Fin 3 → ℕ) i
      then (x (fun i => ⟨((Idealize.ShloMosaic.ix3 a b r : (⟨3, ![A, B, 128]⟩ : Shape).Idx) (i.cast h.1.symm)).val * (![1, 1, 1] : Fin 3 → ℕ) i + (w i).val - (![0, 0, 127] : Fin 3 → ℕ) i, (hin i).2⟩) : EReal) else 0)).trans ?_)
  · split <;> rfl
  rw [← Equiv.sum_comp (lastAxis 128).symm]
  refine Finset.sum_congr rfl fun w _ => ?_
  by_cases hw : 127 ≤ r.val + w.val
  · have hin : ∀ i : Fin 3, (![0, 0, 127] : Fin 3 → ℕ) i ≤ ((Idealize.ShloMosaic.ix3 a b r : (⟨3, ![A, B, 128]⟩ : Shape).Idx) (i.cast h.1.symm)).val * (![1, 1, 1] : Fin 3 → ℕ) i + (((lastAxis 128).symm w) i).val
        ∧ ((Idealize.ShloMosaic.ix3 a b r : (⟨3, ![A, B, 128]⟩ : Shape).Idx) (i.cast h.1.symm)).val * (![1, 1, 1] : Fin 3 → ℕ) i + (((lastAxis 128).symm w) i).val - (![0, 0, 127] : Fin 3 → ℕ) i < (![A, B, 128] : Fin 3 → ℕ) i := by
      intro i
      match i with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 127 ≤ r.val * 1 + w.val ∧ r.val * 1 + w.val - 127 < 128; omega
    rw [dif_pos hw, dif_pos hin]
    refine congrArg x (funext fun i => Fin.ext ?_)
    match i with
    | ⟨0, _⟩ => show a.val * 1 + 0 - 0 = a.val; omega
    | ⟨1, _⟩ => show b.val * 1 + 0 - 0 = b.val; omega
    | ⟨2, _⟩ => show r.val * 1 + w.val - 127 = r.val + w.val - 127; omega
  · rw [dif_neg hw, dif_neg]
    intro hin
    have h2 : 127 ≤ r.val * 1 + w.val := (hin 2).1
    omega

end Cert.Scan

end
-- ==== Proof.RefChunk.lean ====
/-
  One trip of the reference's scan over the extended reals: when the carried buffers hold the lanes' states before a chunk,
  the values that the trip makes are the chunk's.
-/
module

public import proofs.«01_k».proof.Proof.RefCumsum
public import proofs.«01_k».proof.Proof.Recurrence
public import proofs.«01_k».proof.Proof.Gen.ReferenceIdeal.Run
public import Idealize.ShloMosaic.Lib.DynamicIndex

@[expose] public section

set_option maxRecDepth 16384

noncomputable section

namespace Cert.ReferenceIdeal.Scan

open Idealize.ShloMosaic Idealize.ShloMosaic.TcCoe Idealize.SL.Sem
open Cert.ReferenceIdeal Cert.ReferenceIdeal.Gen Cert.ReferenceIdeal.Value Cert.Scan

/-- The carried buffers hold the lanes `L`, one per row and head, and their states before chunk `i`, as well as the outputs of
    the chunks before it. -/
structure Holds (V : Valuation τ sig (Elt Ideal)) (L : Fin 4 → Fin 8 → Lane) (i : ℕ) : Prop where
  ctr : V (Proc.devRef .tc main_v52_6) = fun _ => BitVec.ofNat 32 i
  q : ∀ (k : Fin 66) (ρ : Fin 4) (h : Fin 8) (r : Fin 128) (d : Fin 256),
    V (Proc.devRef .tc main_v52_0) (ix5 k ρ h r d) = (((L ρ h).q (128 * k + r) d : ℝ) : EReal)
  k : ∀ (k : Fin 66) (ρ : Fin 4) (h : Fin 8) (r : Fin 128) (d : Fin 256),
    V (Proc.devRef .tc main_v52_1) (ix5 k ρ h r d) = (((L ρ h).k (128 * k + r) d : ℝ) : EReal)
  v : ∀ (k : Fin 66) (ρ : Fin 4) (h : Fin 8) (r : Fin 128) (j : Fin 512),
    V (Proc.devRef .tc main_v52_2) (ix5 k ρ h r j) = (((L ρ h).v (128 * k + r) j : ℝ) : EReal)
  ig : ∀ (k : Fin 66) (ρ : Fin 4) (h : Fin 8) (r : Fin 128),
    V (Proc.devRef .tc main_v52_3) (ix4 k ρ h r) = (((L ρ h).i (128 * k + r) : ℝ) : EReal)
  lf : ∀ (k : Fin 66) (ρ : Fin 4) (h : Fin 8) (r : Fin 128),
    V (Proc.devRef .tc main_v52_4) (ix4 k ρ h r) = (((L ρ h).f (128 * k + r) : ℝ) : EReal)
  tril : ∀ r c : Fin 128, V (Proc.devRef .tc main_v52_5) (ix2 r c) = if c ≤ r then 1#1 else 0#1
  C : ∀ (ρ : Fin 4) (h : Fin 8) (j : Fin 512) (d : Fin 256),
    V (Proc.devRef .tc main_v52_7) (ix4 ρ h j d) = (((L ρ h).S (128 * i) d j : ℝ) : EReal)
  n : ∀ (ρ : Fin 4) (h : Fin 8) (d : Fin 256),
    V (Proc.devRef .tc main_v52_8) (ix3 ρ h d) = (((L ρ h).S (128 * i) d 512 : ℝ) : EReal)
  m : ∀ (ρ : Fin 4) (h : Fin 8), V (Proc.devRef .tc main_v52_9) (ix2 ρ h) = (((L ρ h).M (128 * i) : ℝ) : EReal)
  hs : ∀ (k : Fin 66) (ρ : Fin 4) (h : Fin 8) (r : Fin 128) (j : Fin 512), k.val < i →
    V (Proc.devRef .tc main_v52_10) (ix5 k ρ h r j) = (((L ρ h).H (128 * k + r) j : ℝ) : EReal)

/-- The clamped start of a chunk read at counter `i` on the chunk axis. -/
theorem toInt_ofNat {i : ℕ} (hi : i < 66) : (BitVec.ofNat 32 i).toInt = (i : ℤ) := by
  interval_cases i <;> rfl

/-- A chunk of a five-axis stack, read at counter `i`. -/
theorem slice5 {α : Type} {D : ℕ} (x : (⟨5, ![66, 4, 8, 128, D]⟩ : Shape).Idx → α) {i : ℕ} (hi : i < 66) (start : Fin 5 → ℤ)
    (h0 : start 0 = i) (h1 : start 1 = 0) (h2 : start 2 = 0) (h3 : start 3 = 0) (h4 : start 4 = 0)
    (h : (⟨5, ![66, 4, 8, 128, D]⟩ : Shape).Slices (fun _ => 0) ⟨5, ![1, 4, 8, 128, D]⟩)
    (hc : (⟨5, ![1, 4, 8, 128, D]⟩ : Shape).ShapeCasts ⟨4, ![4, 8, 128, D]⟩) (ρ : Fin 4) (hd : Fin 8) (r : Fin 128) (d : Fin D)
    (hcast : ∀ y : (⟨5, ![1, 4, 8, 128, D]⟩ : Shape).Idx → α, shapeCast ⟨4, ![4, 8, 128, D]⟩ y hc (ix4 ρ hd r d) = y (ix5 0 ρ hd r d)) :
    shapeCast ⟨4, ![4, 8, 128, D]⟩ (Host.dynamicSlice ⟨5, ![1, 4, 8, 128, D]⟩ x start h) hc (ix4 ρ hd r d) = x (ix5 (⟨i, hi⟩ : Fin 66) ρ hd r d) := by
  rw [Host.dynamicSlice_eq_extractStridedSlice _ x start ![i, 0, 0, 0, 0] h ⟨rfl, fun a => by
    match a with
    | ⟨0, _⟩ => show i + 1 ≤ 66; omega
    | ⟨1, _⟩ => show 0 + 4 ≤ 4; omega
    | ⟨2, _⟩ => show 0 + 8 ≤ 8; omega
    | ⟨3, _⟩ => show 0 + 128 ≤ 128; omega
    | ⟨4, _⟩ => show 0 + D ≤ D; omega⟩ (fun a => by
    match a with
    | ⟨0, _⟩ => exact h0
    | ⟨1, _⟩ => exact h1
    | ⟨2, _⟩ => exact h2
    | ⟨3, _⟩ => exact h3
    | ⟨4, _⟩ => exact h4), hcast]
  refine congrArg x (funext fun a => Fin.ext ?_)
  match a with
  | ⟨0, _⟩ => show i + 0 = i; omega
  | ⟨1, _⟩ => show 0 + ρ.val = ρ.val; omega
  | ⟨2, _⟩ => show 0 + hd.val = hd.val; omega
  | ⟨3, _⟩ => show 0 + r.val = r.val; omega
  | ⟨4, _⟩ => show 0 + d.val = d.val; omega

/-- A chunk of a four-axis stack, read at counter `i`. -/
theorem slice4 {α : Type} (x : (⟨4, ![66, 4, 8, 128]⟩ : Shape).Idx → α) {i : ℕ} (hi : i < 66) (start : Fin 4 → ℤ)
    (h0 : start 0 = i) (h1 : start 1 = 0) (h2 : start 2 = 0) (h3 : start 3 = 0)
    (h : (⟨4, ![66, 4, 8, 128]⟩ : Shape).Slices (fun _ => 0) ⟨4, ![1, 4, 8, 128]⟩)
    (hc : (⟨4, ![1, 4, 8, 128]⟩ : Shape).ShapeCasts ⟨3, ![4, 8, 128]⟩) (ρ : Fin 4) (hd : Fin 8) (r : Fin 128) :
    shapeCast ⟨3, ![4, 8, 128]⟩ (Host.dynamicSlice ⟨4, ![1, 4, 8, 128]⟩ x start h) hc (ix3 ρ hd r) = x (ix4 (⟨i, hi⟩ : Fin 66) ρ hd r) := by
  rw [Host.dynamicSlice_eq_extractStridedSlice _ x start ![i, 0, 0, 0] h ⟨rfl, fun a => by
    match a with
    | ⟨0, _⟩ => show i + 1 ≤ 66; omega
    | ⟨1, _⟩ => show 0 + 4 ≤ 4; omega
    | ⟨2, _⟩ => show 0 + 8 ≤ 8; omega
    | ⟨3, _⟩ => show 0 + 128 ≤ 128; omega⟩ (fun a => by
    match a with
    | ⟨0, _⟩ => exact h0
    | ⟨1, _⟩ => exact h1
    | ⟨2, _⟩ => exact h2
    | ⟨3, _⟩ => exact h3)]
  pointwise

/-- The row maximum of a four-axis array over its last axis. -/
theorem rowMax4 (x : FVec Ideal S4x8x128x128 .f32) (init : S_.Idx → EReal) (a : Fin 4) (b : Fin 8) (r : Fin 128) :
    Host.reduce (FloatOps.maximumf (F := Ideal) (φ := .f32)) x init reducesTo_S4x8x128x128_S4x8x128_d3 h_S_ (ix3 a b r)
      = (Finset.univ : Finset (Fin 128)).fold max (init (Shape.Idx.first h_S_)) (fun c => x (ix4 a b r c)) := by
  have h : S4x8x128x128.Reduces [3] S4x8x128 := by decide
  refine (Host.reduce_eq_fold_single (FloatOps.maximumf (F := Ideal) (φ := .f32)) x init reducesTo_S4x8x128x128_S4x8x128_d3 h h_S_ (ix3 a b r)).trans ?_
  refine Finset.fold_congr fun c _ => congrArg x (funext fun i => Fin.ext ?_)
  match i with
  | ⟨0, _⟩ => rfl
  | ⟨1, _⟩ => rfl
  | ⟨2, _⟩ => rfl
  | ⟨3, _⟩ => rfl

/-- The maximum of a three-axis array over its last axis. -/
theorem rowMax3 (x : FVec Ideal S4x8x128 .f32) (init : S_.Idx → EReal) (a : Fin 4) (b : Fin 8) :
    Host.reduce (FloatOps.maximumf (F := Ideal) (φ := .f32)) x init reducesTo_S4x8x128_S4x8_d2 h_S_ (ix2 a b)
      = (Finset.univ : Finset (Fin 128)).fold max (init (Shape.Idx.first h_S_)) (fun c => x (ix3 a b c)) := by
  have h : S4x8x128.Reduces [2] S4x8 := by decide
  refine (Host.reduce_eq_fold_single (FloatOps.maximumf (F := Ideal) (φ := .f32)) x init reducesTo_S4x8x128_S4x8_d2 h h_S_ (ix2 a b)).trans ?_
  refine Finset.fold_congr fun c _ => congrArg x (funext fun i => Fin.ext ?_)
  match i with
  | ⟨0, _⟩ => rfl
  | ⟨1, _⟩ => rfl
  | ⟨2, _⟩ => rfl

theorem ninf : Ideal.ofBits FTy.f32 0xFF800000#32 = ⊥ := by
  simp [Ideal.ofBits, Ideal.ieee]

theorem sel_ite {α : Type} (p : Prop) [Decidable p] (x y : α) : Scalar.select (if p then 1#1 else 0#1) x y = if p then x else y := by
  split <;> rfl

/-- The rows of the reference's chunks are in token order. -/
abbrev E : Equiv.Perm (Fin 128) := Equiv.refl _

section order
variable (L : Lane) (n : ℕ)

theorem exp_wrow' (r c : Fin 128) :
    Ideal.exp ((if c ≤ r then (bc E L n r : EReal) - (bc E L n c : EReal) + ((L.i (n + (c : ℕ)) : ℝ) : EReal) else ⊥)
      - (L.M (n + (r : ℕ) + 1) : EReal)) = (wrow E L n r c : EReal) := exp_wrow E L n r c

theorem exp_wend' (c : Fin 128) :
    Ideal.exp ((gsum L n 128 : EReal) - (bc E L n c : EReal) + ((L.i (n + (c : ℕ)) : ℝ) : EReal) - (L.M (n + 128) : EReal))
      = (wend E L n c : EReal) := exp_wend E L n c

theorem exp_wold' (r : Fin 128) :
    Ideal.exp ((bc E L n r : EReal) + (L.M n : EReal) - (L.M (n + (r : ℕ) + 1) : EReal)) = (wold E L n r : EReal) := exp_wold E L n r

theorem num_eq' (r : Fin 128) (j : ℕ) :
    (∑ c : Fin 128, (∑ d : Fin 256, L.q (n + (r : ℕ)) d * L.k (n + (c : ℕ)) d) * wrow E L n r c * L.v (n + (c : ℕ)) j)
      + wold E L n r * (∑ d : Fin 256, L.q (n + (r : ℕ)) d * L.S n d j) = L.num (n + (r : ℕ)) j := num_eq E L n r j

theorem snew_eq' (d j : ℕ) :
    woldEnd L n 128 * L.S n d j + (∑ c : Fin 128, L.k (n + (c : ℕ)) d * wend E L n c * L.v (n + (c : ℕ)) j) = L.S (n + 128) d j := snew_eq E L n d j

end order

variable {V : Valuation τ sig (Elt Ideal)} {L : Fin 4 → Fin 8 → Lane} {i : ℕ} (H : Holds V L i) (hi : i < 66)
include H hi

theorem v62_eq (ρ : Fin 4) (h : Fin 8) (r : Fin 128) (d : Fin 256) :
    res_main_while0b_v62 V (ix4 ρ h r d) = (((L ρ h).q (128 * i + r) d : ℝ) : EReal) := by
  unfold res_main_while0b_v62
  refine (slice5 _ hi _ ?_ rfl rfl rfl rfl _ _ ρ h r d (fun y => by pointwise)).trans (H.q ⟨i, hi⟩ ρ h r d)
  show (V (Proc.devRef .tc main_v52_6) _).toInt = _
  rw [H.ctr, toInt_ofNat hi]

theorem v63_eq (ρ : Fin 4) (h : Fin 8) (r : Fin 128) (d : Fin 256) :
    res_main_while0b_v63 V (ix4 ρ h r d) = (((L ρ h).k (128 * i + r) d : ℝ) : EReal) := by
  unfold res_main_while0b_v63
  refine (slice5 _ hi _ ?_ rfl rfl rfl rfl _ _ ρ h r d (fun y => by pointwise)).trans (H.k ⟨i, hi⟩ ρ h r d)
  show (V (Proc.devRef .tc main_v52_6) _).toInt = _
  rw [H.ctr, toInt_ofNat hi]

theorem v64_eq (ρ : Fin 4) (h : Fin 8) (r : Fin 128) (d : Fin 512) :
    res_main_while0b_v64 V (ix4 ρ h r d) = (((L ρ h).v (128 * i + r) d : ℝ) : EReal) := by
  unfold res_main_while0b_v64
  refine (slice5 _ hi _ ?_ rfl rfl rfl rfl _ _ ρ h r d (fun y => by pointwise)).trans (H.v ⟨i, hi⟩ ρ h r d)
  show (V (Proc.devRef .tc main_v52_6) _).toInt = _
  rw [H.ctr, toInt_ofNat hi]

theorem v65_eq (ρ : Fin 4) (h : Fin 8) (r : Fin 128) :
    res_main_while0b_v65 V (ix3 ρ h r) = (((L ρ h).i (128 * i + r) : ℝ) : EReal) := by
  unfold res_main_while0b_v65
  refine (slice4 _ hi _ ?_ rfl rfl rfl _ _ ρ h r).trans (H.ig ⟨i, hi⟩ ρ h r)
  show (V (Proc.devRef .tc main_v52_6) _).toInt = _
  rw [H.ctr, toInt_ofNat hi]

theorem bcum_eq (ρ : Fin 4) (h : Fin 8) (r : Fin 128) :
    res_main_while0b_v67 V (ix3 ρ h r) = (bc E (L ρ h) (128 * i) r : EReal) := by
  unfold res_main_while0b_v67
  refine (cumsum_apply _ _ (fun y => ?_) _ _ ρ h r).trans ((Finset.sum_congr rfl fun c _ => ?_).trans (cum_eq E (L ρ h) (128 * i) r))
  · pointwise
  · refine if_congr Iff.rfl ?_ rfl
    refine (slice4 _ hi _ ?_ rfl rfl rfl _ _ ρ h c).trans (H.lf ⟨i, hi⟩ ρ h c)
    show (V (Proc.devRef .tc main_v52_6) _).toInt = _
    rw [H.ctr, toInt_ofNat hi]

theorem dmat_eq (ρ : Fin 4) (h : Fin 8) (r c : Fin 128) :
    res_main_while0b_v76 V (ix4 ρ h r c) = if c ≤ r then (bc E (L ρ h) (128 * i) r : EReal) - (bc E (L ρ h) (128 * i) c : EReal)
      + (((L ρ h).i (128 * i + c) : ℝ) : EReal) else ⊥ := by
  unfold res_main_while0b_v76
  simp only [id]
  pointwise
  rw [H.tril, sel_ite, bcum_eq H hi, bcum_eq H hi, v65_eq H hi, ninf]

theorem inter_eq (ρ : Fin 4) (h : Fin 8) (r : Fin 128) :
    res_main_while0b_v79 V (ix3 ρ h r) = (bc E (L ρ h) (128 * i) r : EReal) + ((L ρ h).M (128 * i) : EReal) := by
  unfold res_main_while0b_v79
  pointwise
  rw [bcum_eq H hi, H.m]

theorem mt_eq' (ρ : Fin 4) (h : Fin 8) (r : Fin 128) :
    res_main_while0b_v81 V (ix3 ρ h r) = ((L ρ h).M (128 * i + r + 1) : EReal) := by
  unfold res_main_while0b_v81
  refine Eq.trans ?_ (mt_eq E (L ρ h) (128 * i) r)
  refine congrArg₂ (max : EReal → EReal → EReal) (inter_eq H hi ρ h r) ((rowMax4 _ _ ρ h r).trans ?_)
  rw [show (constant (F := Ideal) S_ .f32 0xFF800000#32) (Shape.Idx.first h_S_) = (⊥ : EReal) from ninf]
  exact Finset.fold_congr fun c _ => dmat_eq H hi ρ h r c

theorem winter_eq (ρ : Fin 4) (h : Fin 8) (r : Fin 128) :
    res_main_while0b_v83 V (ix3 ρ h r) = (wold E (L ρ h) (128 * i) r : EReal) := by
  unfold res_main_while0b_v83
  pointwise
  rw [inter_eq H hi, mt_eq' H hi, exp_wold']

theorem s_eq (ρ : Fin 4) (h : Fin 8) (r c : Fin 128) :
    res_main_while0b_v89 V (ix4 ρ h r c) = (((∑ d : Fin 256, (L ρ h).q (128 * i + r) d * (L ρ h).k (128 * i + c) d) * wrow E (L ρ h) (128 * i) r c : ℝ) : EReal) := by
  unfold res_main_while0b_v89
  pointwise
  rw [dmat_eq H hi, mt_eq' H hi, exp_wrow', EReal.coe_mul, coe_sum]
  congr 1
  exact Finset.sum_congr rfl fun d _ => by rw [v62_eq H hi, v63_eq H hi, EReal.coe_mul]

theorem g_eq (ρ : Fin 4) (h : Fin 8) : res_main_while0b_v108 V (ix2 ρ h) = (gsum (L ρ h) (128 * i) 128 : EReal) := by
  unfold res_main_while0b_v108
  pointwise
  exact bcum_eq H hi ρ h 127

theorem dend_eq (ρ : Fin 4) (h : Fin 8) (c : Fin 128) :
    res_main_while0b_v112 V (ix3 ρ h c) = (gsum (L ρ h) (128 * i) 128 : EReal) - (bc E (L ρ h) (128 * i) c : EReal)
      + (((L ρ h).i (128 * i + c) : ℝ) : EReal) := by
  unfold res_main_while0b_v112
  pointwise
  rw [g_eq H hi, bcum_eq H hi, v65_eq H hi]

theorem mnew_eq' (ρ : Fin 4) (h : Fin 8) : res_main_while0b_v115 V (ix2 ρ h) = ((L ρ h).M (128 * i + 128) : EReal) := by
  unfold res_main_while0b_v115
  refine Eq.trans ?_ (mnew_eq E (L ρ h) (128 * i))
  refine congrArg₂ (max : EReal → EReal → EReal) (congrArg₂ (HAdd.hAdd : EReal → EReal → EReal) (g_eq H hi ρ h) (H.m ρ h)) ((rowMax3 _ _ ρ h).trans ?_)
  rw [show (constant (F := Ideal) S_ .f32 0xFF800000#32) (Shape.Idx.first h_S_) = (⊥ : EReal) from ninf]
  exact Finset.fold_congr fun c _ => dend_eq H hi ρ h c

theorem wold_eq (ρ : Fin 4) (h : Fin 8) : res_main_while0b_v118 V (ix2 ρ h) = (woldEnd (L ρ h) (128 * i) 128 : EReal) := by
  unfold res_main_while0b_v118
  pointwise
  rw [g_eq H hi, H.m, mnew_eq' H hi, exp_woldEnd]

theorem ws_eq (ρ : Fin 4) (h : Fin 8) (c : Fin 128) : res_main_while0b_v122 V (ix3 ρ h c) = (wend E (L ρ h) (128 * i) c : EReal) := by
  unfold res_main_while0b_v122
  pointwise
  rw [dend_eq H hi, mnew_eq' H hi, exp_wend']

theorem C_step (ρ : Fin 4) (h : Fin 8) (j : Fin 512) (d : Fin 256) :
    step_main_v52_7 V (ix4 ρ h j d) = (((L ρ h).S (128 * i + 128) d j : ℝ) : EReal) := by
  unfold step_main_v52_7
  simp only [id]
  pointwise
  rw [wold_eq H hi, H.C, ← snew_eq' (L ρ h) (128 * i), EReal.coe_add, EReal.coe_mul, coe_sum]
  congr 1
  refine Finset.sum_congr rfl fun c _ => ?_
  rw [v64_eq H hi, ws_eq H hi, v63_eq H hi, ← EReal.coe_mul, ← EReal.coe_mul]
  congr 1
  ring

theorem n_step (hv : ∀ ρ h n, (L ρ h).v n 512 = 1) (ρ : Fin 4) (h : Fin 8) (d : Fin 256) :
    step_main_v52_8 V (ix3 ρ h d) = (((L ρ h).S (128 * i + 128) d 512 : ℝ) : EReal) := by
  unfold step_main_v52_8
  simp only [id]
  pointwise
  rw [wold_eq H hi, H.n, ← snew_eq' (L ρ h) (128 * i), EReal.coe_add, EReal.coe_mul, coe_sum]
  congr 1
  refine Finset.sum_congr rfl fun c _ => ?_
  rw [ws_eq H hi, v63_eq H hi, hv, ← EReal.coe_mul]
  congr 1
  ring

theorem m_step (ρ : Fin 4) (h : Fin 8) : step_main_v52_9 V (ix2 ρ h) = (((L ρ h).M (128 * i + 128) : ℝ) : EReal) :=
  mnew_eq' H hi ρ h

/-- The outputs that the trip makes for its chunk. -/
def outs (V : Valuation τ sig (Elt Ideal)) : FVec Ideal S4x8x128x512 .f32 :=
  Host.divf (addf (Host.dotGeneral (φ₁ := .f32) (φ₂ := .f32) dot_S4x8x128x128_S4x8x128x512_S4x8x128x512_3_2_2_3_01_01 none (res_main_while0b_v89 V) (res_main_while0b_v64 V)) (mulf (broadcastInDim S4x8x128x512 ![0, 1, 2, 3] bcast_S4x8x128x1_S4x8x128x512_0_1_2_3 (broadcastInDim S4x8x128x1 ![0, 1, 2] bcast_S4x8x128_S4x8x128x1_0_1_2 (res_main_while0b_v83 V))) (Host.dotGeneral (φ₁ := .f32) (φ₂ := .f32) dot_S4x8x128x256_S4x8x512x256_S4x8x128x512_3_3_2_2_01_01 none (res_main_while0b_v62 V) (V (Proc.devRef .tc main_v52_7))))) (broadcastInDim S4x8x128x512 ![0, 1, 2, 3] bcast_S4x8x128x1_S4x8x128x512_0_1_2_3 (broadcastInDim S4x8x128x1 ![0, 1, 2] bcast_S4x8x128_S4x8x128x1_0_1_2 (maximumf (Host.absf (addf (Host.reduceAdd (res_main_while0b_v89 V) (constant S_ .f32 0x00000000#32) reducesTo_S4x8x128x128_S4x8x128_d3 h_S_) (mulf (res_main_while0b_v83 V) (Host.dotGeneral (φ₁ := .f32) (φ₂ := .f32) dot_S4x8x256_S4x8x128x256_S4x8x128_2_3_n_2_01_01 none (V (Proc.devRef .tc main_v52_8)) (res_main_while0b_v62 V))))) (Host.exp (Host.negf (res_main_while0b_v81 V))))))

theorem outs_eq (hv : ∀ ρ h n, (L ρ h).v n 512 = 1) (ρ : Fin 4) (h : Fin 8) (r : Fin 128) (j : Fin 512) :
    outs V (ix4 ρ h r j) = (((L ρ h).H (128 * i + r) j : ℝ) : EReal) := by
  unfold outs
  pointwise
  refine (congrArg₂ Ideal.div (x' := (((L ρ h).num (128 * i + r) j : ℝ) : EReal)) (y' := (((L ρ h).den (128 * i + r) : ℝ) : EReal)) ?_ ?_).trans (div_coe _ ((L ρ h).den_pos _))
  · rw [← num_eq' (L ρ h) (128 * i), EReal.coe_add, coe_sum, EReal.coe_mul, coe_sum, winter_eq H hi]
    congr 1
    · exact Finset.sum_congr rfl fun c _ => by rw [s_eq H hi, v64_eq H hi, ← EReal.coe_mul]
    · refine congrArg₂ HMul.hMul rfl (Finset.sum_congr rfl fun d _ => ?_)
      rw [v62_eq H hi, H.C, ← EReal.coe_mul, mul_comm]
  · have hd : (∑ c : Fin 128, res_main_while0b_v89 V (ix4 ρ h r c) : EReal) + (HMul.hMul : EReal → EReal → EReal) (res_main_while0b_v83 V (ix3 ρ h r))
        (∑ d : Fin 256, (HMul.hMul : EReal → EReal → EReal) (V (Proc.devRef .tc main_v52_8) (ix3 ρ h d)) (res_main_while0b_v62 V (ix4 ρ h r d)))
        = (((L ρ h).num (128 * i + r) 512 : ℝ) : EReal) := by
      rw [← num_eq' (L ρ h) (128 * i), EReal.coe_add, coe_sum, EReal.coe_mul, coe_sum, winter_eq H hi]
      refine congrArg₂ HAdd.hAdd (Finset.sum_congr rfl fun c _ => ?_) (congrArg₂ HMul.hMul rfl (Finset.sum_congr rfl fun d _ => ?_))
      · rw [s_eq H hi, hv, mul_one]
      · rw [v62_eq H hi, H.n, ← EReal.coe_mul, mul_comm]
    refine (congrArg₂ (max : EReal → EReal → EReal) ((congrArg (FloatOps.absf (F := Ideal) (φ := .f32)) hd).trans (abs_coe _)) ?_).trans (max_coe _ _)
    rw [mt_eq' H hi]
    exact (congrArg Ideal.exp (EReal.coe_neg _).symm).trans (exp_coe _)

end Cert.ReferenceIdeal.Scan

end
-- ==== Proof.RefScan.lean ====
/-
  The reference's scan over all its chunks: after the last trip its stack holds every token's output.
-/
module

public import proofs.«01_k».proof.Proof.RefChunk

@[expose] public section

set_option maxRecDepth 16384

noncomputable section

namespace Cert.ReferenceIdeal.Scan

open Idealize.ShloMosaic Idealize.ShloMosaic.TcCoe Idealize.SL.Sem
open Cert.ReferenceIdeal Cert.ReferenceIdeal.Gen Cert.ReferenceIdeal.Value Cert.Scan

/-- Writing one chunk of the stack of outputs at counter `i`: that chunk is the update, the others are as before. -/
theorem update5 {α : Type} (x : S66x4x8x128x512.Idx → α) (u : S1x4x8x128x512.Idx → α) {i : ℕ} (hi : i < 66) (start : Fin 5 → ℤ)
    (h0 : start 0 = i) (h1 : start 1 = 0) (h2 : start 2 = 0) (h3 : start 3 = 0) (h4 : start 4 = 0)
    (hf : S66x4x8x128x512.Slices (fun _ => 0) S1x4x8x128x512) (k : Fin 66) (ρ : Fin 4) (h : Fin 8) (r : Fin 128) (j : Fin 512) :
    Host.dynamicUpdateSlice x u start hf (ix5 k ρ h r j) = if k.val = i then u (ix5 0 ρ h r j) else x (ix5 k ρ h r j) := by
  have c0 : Host.clampedStart S66x4x8x128x512 S1x4x8x128x512 hf.1 start 0 = i := Host.clampedStart_of_le _ _ _ _ h0 (by show i + 1 ≤ 66; omega)
  have c1 : Host.clampedStart S66x4x8x128x512 S1x4x8x128x512 hf.1 start 1 = 0 := Host.clampedStart_of_le _ _ _ _ h1 (by show 0 + 4 ≤ 4; omega)
  have c2 : Host.clampedStart S66x4x8x128x512 S1x4x8x128x512 hf.1 start 2 = 0 := Host.clampedStart_of_le _ _ _ _ h2 (by show 0 + 8 ≤ 8; omega)
  have c3 : Host.clampedStart S66x4x8x128x512 S1x4x8x128x512 hf.1 start 3 = 0 := Host.clampedStart_of_le _ _ _ _ h3 (by show 0 + 128 ≤ 128; omega)
  have c4 : Host.clampedStart S66x4x8x128x512 S1x4x8x128x512 hf.1 start 4 = 0 := Host.clampedStart_of_le _ _ _ _ h4 (by show 0 + 512 ≤ 512; omega)
  rw [Host.dynamicUpdateSlice_apply]
  by_cases hk : k.val = i
  · rw [if_pos hk, dif_pos (fun a => by
      match a with
      | ⟨0, _⟩ => show Host.clampedStart S66x4x8x128x512 S1x4x8x128x512 hf.1 start 0 ≤ k.val ∧ k.val < Host.clampedStart S66x4x8x128x512 S1x4x8x128x512 hf.1 start 0 + 1; omega
      | ⟨1, _⟩ => show Host.clampedStart S66x4x8x128x512 S1x4x8x128x512 hf.1 start 1 ≤ ρ.val ∧ ρ.val < Host.clampedStart S66x4x8x128x512 S1x4x8x128x512 hf.1 start 1 + 4; omega
      | ⟨2, _⟩ => show Host.clampedStart S66x4x8x128x512 S1x4x8x128x512 hf.1 start 2 ≤ h.val ∧ h.val < Host.clampedStart S66x4x8x128x512 S1x4x8x128x512 hf.1 start 2 + 8; omega
      | ⟨3, _⟩ => show Host.clampedStart S66x4x8x128x512 S1x4x8x128x512 hf.1 start 3 ≤ r.val ∧ r.val < Host.clampedStart S66x4x8x128x512 S1x4x8x128x512 hf.1 start 3 + 128; omega
      | ⟨4, _⟩ => show Host.clampedStart S66x4x8x128x512 S1x4x8x128x512 hf.1 start 4 ≤ j.val ∧ j.val < Host.clampedStart S66x4x8x128x512 S1x4x8x128x512 hf.1 start 4 + 512; omega)]
    refine congrArg u (funext fun a => Fin.ext ?_)
    match a with
    | ⟨0, _⟩ => exact (congrArg (k.val - ·) c0).trans (by show k.val - i = 0; omega)
    | ⟨1, _⟩ => exact congrArg (ρ.val - ·) c1
    | ⟨2, _⟩ => exact congrArg (h.val - ·) c2
    | ⟨3, _⟩ => exact congrArg (r.val - ·) c3
    | ⟨4, _⟩ => exact congrArg (j.val - ·) c4
  · rw [if_neg hk, dif_neg]
    intro hin
    have h0' : Host.clampedStart S66x4x8x128x512 S1x4x8x128x512 hf.1 start 0 ≤ k.val ∧ k.val < Host.clampedStart S66x4x8x128x512 S1x4x8x128x512 hf.1 start 0 + 1 := hin 0
    rw [c0] at h0'
    omega

/-- Where a trip writes its chunk of outputs: the counter on the chunk axis. -/
def starts (V : Valuation τ sig (Elt Ideal)) : Fin 5 → ℤ :=
  fun a => (((![V (Proc.devRef .tc main_v52_6), constantI S_ 32 0#32, constantI S_ 32 0#32, constantI S_ 32 0#32, constantI S_ 32 0#32] : Fin 5 → (⟨S_, .i32⟩ : BufTy).Contents (Elt Ideal))) a (Shape.Idx.first h_S_)).toInt

/-- The stack after a trip. -/
theorem step10 (V : Valuation τ sig (Elt Ideal)) :
    step_main_v52_10 V = Host.dynamicUpdateSlice (V (Proc.devRef .tc main_v52_10))
      (broadcastInDim S1x4x8x128x512 ![1, 2, 3, 4] bcast_S4x8x128x512_S1x4x8x128x512_1_2_3_4 (outs V)) (starts V) updateFits_S66x4x8x128x512_S1x4x8x128x512 := by
  unfold step_main_v52_10 outs starts
  rfl

/-- One trip takes the states before a chunk to the states before the next one, and writes the chunk's outputs. -/
theorem holds_step {V : Valuation τ sig (Elt Ideal)} {L : Fin 4 → Fin 8 → Lane} {i : ℕ} (H : Holds V L i) (hi : i < 66)
    (hv : ∀ ρ h n, (L ρ h).v n 512 = 1) : Holds (STEP V) L (i + 1) where
  ctr := by
    rw [STEP_main_v52_6]
    unfold step_main_v52_6
    rw [H.ctr]
    funext y
    show BitVec.ofNat 32 i + 1#32 = _
    rw [BitVec.ofNat_add]
  q := by rw [STEP_main_v52_0]; exact H.q
  k := by rw [STEP_main_v52_1]; exact H.k
  v := by rw [STEP_main_v52_2]; exact H.v
  ig := by rw [STEP_main_v52_3]; exact H.ig
  lf := by rw [STEP_main_v52_4]; exact H.lf
  tril := by rw [STEP_main_v52_5]; exact H.tril
  C ρ h j d := by rw [STEP_main_v52_7]; exact C_step H hi ρ h j d
  n ρ h d := by rw [STEP_main_v52_8]; exact n_step H hi hv ρ h d
  m ρ h := by rw [STEP_main_v52_9]; exact m_step H hi ρ h
  hs k ρ h r j hk := by
    rw [STEP_main_v52_10]
    rw [step10]
    refine (update5 (V (Proc.devRef .tc main_v52_10)) _ hi (starts V) ?_ rfl rfl rfl rfl updateFits_S66x4x8x128x512_S1x4x8x128x512 k ρ h r j).trans ?_
    · show (V (Proc.devRef .tc main_v52_6) _).toInt = _
      rw [H.ctr, toInt_ofNat hi]
    · split
      · next he =>
        subst he
        refine Eq.trans ?_ (outs_eq H hi hv ρ h r j)
        pointwise
      · next he => exact H.hs k ρ h r j (by omega)

/-- After `n` trips. -/
theorem holds_iter {V : Valuation τ sig (Elt Ideal)} {L : Fin 4 → Fin 8 → Lane} (H : Holds V L 0)
    (hv : ∀ ρ h n, (L ρ h).v n 512 = 1) (n : ℕ) (hn : n ≤ 66) : Holds (STEP^[n] V) L n := by
  induction n with
  | zero => exact H
  | succ n ih =>
    rw [Function.iterate_succ_apply']
    exact holds_step (ih (by omega)) (by omega) hv

/-- The first result at a latent token: the output of its row's lane, 256 tokens on. -/
theorem out59 {V : Valuation τ sig (Elt Ideal)} {L : Fin 4 → Fin 8 → Lane} (H : Holds V L 66) (b : Fin 2) (t : Fin 8192) (y : Fin 4096) :
    out_main_v59 V (ix3 b t y) = (((L ⟨b.val, by omega⟩ ⟨y.val / 512, by omega⟩).H (256 + t.val) (y.val % 512) : ℝ) : EReal) := by
  unfold out_main_v59
  pointwise
  refine (H.hs ⟨(256 + t.val) / 128, by omega⟩ ⟨b.val, by omega⟩ ⟨y.val / 512, by omega⟩ ⟨(256 + t.val) % 128, by omega⟩ ⟨y.val % 512, by omega⟩ (by show (256 + t.val) / 128 < 66; omega)).trans ?_
  show (((L _ _).H (128 * ((256 + t.val) / 128) + (256 + t.val) % 128) (y.val % 512) : ℝ) : EReal) = _
  rw [show 128 * ((256 + t.val) / 128) + (256 + t.val) % 128 = 256 + t.val from by omega]

theorem out61 {V : Valuation τ sig (Elt Ideal)} {L : Fin 4 → Fin 8 → Lane} (H : Holds V L 66) (b : Fin 2) (t : Fin 8192) (y : Fin 4096) :
    out_main_v61 V (ix3 b t y) = (((L ⟨2 + b.val, by omega⟩ ⟨y.val / 512, by omega⟩).H (8447 - t.val) (y.val % 512) : ℝ) : EReal) := by
  have ht : t.rev.val = 8191 - t.val := by rw [Fin.val_rev]; omega
  have hrev : ∀ Y : S2x8192x4096.Idx → EReal, Host.reverse [1] Y (ix3 b t y) = Y (ix3 b t.rev y) := fun Y => congrArg Y (funext fun a => by
    match a with
    | ⟨0, _⟩ => rfl
    | ⟨1, _⟩ => rfl
    | ⟨2, _⟩ => rfl)
  unfold out_main_v61
  refine (hrev _).trans ?_
  pointwise
  refine (H.hs ⟨(256 + t.rev.val) / 128, by omega⟩ ⟨2 + b.val, by omega⟩ ⟨y.val / 512, by omega⟩ ⟨(256 + t.rev.val) % 128, by omega⟩ ⟨y.val % 512, by omega⟩ (by show (256 + t.rev.val) / 128 < 66; omega)).trans ?_
  show (((L _ _).H (128 * ((256 + t.rev.val) / 128) + (256 + t.rev.val) % 128) (y.val % 512) : ℝ) : EReal) = _
  rw [show 128 * ((256 + t.rev.val) / 128) + (256 + t.rev.val) % 128 = 8447 - t.val from by omega]

end Cert.ReferenceIdeal.Scan

end
-- ==== Proof.RefEntry.lean ====
/-
  What the reference's scan starts from: its arguments' rows in token order, split into heads and chunks, and zero states.
-/
module

public import proofs.«01_k».proof.Proof.RefScan
public import Idealize.ShloMosaic.Lib.WordCmp

@[expose] public section

set_option maxRecDepth 16384

noncomputable section

namespace Cert.ReferenceIdeal.Scan

open Idealize.ShloMosaic Idealize.ShloMosaic.TcCoe Idealize.SL.Sem
open Idealize.ShloMosaic.Tactic Idealize.ShloMosaic.StableHlo Idealize.ShloMosaic.Scf
open Cert.ReferenceIdeal Cert.ReferenceIdeal.Gen Cert.ReferenceIdeal.Value Cert.Scan

section terms
variable {F : FTy → Type} [FloatOps F]

/-- The projections of both directions, one row per direction and batch element, context before latents. -/
def bothQ (a0 : FVec F S2x256x12288 .bf16) (a2 : FVec F S2x8192x12288 .bf16) (r0 : FVec F S2x256x12288 .bf16) (r2 : FVec F S2x8192x12288 .bf16) :
    FVec F S4x8448x12288 .bf16 :=
  concatenate S4x8448x12288 0 [⟨S2x8448x12288, concatenate S2x8448x12288 1 [⟨S2x256x12288, a0⟩, ⟨S2x8192x12288, a2⟩] concatenates_S2x256x12288_S2x8192x12288_S2x8448x12288_d1⟩, ⟨S2x8448x12288, concatenate S2x8448x12288 1 [⟨S2x256x12288, r0⟩, ⟨S2x8192x12288, r2⟩] concatenates_S2x256x12288_S2x8192x12288_S2x8448x12288_d1⟩] concatenates_S2x8448x12288_S2x8448x12288_S4x8448x12288_d0

/-- The gates of both directions. -/
def bothG (a0 : FVec F S2x256x32 .f32) (a2 : FVec F S2x8192x32 .f32) (r0 : FVec F S2x256x32 .f32) (r2 : FVec F S2x8192x32 .f32) :
    FVec F S4x8448x32 .f32 :=
  concatenate S4x8448x32 0 [⟨S2x8448x32, concatenate S2x8448x32 1 [⟨S2x256x32, a0⟩, ⟨S2x8192x32, a2⟩] concatenates_S2x256x32_S2x8192x32_S2x8448x32_d1⟩, ⟨S2x8448x32, concatenate S2x8448x32 1 [⟨S2x256x32, r0⟩, ⟨S2x8192x32, r2⟩] concatenates_S2x256x32_S2x8192x32_S2x8448x32_d1⟩] concatenates_S2x8448x32_S2x8448x32_S4x8448x32_d0

/-- The chunks of the queries. -/
def chunksQ (X : FVec F S4x8448x12288 .bf16) : FVec F S66x4x8x128x256 .f32 :=
  transpose S66x4x8x128x256 [2, 0, 1, 3, 4] (shapeCast S4x8x66x128x256 (transpose S4x8x8448x256 [0, 2, 1, 3] (shapeCast S4x8448x8x256 (extractStridedSlice S4x8448x2048 ![0, 0, 0] (extf .f32 X bitsLt_bf16_f32) slices_S4x8448x12288_S4x8448x2048_0_0_0) shapeCasts_S4x8448x2048_S4x8448x8x256) transposes_S4x8448x8x256_S4x8x8448x256_0_2_1_3) shapeCasts_S4x8x8448x256_S4x8x66x128x256) transposes_S4x8x66x128x256_S66x4x8x128x256_2_0_1_3_4

/-- The chunks of the scaled keys. -/
def chunksK (X : FVec F S4x8448x12288 .bf16) : FVec F S66x4x8x128x256 .f32 :=
  transpose S66x4x8x128x256 [2, 0, 1, 3, 4] (shapeCast S4x8x66x128x256 (mulf (transpose S4x8x8448x256 [0, 2, 1, 3] (shapeCast S4x8448x8x256 (extractStridedSlice S4x8448x2048 ![0, 0, 2048] (extf .f32 X bitsLt_bf16_f32) slices_S4x8448x12288_S4x8448x2048_0_0_2048) shapeCasts_S4x8448x2048_S4x8448x8x256) transposes_S4x8448x8x256_S4x8x8448x256_0_2_1_3) (broadcastInDim S4x8x8448x256 ![] bcast_S_S4x8x8448x256 (constant S_ .f32 0x3D800000#32))) shapeCasts_S4x8x8448x256_S4x8x66x128x256) transposes_S4x8x66x128x256_S66x4x8x128x256_2_0_1_3_4

/-- The chunks of the values. -/
def chunksV (X : FVec F S4x8448x12288 .bf16) : FVec F S66x4x8x128x512 .f32 :=
  transpose S66x4x8x128x512 [2, 0, 1, 3, 4] (shapeCast S4x8x66x128x512 (transpose S4x8x8448x512 [0, 2, 1, 3] (shapeCast S4x8448x8x512 (extractStridedSlice S4x8448x4096 ![0, 0, 4096] (extf .f32 X bitsLt_bf16_f32) slices_S4x8448x12288_S4x8448x4096_0_0_4096) shapeCasts_S4x8448x4096_S4x8448x8x512) transposes_S4x8448x8x512_S4x8x8448x512_0_2_1_3) shapeCasts_S4x8x8448x512_S4x8x66x128x512) transposes_S4x8x66x128x512_S66x4x8x128x512_2_0_1_3_4

/-- Each direction's own gates: input and forget gates of the eight heads. -/
def own (X : FVec F S4x8448x32 .f32) : FVec F S4x8448x2x8 .f32 :=
  concatenate S4x8448x2x8 0 [⟨S2x8448x2x8, shapeCast S2x8448x2x8 (extractStridedSlice S2x8448x1x2x8 ![0, 0, 0, 0, 0] (shapeCast S4x8448x2x2x8 X shapeCasts_S4x8448x32_S4x8448x2x2x8) slices_S4x8448x2x2x8_S2x8448x1x2x8_0_0_0_0_0) shapeCasts_S2x8448x1x2x8_S2x8448x2x8⟩, ⟨S2x8448x2x8, shapeCast S2x8448x2x8 (extractStridedSlice S2x8448x1x2x8 ![2, 0, 1, 0, 0] (shapeCast S4x8448x2x2x8 X shapeCasts_S4x8448x32_S4x8448x2x2x8) slices_S4x8448x2x2x8_S2x8448x1x2x8_2_0_1_0_0) shapeCasts_S2x8448x1x2x8_S2x8448x2x8⟩] concatenates_S2x8448x2x8_S2x8448x2x8_S4x8448x2x8_d0

/-- The input gates by head and token. -/
def gateI (X : FVec F S4x8448x2x8 .f32) : FVec F S4x8x8448 .f32 :=
  transpose S4x8x8448 [0, 2, 1] (shapeCast S4x8448x8 (extractStridedSlice S4x8448x1x8 ![0, 0, 0, 0] X slices_S4x8448x2x8_S4x8448x1x8_0_0_0_0) shapeCasts_S4x8448x1x8_S4x8448x8) transposes_S4x8448x8_S4x8x8448_0_2_1

/-- The forget gates by head and token. -/
def gateF (X : FVec F S4x8448x2x8 .f32) : FVec F S4x8x8448 .f32 :=
  transpose S4x8x8448 [0, 2, 1] (shapeCast S4x8448x8 (extractStridedSlice S4x8448x1x8 ![0, 0, 1, 0] X slices_S4x8448x2x8_S4x8448x1x8_0_0_1_0) shapeCasts_S4x8448x1x8_S4x8448x8) transposes_S4x8448x8_S4x8x8448_0_2_1

/-- The chunks of the gates of one kind. -/
def chunksG (X : FVec F S4x8x8448 .f32) : FVec F S66x4x8x128 .f32 :=
  transpose S66x4x8x128 [2, 0, 1, 3] (shapeCast S4x8x66x128 X shapeCasts_S4x8x8448_S4x8x66x128) transposes_S4x8x66x128_S66x4x8x128_2_0_1_3

/-- A zero at every place. -/
def zeros : FVec F S4x8x8448 .f32 := broadcastInDim S4x8x8448 ![] bcast_S_S4x8x8448 (constant S_ .f32 0x00000000#32)

/-- The logarithm of the sigmoid as the reference takes it: minus the softplus of the negated gate. -/
def logSigmoid (X : FVec F S4x8x8448 .f32) : FVec F S4x8x8448 .f32 :=
  Host.negf (select (cmpf .une (subf (Host.negf X) zeros) (subf (Host.negf X) zeros)) (addf (Host.negf X) zeros)
    (addf (maximumf (Host.negf X) zeros) (Host.log1p (Host.exp (Host.negf (Host.absf (subf (Host.negf X) zeros)))))))

/-- The mask of the earlier rows of a chunk. -/
def earlier : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

end terms

variable {m : (ℓ : Loc nD τ sig) → Buf (Elt Ideal) ℓ} (c : Dev nD)

/-- The projections' rows from a memory. -/
def qrows (m : (ℓ : Loc nD τ sig) → Buf (Elt Ideal) ℓ) (c : Dev nD) : FVec Ideal S4x8448x12288 .bf16 :=
  bothQ (m ((c.tc : Thread nD τ).loc main_arg0)) (m ((c.tc : Thread nD τ).loc main_arg2))
    (Host.reverse [1] (m ((c.tc : Thread nD τ).loc main_arg0))) (Host.reverse [1] (m ((c.tc : Thread nD τ).loc main_arg2)))

/-- The gates' rows from a memory. -/
def grows (m : (ℓ : Loc nD τ sig) → Buf (Elt Ideal) ℓ) (c : Dev nD) : FVec Ideal S4x8448x32 .f32 :=
  bothG (m ((c.tc : Thread nD τ).loc main_arg1)) (m ((c.tc : Thread nD τ).loc main_arg3))
    (Host.reverse [1] (m ((c.tc : Thread nD τ).loc main_arg1))) (Host.reverse [1] (m ((c.tc : Thread nD τ).loc main_arg3)))

theorem entry_q : entryContents preI m c (Proc.devRef .tc main_v52_0) = chunksQ (qrows m c) := by
  unfold chunksQ qrows bothQ
  simp only [entryContents, afterL_cons, afterL_nil, hostOps0, hostOps0_1, hostOps0_2, hostOps0_3, hostOps0_4, hostOps0_5, hostOps0_6, hostOps0_7, hostOps0_8, hostOps0_9, hostOps0_10]
  after_results_entrywise []
  all_goals rfl

theorem entry_k : entryContents preI m c (Proc.devRef .tc main_v52_1) = chunksK (qrows m c) := by
  unfold chunksK qrows bothQ
  simp only [entryContents, afterL_cons, afterL_nil, hostOps0, hostOps0_1, hostOps0_2, hostOps0_3, hostOps0_4, hostOps0_5, hostOps0_6, hostOps0_7, hostOps0_8, hostOps0_9, hostOps0_10]
  after_results_entrywise []
  all_goals rfl

theorem entry_v : entryContents preI m c (Proc.devRef .tc main_v52_2) = chunksV (qrows m c) := by
  unfold chunksV qrows bothQ
  simp only [entryContents, afterL_cons, afterL_nil, hostOps0, hostOps0_1, hostOps0_2, hostOps0_3, hostOps0_4, hostOps0_5, hostOps0_6, hostOps0_7, hostOps0_8, hostOps0_9, hostOps0_10]
  after_results_entrywise []
  all_goals rfl

section gates
variable (V : Valuation τ sig (Elt Ideal))

/-- The contents once the gates of both directions are side by side. -/
def gates1 : Valuation τ sig (Elt Ideal) :=
  after ((hostOps0_6 (F := Ideal)).take 2) (after hostOps0_5 (after hostOps0_4 (after hostOps0_3 (after hostOps0_2 (after hostOps0_1 (after hostOps0 V))))))

/-- The contents once each direction has its own gates. -/
def gates2 : Valuation τ sig (Elt Ideal) := after (((hostOps0_6 (F := Ideal)).drop 2).take 20) V

/-- The contents once the gates are split into input and forget gates. -/
def gates3 : Valuation τ sig (Elt Ideal) := after ((hostOps0_6 (F := Ideal)).drop 22) V

/-- The contents once the forget gates are log-sigmoids. -/
def gates4 : Valuation τ sig (Elt Ideal) := after (hostOps0_7 (F := Ideal)) V

/-- The contents once the gates are in chunks. -/
def gates5 : Valuation τ sig (Elt Ideal) := after (hostOps0_10 (F := Ideal)) (after hostOps0_9 (after hostOps0_8 V))

theorem gates1_v9 : gates1 V (Proc.devRef .tc main_v9) = bothG (F := Ideal) (V (Proc.devRef .tc main_arg1)) (V (Proc.devRef .tc main_arg3))
    (Host.reverse [1] (V (Proc.devRef .tc main_arg1))) (Host.reverse [1] (V (Proc.devRef .tc main_arg3))) := by
  unfold gates1 bothG
  simp only [hostOps0, hostOps0_1, hostOps0_2, hostOps0_3, hostOps0_4, hostOps0_5, hostOps0_6, List.take_succ_cons, List.take_zero]
  after_results_entrywise []
  all_goals rfl

theorem gates2_v28 : gates2 V (Proc.devRef .tc main_v28) = own (F := Ideal) (V (Proc.devRef .tc main_v9)) := by
  unfold gates2 own
  simp only [hostOps0_6, List.take_succ_cons, List.take_zero, List.drop_succ_cons, List.drop_zero]
  after_results_entrywise []
  all_goals rfl

theorem gates3_v31 : gates3 V (Proc.devRef .tc main_v31) = gateI (F := Ideal) (V (Proc.devRef .tc main_v28)) := by
  unfold gates3 gateI
  simp only [hostOps0_6, List.drop_succ_cons, List.drop_zero]
  after_results_entrywise []
  all_goals rfl

theorem gates3_v34 : gates3 V (Proc.devRef .tc main_v34) = gateF (F := Ideal) (V (Proc.devRef .tc main_v28)) := by
  unfold gates3 gateF
  simp only [hostOps0_6, List.drop_succ_cons, List.drop_zero]
  after_results_entrywise []
  all_goals rfl

theorem gates4_v35 : gates4 V (Proc.devRef .tc main_v35) = logSigmoid (F := Ideal) (V (Proc.devRef .tc main_v34)) := by
  unfold gates4 logSigmoid zeros
  simp only [hostOps0_7]
  after_results_entrywise []
  all_goals rfl

theorem gates4_v31 : gates4 V (Proc.devRef .tc main_v31) = V (Proc.devRef .tc main_v31) := by
  unfold gates4
  simp only [hostOps0_7]
  after_results_entrywise []

theorem gates5_i : gates5 V (Proc.devRef .tc main_v52_3) = chunksG (F := Ideal) (V (Proc.devRef .tc main_v31)) := by
  unfold gates5 chunksG
  simp only [hostOps0_8, hostOps0_9, hostOps0_10]
  after_results_entrywise []
  all_goals rfl

theorem gates5_f : gates5 V (Proc.devRef .tc main_v52_4) = chunksG (F := Ideal) (V (Proc.devRef .tc main_v35)) := by
  unfold gates5 chunksG
  simp only [hostOps0_8, hostOps0_9, hostOps0_10]
  after_results_entrywise []
  all_goals rfl

end gates

theorem entry_gates : entryContents preI m c = gates5 (gates4 (gates3 (gates2 (gates1 (launchContents m c))))) := by
  have h : (hostOps0_6 (F := Ideal)) = (hostOps0_6 (F := Ideal)).take 2 ++ (((hostOps0_6 (F := Ideal)).drop 2).take 20 ++ (hostOps0_6 (F := Ideal)).drop 22) := by
    have h2 := List.take_append_drop 20 ((hostOps0_6 (F := Ideal)).drop 2)
    rw [List.drop_drop] at h2
    rw [h2, List.take_append_drop]
  have h' : ∀ V : Valuation τ sig (Elt Ideal), after (hostOps0_6 (F := Ideal)) V = after ((hostOps0_6 (F := Ideal)).drop 22)
      (after (((hostOps0_6 (F := Ideal)).drop 2).take 20) (after ((hostOps0_6 (F := Ideal)).take 2) V)) := fun V => by
    rw [← after_append, ← after_append, ← h]
  unfold gates1 gates2 gates3 gates4 gates5
  simp only [entryContents, afterL_cons, afterL_nil]
  rw [h']

theorem entry_i : entryContents preI m c (Proc.devRef .tc main_v52_3) = chunksG (gateI (own (grows m c))) := by
  rw [entry_gates, gates5_i, gates4_v31, gates3_v31, gates2_v28, gates1_v9]
  rfl

theorem entry_f : entryContents preI m c (Proc.devRef .tc main_v52_4) = chunksG (logSigmoid (gateF (own (grows m c)))) := by
  rw [entry_gates, gates5_f, gates4_v35, gates3_v34, gates2_v28, gates1_v9]
  rfl

theorem entry_tril : entryContents preI m c (Proc.devRef .tc main_v52_5) = earlier := by
  unfold earlier
  simp only [entryContents, afterL_cons, afterL_nil, hostOps0, hostOps0_1, hostOps0_2, hostOps0_3, hostOps0_4, hostOps0_5, hostOps0_6, hostOps0_7, hostOps0_8, hostOps0_9, hostOps0_10]
  after_results_entrywise []
  all_goals rfl

theorem entry_C : entryContents preI m c (Proc.devRef .tc main_v52_7) = (broadcastInDim S4x8x512x256 ![] bcast_S_S4x8x512x256 (constant S_ .f32 0x00000000#32) : FVec Ideal S4x8x512x256 .f32) := by
  simp only [entryContents, afterL_cons, afterL_nil, hostOps0, hostOps0_1, hostOps0_2, hostOps0_3, hostOps0_4, hostOps0_5, hostOps0_6, hostOps0_7, hostOps0_8, hostOps0_9, hostOps0_10]
  after_results_entrywise []
  all_goals rfl

theorem entry_n : entryContents preI m c (Proc.devRef .tc main_v52_8) = (broadcastInDim S4x8x256 ![] bcast_S_S4x8x256 (constant S_ .f32 0x00000000#32) : FVec Ideal S4x8x256 .f32) := by
  simp only [entryContents, afterL_cons, afterL_nil, hostOps0, hostOps0_1, hostOps0_2, hostOps0_3, hostOps0_4, hostOps0_5, hostOps0_6, hostOps0_7, hostOps0_8, hostOps0_9, hostOps0_10]
  after_results_entrywise []
  all_goals rfl

theorem entry_m : entryContents preI m c (Proc.devRef .tc main_v52_9) = (broadcastInDim S4x8 ![] bcast_S_S4x8 (constant S_ .f32 0x00000000#32) : FVec Ideal S4x8 .f32) := by
  simp only [entryContents, afterL_cons, afterL_nil, hostOps0, hostOps0_1, hostOps0_2, hostOps0_3, hostOps0_4, hostOps0_5, hostOps0_6, hostOps0_7, hostOps0_8, hostOps0_9, hostOps0_10]
  after_results_entrywise []
  all_goals rfl

theorem rev3 {A B C : ℕ} (Y : (⟨3, ![A, B, C]⟩ : Shape).Idx → EReal) (a : Fin A) (b : Fin B) (d : Fin C) :
    Host.reverse [1] Y (ix3 a b d) = Y (ix3 a b.rev d) := congrArg Y (funext fun x => by
  match x with
  | ⟨0, _⟩ => rfl
  | ⟨1, _⟩ => rfl
  | ⟨2, _⟩ => rfl)

/-- The direction of a row: the first two rows are read forward, the last two backward. -/
def back (ρ : Fin 4) : Bool := decide (2 ≤ ρ.val)

/-- The batch element of a row. -/
def bat (ρ : Fin 4) : Fin 2 := ⟨ρ.val % 2, Nat.mod_lt _ (by decide)⟩

theorem back_of_lt {ρ : Fin 4} (h : ρ.val < 2) : back ρ = false := decide_eq_false (by omega)

theorem back_of_le {ρ : Fin 4} (h : ¬ ρ.val < 2) : back ρ = true := decide_eq_true (by omega)

/-- A token's entry, found by whether its row is read forward and whether it lies in the context. -/
theorem dif_tok {N : ℕ} [NeZero N] (a0 : Arr 256 N) (a2 : Arr 8192 N) (r0 : Arr 256 N) (r2 : Arr 8192 N)
    (h0 : ∀ b n d, r0 (ix3 b n d) = a0 (ix3 b n.rev d)) (h2 : ∀ b n d, r2 (ix3 b n d) = a2 (ix3 b n.rev d)) (ρ : Fin 4) (n : Fin 8448) (d : Fin N) :
    (if h : ρ.val < 2 then
      if h_1 : n.val < 256 then a0 (ix3 ⟨ρ.val, h⟩ ⟨n.val, h_1⟩ d) else a2 (ix3 ⟨ρ.val, h⟩ ⟨n.val - 256, by omega⟩ d)
    else
      if h_1 : n.val < 256 then r0 (ix3 ⟨ρ.val - 2, by omega⟩ ⟨n.val, h_1⟩ d) else r2 (ix3 ⟨ρ.val - 2, by omega⟩ ⟨n.val - 256, by omega⟩ d))
      = tok a0 a2 (back ρ) (bat ρ) n d := by
  have hd : Fin.ofNat N d.val = d := Fin.ext (Nat.mod_eq_of_lt d.isLt)
  unfold tok
  rw [hd]
  by_cases hρ : ρ.val < 2
  · have hb : bat ρ = ⟨ρ.val, hρ⟩ := Fin.ext (Nat.mod_eq_of_lt hρ)
    rw [dif_pos hρ, back_of_lt hρ, hb]
    by_cases hn : n.val < 256
    · rw [dif_pos hn, if_pos hn]
      congr 2
      exact Fin.ext (Nat.mod_eq_of_lt hn).symm
    · rw [dif_neg hn, if_neg hn]
      congr 2
      exact Fin.ext (Nat.mod_eq_of_lt (by omega)).symm
  · have hb : bat ρ = ⟨ρ.val - 2, by omega⟩ := Fin.ext (by show ρ.val % 2 = ρ.val - 2; omega)
    rw [dif_neg hρ, back_of_le hρ, hb]
    by_cases hn : n.val < 256
    · rw [dif_pos hn, if_pos hn, h0]
      congr 2
      apply Fin.ext
      rw [Fin.val_rev]
      show 256 - (n.val + 1) = (255 - n.val) % 256
      omega
    · rw [dif_neg hn, if_neg hn, h2]
      congr 2
      apply Fin.ext
      rw [Fin.val_rev]
      show 8192 - (n.val - 256 + 1) = (8447 - n.val) % 8192
      omega

/-- The scale of the keys, one sixteenth. -/
theorem sixteenth : Ideal.ofBits FTy.f32 0x3D800000#32 = ((1 / 16 : ℝ) : EReal) := by
  simp [Ideal.ofBits, Ideal.ieee]
  rw [← EReal.coe_mul]
  norm_num

theorem bothQ_apply (a0 : FVec Ideal S2x256x12288 .bf16) (a2 : FVec Ideal S2x8192x12288 .bf16) (r0 : FVec Ideal S2x256x12288 .bf16) (r2 : FVec Ideal S2x8192x12288 .bf16)
    (h0 : ∀ b n d, r0 (ix3 b n d) = a0 (ix3 b n.rev d)) (h2 : ∀ b n d, r2 (ix3 b n d) = a2 (ix3 b n.rev d)) (ρ : Fin 4) (n : Fin 8448) (d : Fin 12288) :
    bothQ a0 a2 r0 r2 (ix3 ρ n d) = tok a0 a2 (back ρ) (bat ρ) n d := by
  unfold bothQ
  pointwise
  exact dif_tok a0 a2 r0 r2 h0 h2 ρ n d

theorem bothG_apply (a0 : FVec Ideal S2x256x32 .f32) (a2 : FVec Ideal S2x8192x32 .f32) (r0 : FVec Ideal S2x256x32 .f32) (r2 : FVec Ideal S2x8192x32 .f32)
    (h0 : ∀ b n d, r0 (ix3 b n d) = a0 (ix3 b n.rev d)) (h2 : ∀ b n d, r2 (ix3 b n d) = a2 (ix3 b n.rev d)) (ρ : Fin 4) (n : Fin 8448) (d : Fin 32) :
    bothG a0 a2 r0 r2 (ix3 ρ n d) = tok a0 a2 (back ρ) (bat ρ) n d := by
  unfold bothG
  pointwise
  exact dif_tok a0 a2 r0 r2 h0 h2 ρ n d

theorem chunksQ_apply (X : FVec Ideal S4x8448x12288 .bf16) (k : Fin 66) (ρ : Fin 4) (h : Fin 8) (r : Fin 128) (d : Fin 256) :
    chunksQ X (ix5 k ρ h r d) = X (ix3 ρ ⟨128 * k.val + r.val, by omega⟩ ⟨256 * h.val + d.val, by omega⟩) := by
  unfold chunksQ
  pointwise
  simp only [Nat.mul_comm]

theorem chunksK_apply (X : FVec Ideal S4x8448x12288 .bf16) (k : Fin 66) (ρ : Fin 4) (h : Fin 8) (r : Fin 128) (d : Fin 256) :
    chunksK X (ix5 k ρ h r d) = X (ix3 ρ ⟨128 * k.val + r.val, by omega⟩ ⟨2048 + (256 * h.val + d.val), by omega⟩) * ((1 / 16 : ℝ) : EReal) := by
  unfold chunksK
  pointwise
  rw [sixteenth]
  simp only [Nat.mul_comm]

theorem chunksV_apply (X : FVec Ideal S4x8448x12288 .bf16) (k : Fin 66) (ρ : Fin 4) (h : Fin 8) (r : Fin 128) (j : Fin 512) :
    chunksV X (ix5 k ρ h r j) = X (ix3 ρ ⟨128 * k.val + r.val, by omega⟩ ⟨4096 + (512 * h.val + j.val), by omega⟩) := by
  unfold chunksV
  pointwise
  simp only [Nat.mul_comm]

theorem chunksG_apply (X : FVec Ideal S4x8x8448 .f32) (k : Fin 66) (ρ : Fin 4) (h : Fin 8) (r : Fin 128) :
    chunksG X (ix4 k ρ h r) = X (ix3 ρ h ⟨128 * k.val + r.val, by omega⟩) := by
  unfold chunksG
  pointwise
  simp only [Nat.mul_comm]

theorem own_apply (X : FVec Ideal S4x8448x32 .f32) (ρ : Fin 4) (n : Fin 8448) (z : Fin 2) (h : Fin 8) :
    own X (ix4 ρ n z h) = X (ix3 ρ n ⟨(if back ρ then 16 else 0) + 8 * z.val + h.val, by split <;> omega⟩) := by
  unfold own
  pointwise
  by_cases hρ : ρ.val < 2
  · rw [dif_pos hρ]
    congr 1
    have : z.val * 8 + h.val = (if back ρ then 16 else 0) + 8 * z.val + h.val := by rw [back_of_lt hρ]; simp only [Bool.false_eq_true, if_false]; omega
    simp only [this]
  · rw [dif_neg hρ]
    have : 16 + z.val * 8 + h.val = (if back ρ then 16 else 0) + 8 * z.val + h.val := by rw [back_of_le hρ]; simp only [if_true]; omega
    have h2 : (⟨2 + (ρ.val - 2), by omega⟩ : Fin 4) = ρ := Fin.ext (by show 2 + (ρ.val - 2) = ρ.val; omega)
    simp only [this, h2]

theorem gateI_apply (X : FVec Ideal S4x8448x2x8 .f32) (ρ : Fin 4) (h : Fin 8) (n : Fin 8448) : gateI X (ix3 ρ h n) = X (ix4 ρ n 0 h) := by
  unfold gateI
  pointwise

theorem gateF_apply (X : FVec Ideal S4x8448x2x8 .f32) (ρ : Fin 4) (h : Fin 8) (n : Fin 8448) : gateF X (ix3 ρ h n) = X (ix4 ρ n 1 h) := by
  unfold gateF
  pointwise

theorem logSigmoid_apply (X : FVec Ideal S4x8x8448 .f32) (y : S4x8x8448.Idx) (x : ℝ) (hx : X y = (x : EReal)) : logSigmoid X y = (lsigR x : EReal) := by
  unfold logSigmoid zeros
  pointwise
  rw [if_neg (fun h => h rfl), hx, ← EReal.coe_neg, ← EReal.coe_zero, max_coe]
  have ha : FloatOps.absf (F := Ideal) (φ := .f32) ((-x : ℝ) : EReal) = ((|x| : ℝ) : EReal) := (abs_coe (-x)).trans (by rw [abs_neg])
  rw [ha, ← EReal.coe_neg, exp_coe]
  show -(((max (-x) 0 : ℝ) : EReal) + Ideal.log (1 + ((Real.exp (-|x|) : ℝ) : EReal))) = _
  rw [← EReal.coe_one, ← EReal.coe_add, log_coe (one_add_exp_pos _), ← EReal.coe_add, ← EReal.coe_neg]
  congr 1
  unfold lsigR
  have : max (-x) 0 = -min x 0 := by rw [← neg_zero, max_neg_neg, neg_zero]
  rw [this]
  ring

theorem earlier_apply (r d : Fin 128) : earlier (ix2 r d) = if d ≤ r then 1#1 else 0#1 := by
  unfold earlier
  pointwise
  have h0 : IntOp.addi (BitVec.ofNat 32 r.val) 0#32 = BitVec.ofNat 32 r.val := BitVec.add_zero _
  rw [h0, WordCmp.cmpi_sge_ofNat (by omega) (by omega)]
  by_cases h : d ≤ r
  · rw [if_pos h, decide_eq_true (show d.val ≤ r.val from h)]; rfl
  · rw [if_neg h, decide_eq_false (show ¬ d.val ≤ r.val from h)]; rfl

end Cert.ReferenceIdeal.Scan

end
-- ==== Proof.RefValue.lean ====
/-
  What the reference's run leaves: the outputs of the scan over the lanes its arguments hold.
-/
module

public import proofs.«01_k».proof.Proof.RefEntry

@[expose] public section

set_option maxRecDepth 16384

noncomputable section

namespace Cert.ReferenceIdeal.Scan

open Idealize.ShloMosaic Idealize.ShloMosaic.TcCoe Idealize.SL.Sem
open Idealize.ShloMosaic.Tactic Idealize.ShloMosaic.StableHlo Idealize.ShloMosaic.Scf
open Cert.ReferenceIdeal Cert.ReferenceIdeal.Gen Cert.ReferenceIdeal.Value Cert.Scan

variable (m : (ℓ : Loc nD τ sig) → Buf (Elt Ideal) ℓ) (c : Dev nD)

/-- The context's projections. -/
abbrev Qc : Arr 256 12288 := m ((c.tc : Thread nD τ).loc main_arg0)
/-- The context's gates. -/
abbrev Gc : Arr 256 32 := m ((c.tc : Thread nD τ).loc main_arg1)
/-- The latents' projections. -/
abbrev Ql : Arr 8192 12288 := m ((c.tc : Thread nD τ).loc main_arg2)
/-- The latents' gates. -/
abbrev Gl : Arr 8192 32 := m ((c.tc : Thread nD τ).loc main_arg3)

/-- The lane of a row and a head. -/
def rowLane (ρ : Fin 4) (h : Fin 8) : Lane := lane (Qc m c) (Gc m c) (Ql m c) (Gl m c) (back ρ) (bat ρ) h

theorem qrows_apply (ρ : Fin 4) (n : Fin 8448) (d : Fin 12288) : qrows m c (ix3 ρ n d) = tok (Qc m c) (Ql m c) (back ρ) (bat ρ) n d :=
  bothQ_apply _ _ _ _ (fun b n d => rev3 _ b n d) (fun b n d => rev3 _ b n d) ρ n d

theorem grows_apply (ρ : Fin 4) (n : Fin 8448) (d : Fin 32) : grows m c (ix3 ρ n d) = tok (Gc m c) (Gl m c) (back ρ) (bat ρ) n d :=
  bothG_apply _ _ _ _ (fun b n d => rev3 _ b n d) (fun b n d => rev3 _ b n d) ρ n d

variable {m c}

theorem holds_entry (hqc : AllReal (Qc m c)) (hgc : AllReal (Gc m c)) (hql : AllReal (Ql m c)) (hgl : AllReal (Gl m c)) :
    Holds (entryContents preI m c) (rowLane m c) 0 where
  ctr := ctr_entry m c
  q k ρ h r d := by
    rw [entry_q, chunksQ_apply, qrows_apply]
    exact (tok_real hqc hql _ _ _ _).symm
  k k ρ h r d := by
    rw [entry_k, chunksK_apply, qrows_apply, ← tok_real hqc hql, ← EReal.coe_mul]
    rfl
  v k ρ h r j := by
    rw [entry_v, chunksV_apply, qrows_apply, ← tok_real hqc hql]
    unfold rowLane lane
    simp only [if_pos j.isLt]
  ig k ρ h r := by
    rw [entry_i, chunksG_apply, gateI_apply, own_apply, grows_apply, ← tok_real hgc hgl]
    rfl
  lf k ρ h r := by
    rw [entry_f, chunksG_apply]
    refine logSigmoid_apply _ _ _ ?_
    rw [gateF_apply, own_apply, grows_apply, ← tok_real hgc hgl]
    rfl
  tril r d := by rw [entry_tril]; exact earlier_apply r d
  C ρ h j d := by
    rw [entry_C]
    unfold Lane.S
    pointwise
    simp
  n ρ h d := by
    rw [entry_n]
    unfold Lane.S
    pointwise
    simp
  m ρ h := by
    rw [entry_m]
    unfold Lane.M
    pointwise
    simp
  hs k ρ h r j hk := absurd hk (Nat.not_lt_zero _)

theorem row_ones (ρ : Fin 4) (h : Fin 8) (n : ℕ) : (rowLane m c ρ h).v n 512 = 1 := by
  unfold rowLane lane
  simp

/-- The forward output. -/
theorem value59 (hqc : AllReal (Qc m c)) (hgc : AllReal (Gc m c)) (hql : AllReal (Ql m c)) (hgl : AllReal (Gl m c)) (b : Fin 2) (t : Fin 8192) (y : Fin 4096) :
    out_main_v59 (STEP^[66] (entryContents preI m c)) (ix3 b t y)
      = (((lane (Qc m c) (Gc m c) (Ql m c) (Gl m c) false b ⟨y.val / 512, by omega⟩).H (256 + t) (y % 512) : ℝ) : EReal) := by
  rw [out59 (holds_iter (holds_entry hqc hgc hql hgl) row_ones 66 le_rfl) b t y]
  unfold rowLane
  rw [back_of_lt (show (⟨b.val, by omega⟩ : Fin 4).val < 2 from b.isLt), show bat ⟨b.val, by omega⟩ = b from Fin.ext (Nat.mod_eq_of_lt b.isLt)]

/-- The backward output. -/
theorem value61 (hqc : AllReal (Qc m c)) (hgc : AllReal (Gc m c)) (hql : AllReal (Ql m c)) (hgl : AllReal (Gl m c)) (b : Fin 2) (t : Fin 8192) (y : Fin 4096) :
    out_main_v61 (STEP^[66] (entryContents preI m c)) (ix3 b t y)
      = (((lane (Qc m c) (Gc m c) (Ql m c) (Gl m c) true b ⟨y.val / 512, by omega⟩).H (8447 - t) (y % 512) : ℝ) : EReal) := by
  rw [out61 (holds_iter (holds_entry hqc hgc hql hgl) row_ones 66 le_rfl) b t y]
  unfold rowLane
  rw [back_of_le (show ¬ (⟨2 + b.val, by omega⟩ : Fin 4).val < 2 from Nat.not_lt.mpr (Nat.le_add_right 2 b.val)),
    show bat ⟨2 + b.val, by omega⟩ = b from Fin.ext (by show (2 + b.val) % 2 = b.val; omega)]

end Cert.ReferenceIdeal.Scan

end
-- ==== Proof.Finite.lean ====
/-
  What the condition on the inputs says: every entry of the four arguments is a real number.
-/
module

public import proofs.«01_k».proof.Proof.KernelScan
public import proofs.«01_k».proof.Proof.Gen.Pre_finite
public import proofs.«01_k».proof.Defs
public import Idealize.ShloMosaic.Lib.ReduceAll

@[expose] public section

set_option maxRecDepth 16384

noncomputable section

namespace Cert.KernelIdeal.Body

open Idealize.ShloMosaic Idealize.ShloMosaic.TcCoe Idealize.SL.Sem
open Cert.KernelIdeal Cert.KernelIdeal.Gen Cert.Scan Cert.Pre_finite Cert.Pre_finite.Gen

theorem inf_bits : Ideal.ofBits FTy.f32 0x7F800000#32 = (⊤ : EReal) := by
  simp [Ideal.ofBits, Ideal.ieee]

/-- An extended real whose absolute value lies below `⊤` is real. -/
theorem real_of_abs {x : EReal} (h : max x (-x) < ⊤) : ((x.toReal : ℝ) : EReal) = x := by
  induction x with
  | bot => exact absurd h (by simp)
  | coe r => rfl
  | top => exact absurd h (by simp)

theorem ofBool_one {b : Bool} (h : BitVec.ofBool b = 1#1) : b = true := by cases b <;> simp_all

/-- The condition on one array gives that every entry of it is real. -/
theorem all_real {s : Shape} {axes : List (Fin s.rank)} (X : s.Idx → EReal) (T : FVec Ideal s .f32) (hT : ∀ i, T i = (⊤ : EReal)) (init : S_.Idx → BitVec 1)
    (h : s.ReducesTo axes S_) (hu : 0 < S_.numel) (j : S_.Idx)
    (e : Host.reduce IntOp.andi (cmpf .olt (Host.absf (F := Ideal) (φ := .f32) X) T) init h hu j = 1#1) : AllReal X := fun i => by
  have hi := Host.reduce_andi_all _ init h hu j e i
  have hi' : BitVec.ofBool (decide (max (X i) (-(X i)) < T i)) = 1#1 := hi
  rw [hT i] at hi'
  exact real_of_abs (of_decide_eq_true (ofBool_one hi'))

theorem andi_one {a b : IVec S_ 1} {i : S_.Idx} (h : andi a b i = 1#1) : a i = 1#1 ∧ b i = 1#1 := by
  have h' : a i &&& b i = 1#1 := h
  generalize a i = x at h' ⊢
  generalize b i = y at h' ⊢
  revert x y
  decide

theorem real4 {m : (ℓ : Loc nD τ sig) → Buf (Elt Ideal) ℓ} (h : Cert.Pre_KernelIdeal_finite m) (c : Dev nD) : Real4 m c := by
  have e := congrFun (h c) (fun i => i.elim0)
  dsimp only [Cert.Pre_finite.fn, Cert.Pre_finite.fn_part1] at e
  obtain ⟨e, e3⟩ := andi_one e
  obtain ⟨e, e2⟩ := andi_one e
  obtain ⟨e0, e1⟩ := andi_one e
  exact ⟨all_real _ _ (fun _ => inf_bits) _ _ _ _ e0, all_real _ _ (fun _ => inf_bits) _ _ _ _ e1,
    all_real _ _ (fun _ => inf_bits) _ _ _ _ e2, all_real _ _ (fun _ => inf_bits) _ _ _ _ e3⟩

end Cert.KernelIdeal.Body

end
-- ==== Proof.Equation.lean ====
/-
  The kernel's results are the reference's: the two runs leave the same outputs of the same lanes.
-/
module

public import proofs.«01_k».proof.Proof.KernelArray
public import proofs.«01_k».proof.Proof.RefValue
public import proofs.«01_k».proof.Proof.Finite

@[expose] public section

set_option maxRecDepth 16384

noncomputable section

namespace Cert.Scan

open Idealize.ShloMosaic Idealize.ShloMosaic.TcCoe Idealize.SL.Sem Idealize.ShloMosaic.StableHlo

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

theorem idx3 {A B C : ℕ} (y : (⟨3, ![A, B, C]⟩ : Shape).Idx) : y = ix3 (y 0) (y 1) (y 2) :=
  funext fun a => match a with
    | ⟨0, _⟩ => rfl
    | ⟨1, _⟩ => rfl
    | ⟨2, _⟩ => rfl

/-- The reference's forward result, over the arguments the kernel reads. -/
theorem ref59 (c : Dev Cert.KernelIdeal.nD) (hr : Cert.KernelIdeal.Body.Real4 m c)
    (h0 : Cert.ReferenceIdeal.Scan.Qc m' c = Cert.KernelIdeal.Body.Qc m c) (h1 : Cert.ReferenceIdeal.Scan.Gc m' c = Cert.KernelIdeal.Body.Gc m c)
    (h2 : Cert.ReferenceIdeal.Scan.Ql m' c = Cert.KernelIdeal.Body.Ql m c) (h3 : Cert.ReferenceIdeal.Scan.Gl m' c = Cert.KernelIdeal.Body.Gl m c) :
    Cert.ReferenceIdeal.Value.out_main_v59 (Cert.ReferenceIdeal.Value.STEP^[66] (entryContents Cert.ReferenceIdeal.Value.preI m' c))
      = Cert.KernelIdeal.Body.HF m c := by
  funext y
  have e := Cert.ReferenceIdeal.Scan.value59 (m := m') (c := c) (by rw [h0]; exact hr.qc) (by rw [h1]; exact hr.gc) (by rw [h2]; exact hr.ql)
    (by rw [h3]; exact hr.gl) (y 0) (y 1) (y 2)
  rw [h0, h1, h2, h3] at e
  rw [idx3 y]
  exact e

/-- The reference's backward result, over the arguments the kernel reads. -/
theorem ref61 (c : Dev Cert.KernelIdeal.nD) (hr : Cert.KernelIdeal.Body.Real4 m c)
    (h0 : Cert.ReferenceIdeal.Scan.Qc m' c = Cert.KernelIdeal.Body.Qc m c) (h1 : Cert.ReferenceIdeal.Scan.Gc m' c = Cert.KernelIdeal.Body.Gc m c)
    (h2 : Cert.ReferenceIdeal.Scan.Ql m' c = Cert.KernelIdeal.Body.Ql m c) (h3 : Cert.ReferenceIdeal.Scan.Gl m' c = Cert.KernelIdeal.Body.Gl m c) :
    Cert.ReferenceIdeal.Value.out_main_v61 (Cert.ReferenceIdeal.Value.STEP^[66] (entryContents Cert.ReferenceIdeal.Value.preI m' c))
      = Cert.KernelIdeal.Body.HB m c := by
  funext y
  have e := Cert.ReferenceIdeal.Scan.value61 (m := m') (c := c) (by rw [h0]; exact hr.qc) (by rw [h1]; exact hr.gc) (by rw [h2]; exact hr.ql)
    (by rw [h3]; exact hr.gl) (y 0) (y 1) (y 2)
  rw [h0, h1, h2, h3] at e
  rw [idx3 y]
  exact e

end Cert.Scan

end
-- ==== Proof.UpChunk.lean ====
/-
  The feed-forward part's first half, a chunk of 128 rows: two products, each convolved along the grid's rows of 64, the
  first through the gate.  Every stored chunk of the kernel is this one function.
-/
module

public import proofs.«01_k».proof.Proof.Gen.Kernel2Ideal.Value

@[expose] public section

set_option maxRecDepth 16384

noncomputable section

namespace Cert.Kernel2Ideal.Body

open Idealize.ShloMosaic Idealize.ShloMosaic.TcCoe Idealize.SL.Sem
open Cert.Kernel2Ideal Cert.Kernel2Ideal.Gen

variable {F : FTy → Type} [FloatOps F]

/-- The place of each row of a chunk in its grid row. -/
def place : IVec S128x256 32 := andi (iota .tc S128x256 32 [0] iota_S128x256_d0_w32) (broadcast S128x256 63#32)

/-- A product of a chunk with a block of columns. -/
def times (a : Vec F S128x4096 .bf16) (w : FVec F S4096x256 .bf16) : FVec F S128x256 .f32 :=
  matmul dot_S128x4096_S4096x256_S128x256_1_0_0_1_n_n none (shapeCast S128x4096 a shapeCasts_S128x4096_S128x4096) w
    (constant S128x256 .f32 0x00000000#32)

/-- The convolution of a chunk along the grid rows, zero past their ends. -/
def conv (c : FVec F S3x256 .f32) (u : FVec F S128x256 .f32) : FVec F S128x256 .f32 :=
  addf (addf
    (mulf (broadcastTo S128x256 (extractStridedSlice S1x256 ![0, 0] c slices_S3x256_o0_0_S1x256) broadcasts_S1x256_S128x256)
      (select (cmpi .eq place (broadcast S128x256 0#32)) (broadcast S128x256 (Scalar.ofBits .f32 0x00000000#32))
        (dynamicRotate 0 1#32 none u rotates_S128x256_d0)))
    (mulf (broadcastTo S128x256 (extractStridedSlice S1x256 ![1, 0] c slices_S3x256_o1_0_S1x256) broadcasts_S1x256_S128x256) u))
    (mulf (broadcastTo S128x256 (extractStridedSlice S1x256 ![2, 0] c slices_S3x256_o2_0_S1x256) broadcasts_S1x256_S128x256)
      (select (cmpi .eq place (broadcast S128x256 63#32)) (broadcast S128x256 (Scalar.ofBits .f32 0x00000000#32))
        (dynamicRotate 0 127#32 none u rotates_S128x256_d0)))

/-- The gate of a chunk. -/
def gate (u : FVec F S128x256 .f32) : FVec F S128x256 .f32 :=
  mulf u (divf (broadcast S128x256 (Scalar.ofBits .f32 0x3F800000#32))
    (addf (broadcast S128x256 (Scalar.ofBits .f32 0x3F800000#32))
      (exp (subf (broadcast S128x256 (Scalar.ofBits .f32 0x00000000#32)) u))))

/-- What a chunk stores. -/
def chunk (w w2 : FVec F S4096x256 .bf16) (c c2 : FVec F S3x256 .f32) (a : Vec F S128x4096 .bf16) : FVec F S128x256 .bf16 :=
  truncf .bf16 (mulf (gate (conv c (times a w))) (conv c2 (times a w2))) bitsLt_bf16_f32

variable (x0 : Vec F S2048x4096 .bf16) (x1 : Vec F S1x4096x256 .f32) (x2 : Vec F S1x4096x256 .f32) (x3 : Vec F S1x3x256 .f32) (x4 : Vec F S1x3x256 .f32) (x5 : Vec F S1x32x4096 .f32)

/-! Every stored chunk, of the blocks a point reads. -/

theorem piece15 : k0_pay1 (k0_pay130 x0 x1 x2 x3 x4 x5) (k0_pay135 x0 x1 x2 x3 x4 x5) (k0_pay122 (k0_pay120 (k0_pay127 x0 x1 x2 x3 x4 x5) (k0_pay129 x0 x1 x2 x3 x4 x5) (View.ld x0 r0_33)) (k0_pay121 (k0_pay127 x0 x1 x2 x3 x4 x5) (k0_pay129 x0 x1 x2 x3 x4 x5) (View.ld x0 r0_33))) (k0_pay124 (k0_pay135 x0 x1 x2 x3 x4 x5)) (k0_pay125 (k0_pay130 x0 x1 x2 x3 x4 x5) (k0_pay135 x0 x1 x2 x3 x4 x5)) (k0_pay126 (k0_pay130 x0 x1 x2 x3 x4 x5))
    = chunk (k0_pay3 (View.ld x1 r0_1)) (k0_pay4 (View.ld x2 r0_1)) (k0_pay5 (View.ld x3 r0_2)) (k0_pay6 (View.ld x4 r0_2)) (View.ld x0 r0_33) := rfl
theorem piece14 : k0_pay115 (k0_pay130 x0 x1 x2 x3 x4 x5) (k0_pay110 (k0_pay128 x0 x1 x2 x3 x4 x5) (k0_pay134 x0 x1 x2 x3 x4 x5)) (k0_pay111 (k0_pay127 x0 x1 x2 x3 x4 x5) (k0_pay129 x0 x1 x2 x3 x4 x5) (k0_pay134 x0 x1 x2 x3 x4 x5) (constant S128x256 .f32 0x00000000#32)) (k0_pay113 (k0_pay128 x0 x1 x2 x3 x4 x5) (k0_pay134 x0 x1 x2 x3 x4 x5)) k0_pay114
    = chunk (k0_pay3 (View.ld x1 r0_1)) (k0_pay4 (View.ld x2 r0_1)) (k0_pay5 (View.ld x3 r0_2)) (k0_pay6 (View.ld x4 r0_2)) (View.ld x0 r0_31) := rfl
theorem piece13 : k0_pay108 (k0_pay129 x0 x1 x2 x3 x4 x5) (k0_pay130 x0 x1 x2 x3 x4 x5) (k0_pay102 (k0_pay127 x0 x1 x2 x3 x4 x5) (View.ld x0 r0_29)) (k0_pay103 (k0_pay128 x0 x1 x2 x3 x4 x5) (View.ld x0 r0_29)) (k0_pay105 (k0_pay127 x0 x1 x2 x3 x4 x5) (View.ld x0 r0_29)) (k0_pay106 (k0_pay127 x0 x1 x2 x3 x4 x5) (k0_pay129 x0 x1 x2 x3 x4 x5) (View.ld x0 r0_29)) (k0_pay107 (k0_pay129 x0 x1 x2 x3 x4 x5))
    = chunk (k0_pay3 (View.ld x1 r0_1)) (k0_pay4 (View.ld x2 r0_1)) (k0_pay5 (View.ld x3 r0_2)) (k0_pay6 (View.ld x4 r0_2)) (View.ld x0 r0_29) := rfl
theorem piece12 : k0_pay100 (k0_pay130 x0 x1 x2 x3 x4 x5) (k0_pay95 (k0_pay128 x0 x1 x2 x3 x4 x5) (View.ld x0 r0_27)) (k0_pay96 (k0_pay127 x0 x1 x2 x3 x4 x5) (k0_pay129 x0 x1 x2 x3 x4 x5) (View.ld x0 r0_27)) k0_pay97 k0_pay98 (k0_pay99 (k0_pay128 x0 x1 x2 x3 x4 x5) (View.ld x0 r0_27))
    = chunk (k0_pay3 (View.ld x1 r0_1)) (k0_pay4 (View.ld x2 r0_1)) (k0_pay5 (View.ld x3 r0_2)) (k0_pay6 (View.ld x4 r0_2)) (View.ld x0 r0_27) := rfl
theorem piece11 : k0_pay93 (k0_pay129 x0 x1 x2 x3 x4 x5) (k0_pay130 x0 x1 x2 x3 x4 x5) (k0_pay87 (k0_pay127 x0 x1 x2 x3 x4 x5) (View.ld x0 r0_25)) (k0_pay88 (k0_pay128 x0 x1 x2 x3 x4 x5) (View.ld x0 r0_25)) (k0_pay90 (k0_pay127 x0 x1 x2 x3 x4 x5) (View.ld x0 r0_25)) k0_pay91 (k0_pay92 (k0_pay127 x0 x1 x2 x3 x4 x5) (View.ld x0 r0_25)) (Scalar.ofBits .f32 0x00000000#32)
    = chunk (k0_pay3 (View.ld x1 r0_1)) (k0_pay4 (View.ld x2 r0_1)) (k0_pay5 (View.ld x3 r0_2)) (k0_pay6 (View.ld x4 r0_2)) (View.ld x0 r0_25) := rfl
theorem piece10 : k0_pay85 (k0_pay130 x0 x1 x2 x3 x4 x5) (k0_pay82 (k0_pay128 x0 x1 x2 x3 x4 x5) (View.ld x0 r0_23)) (k0_pay83 (k0_pay127 x0 x1 x2 x3 x4 x5) (k0_pay129 x0 x1 x2 x3 x4 x5) (View.ld x0 r0_23)) (iota .tc S128x256 32 [0] iota_S128x256_d0_w32) k0_pay84
    = chunk (k0_pay3 (View.ld x1 r0_1)) (k0_pay4 (View.ld x2 r0_1)) (k0_pay5 (View.ld x3 r0_2)) (k0_pay6 (View.ld x4 r0_2)) (View.ld x0 r0_23) := rfl
theorem piece9 : k0_pay80 (k0_pay76 (k0_pay129 x0 x1 x2 x3 x4 x5) (k0_pay72 (k0_pay127 x0 x1 x2 x3 x4 x5) (View.ld x0 r0_21)) k0_pay74 (k0_pay75 (k0_pay127 x0 x1 x2 x3 x4 x5) (View.ld x0 r0_21))) (k0_pay78 (k0_pay130 x0 x1 x2 x3 x4 x5) (k0_pay133 x0 x1 x2 x3 x4 x5)) (k0_pay79 (k0_pay130 x0 x1 x2 x3 x4 x5) (k0_pay133 x0 x1 x2 x3 x4 x5))
    = chunk (k0_pay3 (View.ld x1 r0_1)) (k0_pay4 (View.ld x2 r0_1)) (k0_pay5 (View.ld x3 r0_2)) (k0_pay6 (View.ld x4 r0_2)) (View.ld x0 r0_21) := rfl
theorem piece8 : k0_pay70 (k0_pay130 x0 x1 x2 x3 x4 x5) (k0_pay67 (k0_pay128 x0 x1 x2 x3 x4 x5) (View.ld x0 r0_19)) (k0_pay68 (k0_pay127 x0 x1 x2 x3 x4 x5) (k0_pay129 x0 x1 x2 x3 x4 x5) (View.ld x0 r0_19)) (k0_pay69 (k0_pay127 x0 x1 x2 x3 x4 x5) (k0_pay129 x0 x1 x2 x3 x4 x5) (View.ld x0 r0_19)) (Scalar.ofBits .f32 0x3F800000#32)
    = chunk (k0_pay3 (View.ld x1 r0_1)) (k0_pay4 (View.ld x2 r0_1)) (k0_pay5 (View.ld x3 r0_2)) (k0_pay6 (View.ld x4 r0_2)) (View.ld x0 r0_19) := rfl
theorem piece7 : k0_pay65 (k0_pay130 x0 x1 x2 x3 x4 x5) (k0_pay132 x0 x1 x2 x3 x4 x5) (k0_pay60 (k0_pay129 x0 x1 x2 x3 x4 x5) (k0_pay56 (k0_pay127 x0 x1 x2 x3 x4 x5) (View.ld x0 r0_17)) k0_pay58 k0_pay59) (k0_pay62 (k0_pay132 x0 x1 x2 x3 x4 x5)) (k0_pay63 (k0_pay130 x0 x1 x2 x3 x4 x5) (k0_pay132 x0 x1 x2 x3 x4 x5)) (k0_pay64 (k0_pay130 x0 x1 x2 x3 x4 x5))
    = chunk (k0_pay3 (View.ld x1 r0_1)) (k0_pay4 (View.ld x2 r0_1)) (k0_pay5 (View.ld x3 r0_2)) (k0_pay6 (View.ld x4 r0_2)) (View.ld x0 r0_17) := rfl
theorem piece6 : k0_pay54 (k0_pay130 x0 x1 x2 x3 x4 x5) (k0_pay51 (k0_pay128 x0 x1 x2 x3 x4 x5) (View.ld x0 r0_15)) (k0_pay52 (k0_pay127 x0 x1 x2 x3 x4 x5) (k0_pay129 x0 x1 x2 x3 x4 x5) (View.ld x0 r0_15)) (k0_pay53 (F := F))
    = chunk (k0_pay3 (View.ld x1 r0_1)) (k0_pay4 (View.ld x2 r0_1)) (k0_pay5 (View.ld x3 r0_2)) (k0_pay6 (View.ld x4 r0_2)) (View.ld x0 r0_15) := rfl
theorem piece5 : k0_pay49 (k0_pay130 x0 x1 x2 x3 x4 x5) (k0_pay131 x0 x1 x2 x3 x4 x5) (k0_pay44 (k0_pay129 x0 x1 x2 x3 x4 x5) (k0_pay42 (k0_pay127 x0 x1 x2 x3 x4 x5) (View.ld x0 r0_13))) (k0_pay46 (k0_pay131 x0 x1 x2 x3 x4 x5)) k0_pay47 (k0_pay48 (k0_pay131 x0 x1 x2 x3 x4 x5)) (Scalar.ofBits .f32 0x00000000#32)
    = chunk (k0_pay3 (View.ld x1 r0_1)) (k0_pay4 (View.ld x2 r0_1)) (k0_pay5 (View.ld x3 r0_2)) (k0_pay6 (View.ld x4 r0_2)) (View.ld x0 r0_13) := rfl
theorem piece4 : k0_pay40 (k0_pay129 x0 x1 x2 x3 x4 x5) (k0_pay130 x0 x1 x2 x3 x4 x5) (k0_pay36 (k0_pay128 x0 x1 x2 x3 x4 x5) (View.ld x0 r0_11)) (k0_pay38 (k0_pay127 x0 x1 x2 x3 x4 x5) (View.ld x0 r0_11)) (k0_pay39 (k0_pay127 x0 x1 x2 x3 x4 x5) (k0_pay129 x0 x1 x2 x3 x4 x5) (View.ld x0 r0_11))
    = chunk (k0_pay3 (View.ld x1 r0_1)) (k0_pay4 (View.ld x2 r0_1)) (k0_pay5 (View.ld x3 r0_2)) (k0_pay6 (View.ld x4 r0_2)) (View.ld x0 r0_11) := rfl
theorem piece3 : k0_pay33 (k0_pay130 x0 x1 x2 x3 x4 x5) (k0_pay29 (k0_pay128 x0 x1 x2 x3 x4 x5) (View.ld x0 r0_9)) (k0_pay30 (k0_pay127 x0 x1 x2 x3 x4 x5) (k0_pay129 x0 x1 x2 x3 x4 x5) (View.ld x0 r0_9)) k0_pay31 (k0_pay32 (k0_pay128 x0 x1 x2 x3 x4 x5) (View.ld x0 r0_9))
    = chunk (k0_pay3 (View.ld x1 r0_1)) (k0_pay4 (View.ld x2 r0_1)) (k0_pay5 (View.ld x3 r0_2)) (k0_pay6 (View.ld x4 r0_2)) (View.ld x0 r0_9) := rfl
theorem piece2 : k0_pay27 (k0_pay129 x0 x1 x2 x3 x4 x5) (k0_pay130 x0 x1 x2 x3 x4 x5) (k0_pay21 (k0_pay127 x0 x1 x2 x3 x4 x5) (View.ld x0 r0_7)) (k0_pay22 (k0_pay128 x0 x1 x2 x3 x4 x5) (View.ld x0 r0_7)) (k0_pay24 (k0_pay127 x0 x1 x2 x3 x4 x5) (View.ld x0 r0_7)) (k0_pay25 (k0_pay127 x0 x1 x2 x3 x4 x5) (View.ld x0 r0_7)) (k0_pay26 (k0_pay129 x0 x1 x2 x3 x4 x5))
    = chunk (k0_pay3 (View.ld x1 r0_1)) (k0_pay4 (View.ld x2 r0_1)) (k0_pay5 (View.ld x3 r0_2)) (k0_pay6 (View.ld x4 r0_2)) (View.ld x0 r0_7) := rfl
theorem piece1 : k0_pay19 (k0_pay130 x0 x1 x2 x3 x4 x5) (k0_pay15 (k0_pay128 x0 x1 x2 x3 x4 x5) (View.ld x0 r0_5)) (k0_pay16 (k0_pay127 x0 x1 x2 x3 x4 x5) (k0_pay129 x0 x1 x2 x3 x4 x5) (View.ld x0 r0_5)) k0_pay17 k0_pay18
    = chunk (k0_pay3 (View.ld x1 r0_1)) (k0_pay4 (View.ld x2 r0_1)) (k0_pay5 (View.ld x3 r0_2)) (k0_pay6 (View.ld x4 r0_2)) (View.ld x0 r0_5) := rfl
theorem piece0 : k0_pay13 (k0_pay129 x0 x1 x2 x3 x4 x5) (k0_pay130 x0 x1 x2 x3 x4 x5) (k0_pay8 (View.ld x1 r0_1) (View.ld x0 r0_3)) (k0_pay9 (View.ld x2 r0_1) (View.ld x0 r0_3)) (k0_pay11 (View.ld x1 r0_1) (View.ld x0 r0_3)) k0_pay12
    = chunk (k0_pay3 (View.ld x1 r0_1)) (k0_pay4 (View.ld x2 r0_1)) (k0_pay5 (View.ld x3 r0_2)) (k0_pay6 (View.ld x4 r0_2)) (View.ld x0 r0_3) := rfl

end Cert.Kernel2Ideal.Body

end
-- ==== Proof.FeedForward.lean ====
/-
  The feed-forward part's first half, in plain mathematics: tokens in grid rows of 64, a product with the weights, a
  convolution of width 3 along each grid row, and the gate.
-/
module

public import Idealize.ShloMosaic.Lib.Pointwise

@[expose] public section

noncomputable section

namespace Cert.Feed

open Idealize.ShloMosaic

/-- A convolution of width 3 at place `n`, zero past the ends of the grid row of 64. -/
def conv3 (a b c : EReal) (f : ℕ → EReal) (n : ℕ) : EReal :=
  (if n % 64 = 0 then 0 else a * f (n - 1)) + b * f n + (if n % 64 = 63 then 0 else c * f (n + 1))

/-- One value through the gate of another. -/
def gated (x y : EReal) : EReal := x * Ideal.div 1 (1 + Ideal.exp (-x)) * y

/-- The product with the weights: row `n` of the batch's tokens laid one after the other. -/
def up (H : Fin 2 → Fin 8192 → Fin 4096 → EReal) (W : Fin 4096 → Fin 22016 → EReal) (j : Fin 22016) (n : ℕ) : EReal :=
  ∑ k : Fin 4096, H ⟨n / 8192 % 2, by omega⟩ ⟨n % 8192, by omega⟩ k * W k j

/-- The convolved product. -/
def mixed (H : Fin 2 → Fin 8192 → Fin 4096 → EReal) (W : Fin 4096 → Fin 22016 → EReal) (C : Fin 3 → Fin 22016 → EReal)
    (n : ℕ) (j : Fin 22016) : EReal := conv3 (C 0 j) (C 1 j) (C 2 j) (up H W j) n

/-- The gated product of the two halves. -/
def act (H : Fin 2 → Fin 8192 → Fin 4096 → EReal) (W : Fin 4096 → Fin 22016 → EReal) (C : Fin 3 → Fin 22016 → EReal)
    (n : ℕ) (j : Fin 11008) : EReal :=
  gated (mixed H W C n ⟨j.val, by omega⟩) (mixed H W C n ⟨11008 + j.val, by omega⟩)

end Cert.Feed

end
-- ==== Proof.UpValue.lean ====
/-
  A chunk of the feed-forward part's first half, at the reals, row by row and column by column.
-/
module

public import proofs.«01_k».proof.Proof.UpChunk
public import proofs.«01_k».proof.Proof.FeedForward
public import Idealize.ShloMosaic.Lib.KernelVsHost
public import Idealize.ShloMosaic.Lib.WordCmp

@[expose] public section

set_option maxRecDepth 16384

noncomputable section

namespace Cert.Kernel2Ideal.Body

open Idealize.ShloMosaic Idealize.ShloMosaic.TcCoe Idealize.SL.Sem
open Cert.Kernel2Ideal Cert.Kernel2Ideal.Gen Cert.Feed

theorem and63 : ∀ r : Fin 128, IntOp.andi (BitVec.ofNat 32 r.val) 63#32 = BitVec.ofNat 32 (r.val % 64) := by decide +kernel

theorem place_eq (r : Fin 128) (j : Fin 256) : place (ix2 r j) = BitVec.ofNat 32 (r.val % 64) := by
  unfold place
  pointwise
  exact and63 r

theorem times_apply (a : Vec Ideal S128x4096 .bf16) (w : FVec Ideal S4096x256 .bf16) (r : Fin 128) (j : Fin 256) :
    times a w (ix2 r j) = ∑ k : Fin 4096, (a (ix2 r k) : EReal) * w (ix2 k j) := by
  unfold times
  rw [shapeCast_self]
  pointwise

theorem gate_apply (u : FVec Ideal S128x256 .f32) (r : Fin 128) (j : Fin 256) :
    gate u (ix2 r j) = (u (ix2 r j) * Ideal.div 1 (1 + Ideal.exp (-(u (ix2 r j) : EReal))) : EReal) := by
  unfold gate
  pointwise
  rw [zero_sub]

theorem sel_eq (n k : ℕ) (hn : n < 64) (hk : k < 64) (x : EReal) :
    Scalar.select (IntOp.cmpi CmpIPredicate.eq (BitVec.ofNat 32 n) (BitVec.ofNat 32 k)) 0 x = if n = k then 0 else x := by
  rw [WordCmp.cmpi_eq_ofNat (by omega) (by omega)]
  by_cases h : n = k <;> simp [Scalar.select, h]

theorem conv_apply (c : FVec Ideal S3x256 .f32) (u : FVec Ideal S128x256 .f32) (r : Fin 128) (j : Fin 256) (f : ℕ → EReal) (n : ℕ)
    (hn : n % 64 = 0) (hf : ∀ r : Fin 128, u (ix2 r j) = f (n + r.val)) :
    conv c u (ix2 r j) = conv3 (c (ix2 0 j)) (c (ix2 1 j)) (c (ix2 2 j)) f (n + r.val) := by
  unfold conv
  pointwise
  rw [place_eq, sel_eq _ 0 (by omega) (by omega), sel_eq _ 63 (by omega) (by omega)]
  have e : (n + r.val) % 64 = r.val % 64 := by omega
  unfold conv3
  rw [e]
  refine congrArg₂ (HAdd.hAdd : EReal → EReal → EReal) (congrArg₂ (HAdd.hAdd : EReal → EReal → EReal) ?_ ?_) ?_
  · split
    · rfl
    · exact congrArg (HMul.hMul (c (ix2 0 j) : EReal)) ((hf _).trans (congrArg f (by
        show n + (r.val + 128 - 1) % 128 = _
        omega)))
  · exact congrArg (HMul.hMul (c (ix2 1 j) : EReal)) (hf r)
  · split
    · rfl
    · exact congrArg (HMul.hMul (c (ix2 2 j) : EReal)) ((hf _).trans (congrArg f (by
        show n + (r.val + 128 - 127) % 128 = _
        omega)))

/-- A stored chunk, where the products of its rows are known. -/
theorem chunk_apply (w w2 : FVec Ideal S4096x256 .bf16) (c c2 : FVec Ideal S3x256 .f32) (a : Vec Ideal S128x4096 .bf16)
    (r : Fin 128) (j : Fin 256) (f g : ℕ → EReal) (n : ℕ) (hn : n % 64 = 0)
    (hf : ∀ r : Fin 128, (∑ k : Fin 4096, (a (ix2 r k) : EReal) * w (ix2 k j)) = f (n + r.val))
    (hg : ∀ r : Fin 128, (∑ k : Fin 4096, (a (ix2 r k) : EReal) * w2 (ix2 k j)) = g (n + r.val)) :
    chunk w w2 c c2 a (ix2 r j) = gated (conv3 (c (ix2 0 j)) (c (ix2 1 j)) (c (ix2 2 j)) f (n + r.val))
      (conv3 (c2 (ix2 0 j)) (c2 (ix2 1 j)) (c2 (ix2 2 j)) g (n + r.val)) := by
  show (gate (conv c (times a w)) (ix2 r j) * conv c2 (times a w2) (ix2 r j) : EReal) = _
  rw [gate_apply, conv_apply c _ r j f n hn (fun r => (times_apply a w r j).trans (hf r)),
    conv_apply c2 _ r j g n hn (fun r => (times_apply a w2 r j).trans (hg r))]
  rfl

end Cert.Kernel2Ideal.Body

end
-- ==== Proof.UpBlock.lean ====
/-
  What a point of the feed-forward part's first half leaves in its block of the first result.
-/
module

public import proofs.«01_k».proof.Proof.UpValue

@[expose] public section

set_option maxRecDepth 16384

noncomputable section

namespace Cert.Kernel2Ideal.Body

open Idealize.ShloMosaic Idealize.ShloMosaic.TcCoe Idealize.SL.Sem
open Cert.Kernel2Ideal Cert.Kernel2Ideal.Gen Cert.Feed

/-- The block of a point whose rows' products are known. -/
def block (x3 x4 : Vec Ideal S1x3x256 .f32) (f g : Fin 256 → ℕ → EReal) (n : ℕ) : Vec Ideal S2048x256 .bf16 := fun y =>
  gated (conv3 (x3 (ix3 0 0 (y 1))) (x3 (ix3 0 1 (y 1))) (x3 (ix3 0 2 (y 1))) (f (y 1)) (n + (y 0).val))
    (conv3 (x4 (ix3 0 0 (y 1))) (x4 (ix3 0 1 (y 1))) (x4 (ix3 0 2 (y 1))) (g (y 1)) (n + (y 0).val))

theorem pay3_apply (x : Vec Ideal S1x4096x256 .f32) (k : Fin 4096) (j : Fin 256) :
    k0_pay3 (View.ld x r0_1) (ix2 k j) = (x (ix3 0 k j) : EReal) := by
  rw [show View.ld x r0_1 = x from View.ld_unit_zero (by decide) _ _]
  unfold k0_pay3
  pointwise

theorem pay5_apply (x : Vec Ideal S1x3x256 .f32) (k : Fin 3) (j : Fin 256) :
    k0_pay5 (View.ld x r0_2) (ix2 k j) = (x (ix3 0 k j) : EReal) := by
  rw [show View.ld x r0_2 = x from View.ld_unit_zero (by decide) _ _]
  unfold k0_pay5
  pointwise

theorem pay6_apply (x : Vec Ideal S1x3x256 .f32) (k : Fin 3) (j : Fin 256) :
    k0_pay6 (View.ld x r0_2) (ix2 k j) = (x (ix3 0 k j) : EReal) := pay5_apply x k j

variable (x0 : Vec Ideal S2048x4096 .bf16) (x1 x2 : Vec Ideal S1x4096x256 .f32) (x3 x4 : Vec Ideal S1x3x256 .f32)

/-- A chunk of the block. -/
theorem piece_at (f g : Fin 256 → ℕ → EReal) (n : ℕ) (hn : n % 64 = 0)
    (hf : ∀ (r : Fin 2048) (j : Fin 256), (∑ k : Fin 4096, (x0 (ix2 r k) : EReal) * x1 (ix3 0 k j)) = f j (n + r.val))
    (hg : ∀ (r : Fin 2048) (j : Fin 256), (∑ k : Fin 4096, (x0 (ix2 r k) : EReal) * x2 (ix3 0 k j)) = g j (n + r.val))
    (q : ℕ) (hq : q % 64 = 0) (hq' : q + 128 ≤ 2048)
    (inb : ∀ a, (![q, 0] : Fin 2 → ℕ) a + S128x4096.size a ≤ S2048x4096.size a)
    (inb' : ∀ a, (![q, 0] : Fin 2 → ℕ) a + S128x256.size a ≤ S2048x256.size a) (x : S128x256.Idx) :
    chunk (k0_pay3 (View.ld x1 r0_1)) (k0_pay4 (View.ld x2 r0_1)) (k0_pay5 (View.ld x3 r0_2)) (k0_pay6 (View.ld x4 r0_2))
        (View.ld x0 (Rect.unit (s := S2048x4096) ![q, 0] S128x4096.size inb)) x
      = block x3 x4 f g n ((Rect.unit (s := S2048x256) ![q, 0] S128x256.size inb').emb x) := by
  obtain ⟨i, j, rfl⟩ : ∃ (i : Fin 128) (j : Fin 256), x = ix2 i j :=
    ⟨x 0, x 1, funext fun a => match a with | ⟨0, _⟩ => rfl | ⟨1, _⟩ => rfl⟩
  have key : ∀ (r : Fin 128) (k : Fin 4096), View.ld x0 (Rect.unit (s := S2048x4096) ![q, 0] S128x4096.size inb) (ix2 r k)
      = x0 (ix2 ⟨q + r.val, by omega⟩ k) := fun r k =>
    congrArg x0 (funext fun a => match a with
      | ⟨0, _⟩ => Fin.ext (by show q + 1 * r.val = q + r.val; omega)
      | ⟨1, _⟩ => Fin.ext (by show 0 + 1 * k.val = k.val; omega))
  have hemb : (Rect.unit (s := S2048x256) ![q, 0] S128x256.size inb').emb (ix2 i j) = ix2 ⟨q + i.val, by omega⟩ j :=
    funext fun a => match a with
      | ⟨0, _⟩ => Fin.ext (by show q + 1 * i.val = q + i.val; omega)
      | ⟨1, _⟩ => Fin.ext (by show 0 + 1 * j.val = j.val; omega)
  rw [hemb]
  refine (chunk_apply _ _ _ _ _ i j (f j) (g j) (n + q) (by omega) (fun r => ?_) (fun r => ?_)).trans ?_
  · refine (Finset.sum_congr rfl fun k _ => congrArg₂ (HMul.hMul : EReal → EReal → EReal) (key r k) (pay3_apply x1 k j)).trans ?_
    exact (hf ⟨q + r.val, by omega⟩ j).trans (congrArg (f j) (by show n + (q + r.val) = _; omega))
  · refine (Finset.sum_congr rfl fun k _ => congrArg₂ (HMul.hMul : EReal → EReal → EReal) (key r k) (pay3_apply x2 k j)).trans ?_
    exact (hg ⟨q + r.val, by omega⟩ j).trans (congrArg (g j) (by show n + (q + r.val) = _; omega))
  · show _ = gated (conv3 (x3 (ix3 0 0 j)) (x3 (ix3 0 1 j)) (x3 (ix3 0 2 j)) (f j) (n + (q + i.val)))
      (conv3 (x4 (ix3 0 0 j)) (x4 (ix3 0 1 j)) (x4 (ix3 0 2 j)) (g j) (n + (q + i.val)))
    rw [← Nat.add_assoc, pay5_apply, pay5_apply, pay5_apply, pay6_apply, pay6_apply, pay6_apply]

variable (x5 : Vec Ideal S1x32x4096 .f32)

/-- A point's block of the first result. -/
theorem out6_eq (f g : Fin 256 → ℕ → EReal) (n : ℕ) (hn : n % 64 = 0)
    (hf : ∀ (r : Fin 2048) (j : Fin 256), (∑ k : Fin 4096, (x0 (ix2 r k) : EReal) * x1 (ix3 0 k j)) = f j (n + r.val))
    (hg : ∀ (r : Fin 2048) (j : Fin 256), (∑ k : Fin 4096, (x0 (ix2 r k) : EReal) * x2 (ix3 0 k j)) = g j (n + r.val)) :
    out0_6 x0 x1 x2 x3 x4 x5 = block x3 x4 f g n := by
  funext y
  unfold out0_6
  refine View.canon_apply_of_pieces (block x3 x4 f g n) _ ?_ y (cover0_6 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact (congrFun (piece15 x0 x1 x2 x3 x4 x5) x).trans (piece_at x0 x1 x2 x3 x4 f g n hn hf hg 1920 (by decide) (by decide) inb_S2048x4096_S128x4096_1920_0 inb_S2048x256_S128x256_1920_0 x)
  · exact (congrFun (piece14 x0 x1 x2 x3 x4 x5) x).trans (piece_at x0 x1 x2 x3 x4 f g n hn hf hg 1792 (by decide) (by decide) inb_S2048x4096_S128x4096_1792_0 inb_S2048x256_S128x256_1792_0 x)
  · exact (congrFun (piece13 x0 x1 x2 x3 x4 x5) x).trans (piece_at x0 x1 x2 x3 x4 f g n hn hf hg 1664 (by decide) (by decide) inb_S2048x4096_S128x4096_1664_0 inb_S2048x256_S128x256_1664_0 x)
  · exact (congrFun (piece12 x0 x1 x2 x3 x4 x5) x).trans (piece_at x0 x1 x2 x3 x4 f g n hn hf hg 1536 (by decide) (by decide) inb_S2048x4096_S128x4096_1536_0 inb_S2048x256_S128x256_1536_0 x)
  · exact (congrFun (piece11 x0 x1 x2 x3 x4 x5) x).trans (piece_at x0 x1 x2 x3 x4 f g n hn hf hg 1408 (by decide) (by decide) inb_S2048x4096_S128x4096_1408_0 inb_S2048x256_S128x256_1408_0 x)
  · exact (congrFun (piece10 x0 x1 x2 x3 x4 x5) x).trans (piece_at x0 x1 x2 x3 x4 f g n hn hf hg 1280 (by decide) (by decide) inb_S2048x4096_S128x4096_1280_0 inb_S2048x256_S128x256_1280_0 x)
  · exact (congrFun (piece9 x0 x1 x2 x3 x4 x5) x).trans (piece_at x0 x1 x2 x3 x4 f g n hn hf hg 1152 (by decide) (by decide) inb_S2048x4096_S128x4096_1152_0 inb_S2048x256_S128x256_1152_0 x)
  · exact (congrFun (piece8 x0 x1 x2 x3 x4 x5) x).trans (piece_at x0 x1 x2 x3 x4 f g n hn hf hg 1024 (by decide) (by decide) inb_S2048x4096_S128x4096_1024_0 inb_S2048x256_S128x256_1024_0 x)
  · exact (congrFun (piece7 x0 x1 x2 x3 x4 x5) x).trans (piece_at x0 x1 x2 x3 x4 f g n hn hf hg 896 (by decide) (by decide) inb_S2048x4096_S128x4096_896_0 inb_S2048x256_S128x256_896_0 x)
  · exact (congrFun (piece6 x0 x1 x2 x3 x4 x5) x).trans (piece_at x0 x1 x2 x3 x4 f g n hn hf hg 768 (by decide) (by decide) inb_S2048x4096_S128x4096_768_0 inb_S2048x256_S128x256_768_0 x)
  · exact (congrFun (piece5 x0 x1 x2 x3 x4 x5) x).trans (piece_at x0 x1 x2 x3 x4 f g n hn hf hg 640 (by decide) (by decide) inb_S2048x4096_S128x4096_640_0 inb_S2048x256_S128x256_640_0 x)
  · exact (congrFun (piece4 x0 x1 x2 x3 x4 x5) x).trans (piece_at x0 x1 x2 x3 x4 f g n hn hf hg 512 (by decide) (by decide) inb_S2048x4096_S128x4096_512_0 inb_S2048x256_S128x256_512_0 x)
  · exact (congrFun (piece3 x0 x1 x2 x3 x4 x5) x).trans (piece_at x0 x1 x2 x3 x4 f g n hn hf hg 384 (by decide) (by decide) inb_S2048x4096_S128x4096_384_0 inb_S2048x256_S128x256_384_0 x)
  · exact (congrFun (piece2 x0 x1 x2 x3 x4 x5) x).trans (piece_at x0 x1 x2 x3 x4 f g n hn hf hg 256 (by decide) (by decide) inb_S2048x4096_S128x4096_256_0 inb_S2048x256_S128x256_256_0 x)
  · exact (congrFun (piece1 x0 x1 x2 x3 x4 x5) x).trans (piece_at x0 x1 x2 x3 x4 f g n hn hf hg 128 (by decide) (by decide) inb_S2048x4096_S128x4096_128_0 inb_S2048x256_S128x256_128_0 x)
  · exact (congrFun (piece0 x0 x1 x2 x3 x4 x5) x).trans (piece_at x0 x1 x2 x3 x4 f g n hn hf hg 0 (by decide) (by decide) inb_S2048x4096_S128x4096_0_0 inb_S2048x256_S128x256_0_0 x)

/-- A point's block of the first result, from what its operands hold: n the first of its tokens, q the first of its columns. -/
theorem out6_act (H : Fin 2 → Fin 8192 → Fin 4096 → EReal) (W : Fin 4096 → Fin 22016 → EReal) (C : Fin 3 → Fin 22016 → EReal)
    (n q : ℕ) (hn : n % 64 = 0) (hq : q + 256 ≤ 11008)
    (h0 : ∀ (r : Fin 2048) (k : Fin 4096), x0 (ix2 r k) = H ⟨(n + r.val) / 8192 % 2, by omega⟩ ⟨(n + r.val) % 8192, by omega⟩ k)
    (h1 : ∀ (k : Fin 4096) (j : Fin 256), x1 (ix3 0 k j) = W k ⟨q + j.val, by omega⟩)
    (h2 : ∀ (k : Fin 4096) (j : Fin 256), x2 (ix3 0 k j) = W k ⟨11008 + (q + j.val), by omega⟩)
    (h3 : ∀ (k : Fin 3) (j : Fin 256), x3 (ix3 0 k j) = C k ⟨q + j.val, by omega⟩)
    (h4 : ∀ (k : Fin 3) (j : Fin 256), x4 (ix3 0 k j) = C k ⟨11008 + (q + j.val), by omega⟩) (r : Fin 2048) (j : Fin 256) :
    out0_6 x0 x1 x2 x3 x4 x5 (ix2 r j) = act H W C (n + r.val) ⟨q + j.val, by omega⟩ := by
  rw [out6_eq x0 x1 x2 x3 x4 x5 (fun j => up H W ⟨q + j.val, by omega⟩) (fun j => up H W ⟨11008 + (q + j.val), by omega⟩) n hn
    (fun r j => Finset.sum_congr rfl fun k _ => congrArg₂ (HMul.hMul : EReal → EReal → EReal) (h0 r k) (h1 k j))
    (fun r j => Finset.sum_congr rfl fun k _ => congrArg₂ (HMul.hMul : EReal → EReal → EReal) (h0 r k) (h2 k j))]
  show gated (conv3 (x3 (ix3 0 0 j)) (x3 (ix3 0 1 j)) (x3 (ix3 0 2 j)) _ (n + r.val))
    (conv3 (x4 (ix3 0 0 j)) (x4 (ix3 0 1 j)) (x4 (ix3 0 2 j)) _ (n + r.val)) = _
  rw [h3 0 j, h3 1 j, h3 2 j, h4 0 j, h4 1 j, h4 2 j]
  rfl

/-- A point's block of the second result. -/
theorem out7_eq (r : Fin 32) (k : Fin 4096) : out0_7 x0 x1 x2 x3 x4 x5 (ix3 0 r k) = (x5 (ix3 0 r k) : EReal) := by
  unfold out0_7
  rw [View.canon_unit_zero (by decide), show View.ld x5 r0_0 = x5 from View.ld_unit_zero (by decide) _ _]
  unfold k0_pay2
  pointwise

end Cert.Kernel2Ideal.Body

end
-- ==== Proof.UpArray.lean ====
/-
  What the kernel of the feed-forward part's first half leaves in its two result arrays.
-/
module

public import proofs.«01_k».proof.Proof.UpBlock
public import Idealize.ShloMosaic.Lib.Pipeline.ValueKit

@[expose] public section

set_option maxRecDepth 16384

noncomputable section

namespace Cert.Kernel2Ideal.Body

open Idealize.ShloMosaic Idealize.ShloMosaic.TcCoe Idealize.SL.Sem
open Cert.Kernel2Ideal Cert.Kernel2Ideal.Gen Cert.Feed

variable (m : (ℓ : Loc nD τ sig) → Buf (Elt Ideal) ℓ)

/-- The tokens. -/
def tokens (c : Dev nD) : Fin 2 → Fin 8192 → Fin 4096 → EReal := fun b s k => m ((c : Thread nD τ).loc main_arg0) (ix3 b s k)

/-- The weights of the layer. -/
def weights (c : Dev nD) : Fin 4096 → Fin 22016 → EReal := fun k j => m ((c : Thread nD τ).loc main_arg1) (ix3 1 k j)

/-- The convolution's weights of the layer. -/
def taps (c : Dev nD) : Fin 3 → Fin 22016 → EReal := fun k j => m ((c : Thread nD τ).loc main_arg2) (ix3 1 k j)

theorem idx : ∀ t : Fin cfg0.N, win0_0.index t = ![t.val / 43, 0] ∧ win0_1.index t = ![1, 0, t.val % 43]
    ∧ win0_2.index t = ![1, 0, 43 + t.val % 43] ∧ win0_3.index t = ![1, 0, t.val % 43]
    ∧ win0_4.index t = ![1, 0, 43 + t.val % 43] ∧ win0_6.index t = ![t.val / 43, t.val % 43] := by decide +kernel

theorem idx_cast : ∀ t : Fin cfg0.N, win0_5.index t = ![1, t.val, 0] ∧ win0_7.index t = ![0, t.val, 0] := by decide +kernel

/-- The tokens as the kernel is given them: one batch element after the other. -/
theorem rows (c : Dev nD) (r : Fin 16384) (k : Fin 4096) :
    V m c main_v0 (ix2 r k) = m ((c : Thread nD τ).loc main_arg0) (ix3 ⟨r.val / 8192 % 2, by omega⟩ ⟨r.val % 8192, by omega⟩ k) := by
  entry_read
  pointwise
  have h : r.val / 8192 % 2 = r.val / 8192 := by omega
  blk_ext [h]

/-- The first result. -/
def result (c : Dev nD) : Vec Ideal S16384x11008 .bf16 := fun y => act (tokens m c) (weights m c) (taps m c) (y 0).val (y 1)

/-- The second result: the next weights of the layer, cast. -/
def cast (c : Dev nD) : Vec Ideal S1x11008x4096 .bf16 := fun y => (m ((c : Thread nD τ).loc main_arg3) (ix3 1 (y 1) (y 2)) : EReal)

/-- A point's block, in the whole array. -/
theorem block_at (c : Dev nD) (t : Fin cfg0.N) (ht : t.val < 344) (r : Fin 2048) (j : Fin 256) :
    out0_6 (iblk m c 0 t) (iblk m c 1 t) (iblk m c 2 t) (iblk m c 3 t) (iblk m c 4 t) (iblk m c 5 t) (ix2 r j)
      = act (tokens m c) (weights m c) (taps m c) (2048 * (t.val / 43) + r.val) ⟨256 * (t.val % 43) + j.val, by omega⟩ := by
  obtain ⟨e0, e1, e2, e3, e4, -⟩ := idx t
  refine out6_act _ _ _ _ _ _ (tokens m c) (weights m c) (taps m c) (2048 * (t.val / 43)) (256 * (t.val % 43)) (by omega) (by omega)
    (fun r k => ?_) (fun k j => ?_) (fun k j => ?_) (fun k j => ?_) (fun k j => ?_) r j
  · refine Eq.trans ?_ (rows m c ⟨2048 * (t.val / 43) + r.val, by omega⟩ k)
    blk_ext [iblk, V, e0]
  · unfold weights
    blk_ext [iblk, V, e1]
  · unfold weights
    blk_ext [iblk, V, e2]
  · unfold taps
    blk_ext [iblk, V, e3]
  · unfold taps
    blk_ext [iblk, V, e4]

/-- The first result array. -/
theorem array6 (c : Dev nD) : (dats m 0 c).arrAt 6 cfg0.N = result m c := by
  refine (dats m 0 c).arrAt_eq_of_covers 6 _ (by decide +kernel) fun t hf y => ?_
  obtain ⟨-, -, -, -, -, e⟩ := idx t
  have hy0 : (y 0).val < 2048 := (y 0).isLt
  have hy1 : (y 1).val < 256 := (y 1).isLt
  have ht : t.val < 344 := t.isLt
  have hemb : ((cfg0.win 6).blk t).view.emb y = ix2 ⟨2048 * (t.val / 43) + (y 0).val, by omega⟩ ⟨256 * (t.val % 43) + (y 1).val, by omega⟩ := by
    blk_ext [e]
  rw [hemb]
  blk_simp
  rw [after0_6]
  have hy : ∀ f : Vec Ideal S2048x256 .bf16, f y = f (ix2 ⟨(y 0).val, hy0⟩ ⟨(y 1).val, hy1⟩) := fun f =>
    congrArg f (funext fun a => match a with | ⟨0, _⟩ => rfl | ⟨1, _⟩ => rfl)
  exact (hy _).trans (block_at m c t ht ⟨(y 0).val, hy0⟩ ⟨(y 1).val, hy1⟩)

/-- The second result array. -/
theorem array7 (c : Dev nD) : (dats m 0 c).arrAt 7 cfg0.N = cast m c := by
  refine (dats m 0 c).arrAt_eq_of_covers 7 _ (by decide +kernel) fun t hf y => ?_
  obtain ⟨e5, e⟩ := idx_cast t
  have hy0 : (y 0).val < 1 := (y 0).isLt
  have hy1 : (y 1).val < 32 := (y 1).isLt
  have hy2 : (y 2).val < 4096 := (y 2).isLt
  have ht : t.val < 344 := t.isLt
  have hemb : ((cfg0.win 7).blk t).view.emb y = ix3 0 ⟨32 * t.val + (y 1).val, by omega⟩ ⟨(y 2).val, hy2⟩ := by
    blk_ext [e]
  rw [hemb]
  blk_simp
  rw [after0_7]
  have hy : ∀ f : Vec Ideal S1x32x4096 .bf16, f y = f (ix3 0 ⟨(y 1).val, hy1⟩ ⟨(y 2).val, hy2⟩) := fun f =>
    congrArg f (funext fun a => match a with | ⟨0, _⟩ => Fin.ext (by show (y 0).val = 0; omega) | ⟨1, _⟩ => rfl | ⟨2, _⟩ => rfl)
  refine (hy _).trans ((out7_eq _ _ _ _ _ _ _ _).trans ?_)
  unfold cast
  blk_ext [iblk, V, e5]

end Cert.Kernel2Ideal.Body

end
-- ==== Proof.UpReference.lean ====
/-
  What the reference of the feed-forward part's first half leaves, row by row and column by column.
-/
module

public import proofs.«01_k».proof.Proof.Gen.Reference2Ideal.Run
public import proofs.«01_k».proof.Proof.FeedForward

@[expose] public section

set_option maxRecDepth 16384

noncomputable section

namespace Cert.Reference2Ideal.Body

open Idealize.ShloMosaic Idealize.ShloMosaic.TcCoe Idealize.SL.Sem
open Cert.Reference2Ideal Cert.Reference2Ideal.Gen Cert.Feed

/-- The product with the weights of one layer. -/
def times (H : Vec Ideal S2x8192x4096 .bf16) (W : FVec Ideal S1x4096x22016 .f32) : FVec Ideal S2x8192x22016 .f32 :=
  Host.dotGeneral (φ₁ := .f32) (φ₂ := .f32) dot_S2x8192x4096_S4096x22016_S2x8192x22016_2_0_01_1_n_n none (extf .f32 H bitsLt_bf16_f32)
    (shapeCast S4096x22016 W shapeCasts_S1x4096x22016_S4096x22016)

theorem times_apply (H : Vec Ideal S2x8192x4096 .bf16) (W : FVec Ideal S1x4096x22016 .f32) (b : Fin 2) (s : Fin 8192) (j : Fin 22016) :
    times H W (ix3 b s j) = ∑ k : Fin 4096, (H (ix3 b s k) : EReal) * W (ix3 0 k j) := by
  unfold times
  pointwise

/-- A layer's tap of the convolution, along every column. -/
def tap (C : FVec Ideal S1x3x22016 .f32) (o : Fin 2 → ℕ) (h : S3x22016.Slices o S1x22016) : FVec Ideal S2x128x64x22016 .f32 :=
  broadcastInDim S2x128x64x22016 ![0, 1, 2, 3] bcast_S1x1x1x22016_S2x128x64x22016_0_1_2_3
    (broadcastInDim S1x1x1x22016 ![3] bcast_S22016_S1x1x1x22016_3
      (shapeCast S22016 (extractStridedSlice S1x22016 o
        (shapeCast S3x22016 C shapeCasts_S1x3x22016_S3x22016) h)
        shapeCasts_S1x22016_S22016))

theorem tap0_apply (C : FVec Ideal S1x3x22016 .f32) (b : Fin 2) (g : Fin 128) (x : Fin 64) (j : Fin 22016) :
    tap C ![0, 0] slices_S3x22016_S1x22016_0_0 (ix4 b g x j) = (C (ix3 0 0 j) : EReal) := by
  unfold tap; pointwise
theorem tap1_apply (C : FVec Ideal S1x3x22016 .f32) (b : Fin 2) (g : Fin 128) (x : Fin 64) (j : Fin 22016) :
    tap C ![1, 0] slices_S3x22016_S1x22016_1_0 (ix4 b g x j) = (C (ix3 0 1 j) : EReal) := by
  unfold tap; pointwise
theorem tap2_apply (C : FVec Ideal S1x3x22016 .f32) (b : Fin 2) (g : Fin 128) (x : Fin 64) (j : Fin 22016) :
    tap C ![2, 0] slices_S3x22016_S1x22016_2_0 (ix4 b g x j) = (C (ix3 0 2 j) : EReal) := by
  unfold tap; pointwise

/-- The convolution along the grid rows. -/
def conv (C : FVec Ideal S1x3x22016 .f32) (U : FVec Ideal S2x8192x22016 .f32) : FVec Ideal S2x8192x22016 .f32 :=
  shapeCast S2x8192x22016 (addf (addf
    (mulf (tap C ![0, 0] slices_S3x22016_S1x22016_0_0)
      (concatenate S2x128x64x22016 2 [⟨S2x128x1x22016, broadcastInDim S2x128x1x22016 ![] bcast_S_S2x128x1x22016 (constant S_ .f32 0x00000000#32)⟩,
        ⟨S2x128x63x22016, extractStridedSlice S2x128x63x22016 ![0, 0, 0, 0] (shapeCast S2x128x64x22016 U shapeCasts_S2x8192x22016_S2x128x64x22016) slices_S2x128x64x22016_S2x128x63x22016_0_0_0_0⟩]
        concatenates_S2x128x1x22016_S2x128x63x22016_S2x128x64x22016_d2))
    (mulf (tap C ![1, 0] slices_S3x22016_S1x22016_1_0) (shapeCast S2x128x64x22016 U shapeCasts_S2x8192x22016_S2x128x64x22016)))
    (mulf (tap C ![2, 0] slices_S3x22016_S1x22016_2_0)
      (concatenate S2x128x64x22016 2 [⟨S2x128x63x22016, extractStridedSlice S2x128x63x22016 ![0, 0, 1, 0] (shapeCast S2x128x64x22016 U shapeCasts_S2x8192x22016_S2x128x64x22016) slices_S2x128x64x22016_S2x128x63x22016_0_0_1_0⟩,
        ⟨S2x128x1x22016, broadcastInDim S2x128x1x22016 ![] bcast_S_S2x128x1x22016 (constant S_ .f32 0x00000000#32)⟩]
        concatenates_S2x128x63x22016_S2x128x1x22016_S2x128x64x22016_d2))) shapeCasts_S2x128x64x22016_S2x8192x22016

theorem conv_apply (C : FVec Ideal S1x3x22016 .f32) (U : FVec Ideal S2x8192x22016 .f32) (b : Fin 2) (s : Fin 8192) (j : Fin 22016)
    (f : ℕ → EReal) (hf : ∀ s : Fin 8192, U (ix3 b s j) = f (8192 * b.val + s.val)) :
    conv C U (ix3 b s j) = conv3 (C (ix3 0 0 j)) (C (ix3 0 1 j)) (C (ix3 0 2 j)) f (8192 * b.val + s.val) := by
  unfold conv
  pointwise
  rw [tap0_apply, tap1_apply, tap2_apply]
  have e : (8192 * b.val + s.val) % 64 = s.val % 64 := by omega
  unfold conv3
  rw [e]
  refine congrArg₂ (HAdd.hAdd : EReal → EReal → EReal) (congrArg₂ (HAdd.hAdd : EReal → EReal → EReal) ?_ ?_) ?_
  · by_cases h : s.val % 64 = 0
    · rw [dif_pos (by omega), if_pos h, mul_zero]
    · rw [dif_neg (by omega), if_neg h]
      exact congrArg (HMul.hMul (C (ix3 0 0 j) : EReal)) ((hf _).trans (congrArg f (by
        show 8192 * b.val + (s.val / 64 * 64 + (s.val % 64 - 1)) = _
        omega)))
  · exact congrArg (HMul.hMul (C (ix3 0 1 j) : EReal)) (hf s)
  · by_cases h : s.val % 64 = 63
    · rw [dif_neg (by omega), if_pos h, mul_zero]
    · rw [dif_pos (by omega), if_neg h]
      exact congrArg (HMul.hMul (C (ix3 0 2 j) : EReal)) ((hf _).trans (congrArg f (by
        show 8192 * b.val + (s.val / 64 * 64 + (1 + s.val % 64)) = _
        omega)))

/-- The gated product. -/
def act (U : FVec Ideal S2x8192x22016 .f32) : FVec Ideal S16384x11008 .bf16 :=
  shapeCast S16384x11008 (truncf .bf16 (mulf (mulf (extractStridedSlice S2x8192x11008 ![0, 0, 0] U slices_S2x8192x22016_S2x8192x11008_0_0_0)
    (Host.divf (broadcastInDim S2x8192x11008 ![] bcast_S_S2x8192x11008 (constant S_ .f32 0x3F800000#32))
      (addf (broadcastInDim S2x8192x11008 ![] bcast_S_S2x8192x11008 (constant S_ .f32 0x3F800000#32))
        (Host.exp (Host.negf (extractStridedSlice S2x8192x11008 ![0, 0, 0] U slices_S2x8192x22016_S2x8192x11008_0_0_0))))))
    (extractStridedSlice S2x8192x11008 ![0, 0, 11008] U slices_S2x8192x22016_S2x8192x11008_0_0_11008)) bitsLt_bf16_f32) shapeCasts_S2x8192x11008_S16384x11008

theorem act_apply (U : FVec Ideal S2x8192x22016 .f32) (r : Fin 16384) (j : Fin 11008) :
    act U (ix2 r j) = gated (U (ix3 ⟨r.val / 8192, by omega⟩ ⟨r.val % 8192, by omega⟩ ⟨j.val, by omega⟩))
      (U (ix3 ⟨r.val / 8192, by omega⟩ ⟨r.val % 8192, by omega⟩ ⟨11008 + j.val, by omega⟩)) := by
  unfold act gated
  pointwise

/-- The first result, from the weights of one layer. -/
theorem up_apply (H : Vec Ideal S2x8192x4096 .bf16) (W : FVec Ideal S1x4096x22016 .f32) (C : FVec Ideal S1x3x22016 .f32) (r : Fin 16384) (j : Fin 11008) :
    act (conv C (times H W)) (ix2 r j)
      = Feed.act (fun b s k => H (ix3 b s k)) (fun k j => W (ix3 0 k j)) (fun k j => C (ix3 0 k j)) r.val j := by
  rw [act_apply]
  have hu : ∀ (j : Fin 22016) (s : Fin 8192), times H W (ix3 ⟨r.val / 8192, by omega⟩ s j)
      = up (fun b s k => H (ix3 b s k)) (fun k j => W (ix3 0 k j)) j (8192 * (r.val / 8192) + s.val) := fun j s => by
    rw [times_apply]
    have e1 : (8192 * (r.val / 8192) + s.val) / 8192 % 2 = r.val / 8192 := by omega
    have e2 : (8192 * (r.val / 8192) + s.val) % 8192 = s.val := by omega
    unfold up
    simp only [e1, e2]
  rw [conv_apply _ _ _ _ _ _ (hu _), conv_apply _ _ _ _ _ _ (hu _)]
  show gated (conv3 _ _ _ _ (8192 * (r.val / 8192) + r.val % 8192)) (conv3 _ _ _ _ (8192 * (r.val / 8192) + r.val % 8192)) = _
  rw [show 8192 * (r.val / 8192) + r.val % 8192 = r.val by omega]
  rfl

variable (m : (ℓ : Loc nD τ sig) → Buf (Elt Ideal) ℓ)

theorem result_eq (c : Dev nD) : Value.res_main_v35 m c = act (conv
    (extractStridedSlice S1x3x22016 ![1, 0, 0] (m ((c.tc : Thread nD τ).loc main_arg2)) slices_S2x3x22016_S1x3x22016_1_0_0)
    (times (m ((c.tc : Thread nD τ).loc main_arg0))
      (extractStridedSlice S1x4096x22016 ![1, 0, 0] (m ((c.tc : Thread nD τ).loc main_arg1)) slices_S2x4096x22016_S1x4096x22016_1_0_0))) := rfl

/-- The first result. -/
theorem result_apply (c : Dev nD) (r : Fin 16384) (j : Fin 11008) : Value.res_main_v35 m c (ix2 r j)
    = Feed.act (fun b s k => m ((c.tc : Thread nD τ).loc main_arg0) (ix3 b s k)) (fun k j => m ((c.tc : Thread nD τ).loc main_arg1) (ix3 1 k j))
        (fun k j => m ((c.tc : Thread nD τ).loc main_arg2) (ix3 1 k j)) r.val j := by
  rw [result_eq, up_apply]
  congr 1
  · funext k j
    pointwise
  · funext k j
    pointwise

/-- The second result. -/
theorem cast_apply (W : Vec Ideal S2x11008x4096 .f32) (a : Fin 1) (r : Fin 11008) (k : Fin 4096) :
    (truncf (F := Ideal) .bf16 (extractStridedSlice S1x11008x4096 ![1, 0, 0] W slices_S2x11008x4096_S1x11008x4096_1_0_0) bitsLt_bf16_f32
      : Vec Ideal S1x11008x4096 .bf16) (ix3 a r k) = (W (ix3 1 r k) : EReal) := by
  pointwise

end Cert.Reference2Ideal.Body

end
-- ==== Proof.Down.lean ====
/-
  The product with the weights of the feed-forward part's second half: the array the kernel leaves is the reference's.
-/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.Covers
public import Idealize.ShloMosaic.Lib.KernelVsHost

@[expose] public section

set_option maxRecDepth 16384

noncomputable section

namespace Cert.Kernel3Ideal.Body

open Idealize.ShloMosaic Idealize.ShloMosaic.TcCoe Idealize.SL.Sem
open Cert.Kernel3Ideal Cert.Kernel3Ideal.Gen

/-- One product of a block of rows with a block of columns, from its rows and columns. -/
def prod (A : Vec Ideal S512x11008 .bf16) (B : Vec Ideal S1x11008x512 .bf16) : Vec Ideal S512x512 .bf16 := fun y =>
  ∑ k : Fin 11008, (A (ix2 (y 0) k) : EReal) * B (ix3 0 k (y 1))

theorem pay2_apply (B : Vec Ideal S1x11008x512 .bf16) (a : Vec Ideal S256x11008 .bf16) (r : Fin 256) (j : Fin 512) :
    k0_pay2 B a (ix2 r j) = ∑ k : Fin 11008, (a (ix2 r k) : EReal) * B (ix3 0 k j) := by
  unfold k0_pay2 k0_pay1
  pointwise

theorem pay3_apply (B : Vec Ideal S1x11008x512 .bf16) (a : Vec Ideal S256x11008 .bf16) (r : Fin 256) (j : Fin 512) :
    k0_pay3 B a (ix2 r j) = ∑ k : Fin 11008, (a (ix2 r k) : EReal) * B (ix3 0 k j) := pay2_apply B a r j

/-- What a point leaves in its block of the result. -/
theorem out_eq (A : Vec Ideal S512x11008 .bf16) (B : Vec Ideal S1x11008x512 .bf16) : out0_2 A B = prod A B := by
  funext y
  unfold out0_2
  refine View.canon_apply_of_pieces (prod A B) _ ?_ y (cover0_2 _ _ y)
  intro p hp x
  simp only [List.mem_cons, List.not_mem_nil, or_false] at hp
  have hB : View.ld B r0_0 = B := View.ld_unit_zero (by decide) _ _
  rcases hp with rfl | rfl
  · show k0_pay3 (View.ld B r0_0) (View.ld A r0_3) x = _
    rw [hB, show x = ix2 (x 0) (x 1) from funext fun a => match a with | ⟨0, _⟩ => rfl | ⟨1, _⟩ => rfl]
    refine (pay3_apply B _ (x 0) (x 1)).trans (Finset.sum_congr rfl fun k _ => ?_)
    exact congrArg₂ (HMul.hMul : EReal → EReal → EReal)
      (congrArg A (funext fun a => match a with | ⟨0, _⟩ => rfl | ⟨1, _⟩ => Fin.ext (by show 0 + 1 * k.val = k.val; omega)))
      (congrArg B (funext fun a => match a with | ⟨0, _⟩ => rfl | ⟨1, _⟩ => rfl | ⟨2, _⟩ => Fin.ext (by show (x 1).val = 0 + 1 * (x 1).val; omega)))
  · show k0_pay2 (View.ld B r0_0) (View.ld A r0_1) x = _
    rw [hB, show x = ix2 (x 0) (x 1) from funext fun a => match a with | ⟨0, _⟩ => rfl | ⟨1, _⟩ => rfl]
    refine (pay2_apply B _ (x 0) (x 1)).trans (Finset.sum_congr rfl fun k _ => ?_)
    exact congrArg₂ (HMul.hMul : EReal → EReal → EReal)
      (congrArg A (funext fun a => match a with | ⟨0, _⟩ => rfl | ⟨1, _⟩ => Fin.ext (by show 0 + 1 * k.val = k.val; omega)))
      (congrArg B (funext fun a => match a with | ⟨0, _⟩ => rfl | ⟨1, _⟩ => rfl | ⟨2, _⟩ => Fin.ext (by show (x 1).val = 0 + 1 * (x 1).val; omega)))

variable (m : (ℓ : Loc nD τ sig) → Buf (Elt Ideal) ℓ)

theorem idx : ∀ t : Fin cfg0.N, win0_0.index t = ![t.val % 32, 0] ∧ win0_1.index t = ![0, 0, t.val / 32]
    ∧ win0_2.index t = ![t.val % 32, t.val / 32] := by decide +kernel

/-- The product, of whole arrays. -/
def product (A : Vec Ideal S16384x11008 .bf16) (B : Vec Ideal S1x11008x4096 .bf16) : Vec Ideal S16384x4096 .bf16 := fun y =>
  ∑ k : Fin 11008, (A (ix2 (y 0) k) : EReal) * B (ix3 0 k (y 1))

theorem point_sum (a : Vec Ideal S512x11008 .bf16) (b : Vec Ideal S1x11008x512 .bf16) (A : Vec Ideal S16384x11008 .bf16)
    (B : Vec Ideal S1x11008x4096 .bf16) (y : S512x512.Idx) (r : Fin 16384) (j : Fin 4096)
    (ha : ∀ k, a (ix2 (y 0) k) = A (ix2 r k)) (hb : ∀ k, b (ix3 0 k (y 1)) = B (ix3 0 k j)) : prod a b y = product A B (ix2 r j) :=
  Finset.sum_congr rfl fun k _ => congrArg₂ (HMul.hMul : EReal → EReal → EReal) (ha k) (hb k)

/-- The kernel's result array is the product. -/
theorem array (c : Dev nD) : (dats m 0 c).arrAt 2 cfg0.N =
    product (m ((c : Thread nD τ).loc main_arg0)) (m ((c : Thread nD τ).loc main_arg1)) := by
  refine (dats m 0 c).arrAt_eq_of_covers 2 _ (by decide +kernel) fun t hf y => ?_
  obtain ⟨e0, e1, e2⟩ := idx t
  have hy0 : (y 0).val < 512 := (y 0).isLt
  have hy1 : (y 1).val < 512 := (y 1).isLt
  have ht : t.val < 256 := t.isLt
  have hemb : ((cfg0.win 2).blk t).view.emb y = ix2 ⟨512 * (t.val % 32) + (y 0).val, by omega⟩ ⟨512 * (t.val / 32) + (y 1).val, by omega⟩ := by
    blk_ext [e2]
  rw [hemb]
  blk_simp
  rw [after0_2, out_eq]
  refine point_sum _ _ _ _ _ _ _ (fun k => ?_) (fun k => ?_)
  · blk_ext [iblk, V, e0]
  · blk_ext [iblk, V, e1]

end Cert.Kernel3Ideal.Body

namespace Cert.Reference3Ideal.Body

open Idealize.ShloMosaic Idealize.ShloMosaic.TcCoe Idealize.SL.Sem
open Cert.Reference3Ideal Cert.Reference3Ideal.Gen

theorem value (A : Vec Ideal S16384x11008 .bf16) (B : Vec Ideal S1x11008x4096 .bf16) (r : Fin 16384) (j : Fin 4096) :
    (truncf (F := Ideal) .bf16 (Host.dotGeneral (φ₁ := .f32) dot_S16384x11008_S11008x4096_S16384x4096_1_0_0_1_n_n none (extf .f32 A bitsLt_bf16_f32)
      (extf .f32 (shapeCast S11008x4096 B shapeCasts_S1x11008x4096_S11008x4096) bitsLt_bf16_f32)) bitsLt_bf16_f32 : Vec Ideal S16384x4096 .bf16) (ix2 r j)
      = ∑ k : Fin 11008, (A (ix2 r k) : EReal) * B (ix3 0 k j) := by
  pointwise

end Cert.Reference3Ideal.Body

end
-- ==== Proof.Rows.lean ====
/-
  Rows of blocks and of arrays: what a load of some rows reads, where a store of some rows lands, and the product of a token
  with a column of weights.
-/
module

public import Idealize.ShloMosaic.Lib.Pointwise
public import Idealize.ShloMosaic.Lib.Pipeline.Covers
public import Idealize.ShloMosaic.Lib.KernelVsHost
public import Idealize.ShloMosaic.Lib.Pipeline.ValueKit

@[expose] public section

noncomputable section

namespace Cert.Rows

open Idealize.ShloMosaic

variable {R n K : ℕ}

/-- A load of n rows from row q on reads those rows. -/
theorem ld_rows {e : EltTy} (x : Vec Ideal ⟨2, ![R, K]⟩ e) (q : ℕ) (hq : q + n ≤ R)
    (inb : ∀ a, (![q, 0] : Fin 2 → ℕ) a + (![n, K] : Fin 2 → ℕ) a ≤ (![R, K] : Fin 2 → ℕ) a) (r : Fin n) (k : Fin K) :
    View.ld x (Rect.unit (s := ⟨2, ![R, K]⟩) ![q, 0] ![n, K] inb) (ix2 r k) = x (ix2 ⟨q + r.val, by omega⟩ k) :=
  congrArg x (funext fun a => match a with
    | ⟨0, _⟩ => Fin.ext (by show q + 1 * r.val = q + r.val; omega)
    | ⟨1, _⟩ => Fin.ext (by show 0 + 1 * k.val = k.val; omega))

/-- A store of n rows from row q on writes those rows. -/
theorem emb_rows (q : ℕ) (hq : q + n ≤ R)
    (inb : ∀ a, (![q, 0] : Fin 2 → ℕ) a + (![n, K] : Fin 2 → ℕ) a ≤ (![R, K] : Fin 2 → ℕ) a) (r : Fin n) (k : Fin K) :
    (Rect.unit (s := ⟨2, ![R, K]⟩) ![q, 0] ![n, K] inb).emb (ix2 r k) = ix2 ⟨q + r.val, by omega⟩ k :=
  funext fun a => match a with
    | ⟨0, _⟩ => Fin.ext (by show q + 1 * r.val = q + r.val; omega)
    | ⟨1, _⟩ => Fin.ext (by show 0 + 1 * k.val = k.val; omega)

/-- The product of a token, counted through both batch elements, with a column of the weights. -/
def line {N : ℕ} (H : Vec Ideal ⟨3, ![2, 8192, 4096]⟩ .bf16) (W : Vec Ideal ⟨3, ![1, 4096, N]⟩ .f32) (r : Fin 16384) (j : Fin N) : EReal :=
  ∑ k : Fin 4096, (H (ix3 ⟨r.val / 8192 % 2, by omega⟩ ⟨r.val % 8192, by omega⟩ k) : EReal) * W (ix3 0 k j)

/-- Such a product, from the rows and columns of blocks. -/
theorem line_of {N A B : ℕ} (H : Vec Ideal ⟨3, ![2, 8192, 4096]⟩ .bf16) (W : Vec Ideal ⟨3, ![1, 4096, N]⟩ .f32)
    (a : Vec Ideal ⟨2, ![A, 4096]⟩ .bf16) (b : Vec Ideal ⟨3, ![1, 4096, B]⟩ .f32) (i : Fin A) (l : Fin B) (r : Fin 16384) (j : Fin N)
    (ha : ∀ k, a (ix2 i k) = H (ix3 ⟨r.val / 8192 % 2, by omega⟩ ⟨r.val % 8192, by omega⟩ k)) (hb : ∀ k, b (ix3 0 k l) = W (ix3 0 k j)) :
    (∑ k : Fin 4096, (a (ix2 i k) : EReal) * b (ix3 0 k l)) = line H W r j :=
  Finset.sum_congr rfl fun k _ => congrArg₂ (HMul.hMul : EReal → EReal → EReal) (ha k) (hb k)

/-- The same, the columns' block transposed. -/
theorem line_of_swapped {N A B : ℕ} (H : Vec Ideal ⟨3, ![2, 8192, 4096]⟩ .bf16) (W : Vec Ideal ⟨3, ![1, 4096, N]⟩ .f32)
    (a : Vec Ideal ⟨2, ![A, 4096]⟩ .bf16) (b : Vec Ideal ⟨3, ![1, B, 4096]⟩ .f32) (i : Fin A) (l : Fin B) (r : Fin 16384) (j : Fin N)
    (ha : ∀ k, a (ix2 i k) = H (ix3 ⟨r.val / 8192 % 2, by omega⟩ ⟨r.val % 8192, by omega⟩ k)) (hb : ∀ k, b (ix3 0 l k) = W (ix3 0 k j)) :
    (∑ k : Fin 4096, (a (ix2 i k) : EReal) * b (ix3 0 l k)) = line H W r j :=
  Finset.sum_congr rfl fun k _ => congrArg₂ (HMul.hMul : EReal → EReal → EReal) (ha k) (hb k)

end Cert.Rows

end
-- ==== Proof.InProj.lean ====
/-
  The input projection of the mLSTM mixer, from the transposed weights: the array the kernel leaves is the reference's.
-/
module

public import proofs.«01_k».proof.Proof.Gen.Kernel4Ideal.Value
public import proofs.«01_k».proof.Proof.Gen.Reference4Ideal.Run
public import proofs.«01_k».proof.Proof.Rows
public import Idealize.ShloMosaic.Lib.Pipeline.ReadBack
public import Idealize.ShloMosaic.Lib.Pipeline.ValueKit

@[expose] public section

set_option maxRecDepth 16384

noncomputable section

namespace Cert.Kernel4Ideal.Body

open Idealize.ShloMosaic Idealize.ShloMosaic.TcCoe Idealize.SL.Sem
open Cert.Kernel4Ideal Cert.Kernel4Ideal.Gen Cert.Rows

/-- The product of a block of rows with a block of transposed columns, from its rows. -/
def prod (A : Vec Ideal S1024x4096 .bf16) (B : Vec Ideal S1x512x4096 .f32) : Vec Ideal S1024x512 .bf16 := fun y =>
  ∑ k : Fin 4096, (A (ix2 (y 0) k) : EReal) * B (ix3 0 (y 1) k)

theorem pay2_apply (B : Vec Ideal S1x512x4096 .f32) (a : Vec Ideal S256x4096 .bf16) (r : Fin 256) (j : Fin 512) :
    k0_pay2 B a (ix2 r j) = ∑ k : Fin 4096, (a (ix2 r k) : EReal) * B (ix3 0 j k) := by
  unfold k0_pay2 k0_pay1
  pointwise

/-- One stored chunk of rows. -/
theorem piece_at (A : Vec Ideal S1024x4096 .bf16) (B : Vec Ideal S1x512x4096 .f32) (q : ℕ) (hq : q + 256 ≤ 1024)
    (inb : ∀ a, (![q, 0] : Fin 2 → ℕ) a + S256x4096.size a ≤ S1024x4096.size a)
    (inb' : ∀ a, (![q, 0] : Fin 2 → ℕ) a + S256x512.size a ≤ S1024x512.size a) (x : S256x512.Idx) :
    k0_pay2 B (View.ld A (Rect.unit (s := S1024x4096) ![q, 0] S256x4096.size inb)) x
      = prod A B ((Rect.unit (s := S1024x512) ![q, 0] S256x512.size inb').emb x) := by
  obtain ⟨i, j, rfl⟩ : ∃ (i : Fin 256) (j : Fin 512), x = ix2 i j := ⟨x 0, x 1, eq_ix2 x⟩
  rw [emb_rows q hq inb']
  exact (pay2_apply B _ i j).trans (Finset.sum_congr rfl fun k _ =>
    congrArg (fun v : EReal => v * (B (ix3 0 j k) : EReal)) (ld_rows A q hq inb i k))

/-- What a point leaves in its block of the result. -/
theorem out_eq (c : Dev nD) (i : grid0.Coords) (arg2 : Memref sig .tc .vmem S1024x4096 .bf16) (harg2 : arg2.IsWhole)
    (arg3 : Memref sig .tc .vmem S1x512x4096 .f32) (harg3 : arg3.IsWhole) (arg4 : Memref sig .tc .vmem S1024x512 .bf16) (harg4 : arg4.IsWhole)
    (A : Vec Ideal S1024x4096 .bf16) (B : Vec Ideal S1x512x4096 .f32) :
    out0_A_2 c i arg2 harg2 arg3 harg3 arg4 harg4 A B = prod A B := by
  unfold out0_A_2
  rw [View.read_writes_junk_eq_canon]
  funext y
  refine View.canon_apply_of_pieces (prod A B) _ (View.PiecesOf.mem ?_) y (cover0_A_2 c i arg2 harg2 arg3 harg3 arg4 harg4 A B y)
  refine ⟨fun x => Eq.trans (congrFun ?_ x) (piece_at A B 768 (by decide) inb_S1024x4096_S256x4096_768_0 inb_S1024x512_S256x512_768_0 x),
    fun x => Eq.trans (congrFun ?_ x) (piece_at A B 512 (by decide) inb_S1024x4096_S256x4096_512_0 inb_S1024x512_S256x512_512_0 x),
    fun x => Eq.trans (congrFun ?_ x) (piece_at A B 256 (by decide) inb_S1024x4096_S256x4096_256_0 inb_S1024x512_S256x512_256_0 x),
    fun x => Eq.trans (congrFun ?_ x) (piece_at A B 0 (by decide) inb_S1024x4096_S256x4096_0_0 inb_S1024x512_S256x512_0_0 x), trivial⟩
  all_goals
    dsimp only
    frame_open
    simp (disch := decide) only [View.readAt_eq_ld, Memref.IsWhole.read_unread, View.ld_unit_lit']
    try rfl

variable (m : (ℓ : Loc nD τ sig) → Buf (Elt Ideal) ℓ)

theorem idx : ∀ t : Fin cfg0.N, win0_0.index t = ![t.val / 24, 0] ∧ win0_1.index t = ![0, t.val % 24, 0]
    ∧ win0_2.index t = ![t.val / 24, t.val % 24] := by decide +kernel

/-- The tokens as the kernel is given them: one batch element after the other. -/
theorem rows (c : Dev nD) (r : Fin 16384) (k : Fin 4096) :
    V m c main_v1 (ix2 r k) = m ((c : Thread nD τ).loc main_arg0) (ix3 ⟨r.val / 8192 % 2, by omega⟩ ⟨r.val % 8192, by omega⟩ k) := by
  entry_read
  pointwise
  have h : r.val / 8192 % 2 = r.val / 8192 := by omega
  blk_ext [h]

/-- The weights as the kernel is given them: transposed. -/
theorem cols (c : Dev nD) (j : Fin 12320) (k : Fin 4096) :
    V m c main_v0 (ix3 0 j k) = m ((c : Thread nD τ).loc main_arg1) (ix3 0 k j) := by
  entry_read
  pointwise

/-- The block of the weights at a point. -/
theorem weights (c : Dev nD) (t : Fin cfg0.N) (j : Fin 512) (k : Fin 4096) (h : 512 * (t.val % 24) + j.val < 12320) :
    X0_1 m c t (ix3 0 j k) = m ((c : Thread nD τ).loc main_arg1) (ix3 0 k ⟨512 * (t.val % 24) + j.val, h⟩) := by
  obtain ⟨-, e1, -⟩ := idx t
  refine Eq.trans (show X0_1 m c t (ix3 0 j k) = _ from dif_pos (moved0_1 t _)) (Eq.trans ?_ (cols m c ⟨512 * (t.val % 24) + j.val, h⟩ k))
  blk_ext [iblk, V, e1]

theorem lt_cols (j : Fin 12288) : j.val < 12320 := by omega

/-- The result. -/
def result (c : Dev nD) : Vec Ideal S16384x12288 .bf16 := fun y =>
  line (m ((c : Thread nD τ).loc main_arg0)) (m ((c : Thread nD τ).loc main_arg1)) (y 0) ⟨(y 1).val, lt_cols (y 1)⟩

/-- The kernel's result array. -/
theorem array (c : Dev nD) : (dats m 0 c).arrAt 2 cfg0.N = result m c := by
  refine (dats m 0 c).arrAt_eq_of_covers 2 _ (by decide +kernel) fun t hf y => ?_
  obtain ⟨e0, e1, e2⟩ := idx t
  have hy0 : (y 0).val < 1024 := (y 0).isLt
  have hy1 : (y 1).val < 512 := (y 1).isLt
  have ht : t.val < 384 := t.isLt
  have hemb : ((cfg0.win 2).blk t).view.emb y = ix2 ⟨1024 * (t.val / 24) + (y 0).val, by omega⟩ ⟨512 * (t.val % 24) + (y 1).val, by omega⟩ := by
    blk_ext [e2]
  rw [hemb]
  blk_simp
  rw [after0_2]
  unfold outsAt0
  rw [out_eq]
  refine line_of_swapped _ _ (iblk m c 0 t) (X0_1 m c t) (y 0) (y 1) _ _ (fun k => ?_) fun k => weights m c t (y 1) k (by omega)
  refine Eq.trans ?_ (rows m c ⟨1024 * (t.val / 24) + (y 0).val, by omega⟩ k)
  blk_ext [iblk, V, e0]

end Cert.Kernel4Ideal.Body

namespace Cert.Reference4Ideal.Body

open Idealize.ShloMosaic Idealize.ShloMosaic.TcCoe Idealize.SL.Sem
open Cert.Reference4Ideal Cert.Reference4Ideal.Gen

theorem value (H : Vec Ideal S2x8192x4096 .bf16) (W : Vec Ideal S1x4096x12320 .f32) (r : Fin 16384) (j : Fin 12288) :
    (shapeCast S16384x12288 (truncf (F := Ideal) .bf16 (extractStridedSlice S2x8192x12288 ![0, 0, 0] (Host.dotGeneral (φ₁ := .f32) (φ₂ := .f32) dot_S2x8192x4096_S4096x12320_S2x8192x12320_2_0_01_1_n_n none
      (extf .f32 H bitsLt_bf16_f32) (shapeCast S4096x12320 W shapeCasts_S1x4096x12320_S4096x12320)) slices_S2x8192x12320_S2x8192x12288_0_0_0) bitsLt_bf16_f32)
      shapeCasts_S2x8192x12288_S16384x12288 : Vec Ideal S16384x12288 .bf16) (ix2 r j) = Rows.line H W r ⟨j.val, by omega⟩ := by
  unfold Rows.line
  pointwise
  have h : r.val / 8192 % 2 = r.val / 8192 := by omega
  simp only [h]

end Cert.Reference4Ideal.Body

end
-- ==== Proof.OutProj.lean ====
/-
  The product after the mLSTM (and after the convolutional mixers): the array the kernel leaves is the reference's.
-/
module

public import proofs.«01_k».proof.Defs
public import proofs.«01_k».proof.Proof.Gen.Kernel5Ideal.Value
public import proofs.«01_k».proof.Proof.Gen.Reference5Ideal.Run
public import proofs.«01_k».proof.Proof.Rows

@[expose] public section

set_option maxRecDepth 16384

noncomputable section

namespace Cert.Kernel5Ideal.Body

open Idealize.ShloMosaic Idealize.ShloMosaic.TcCoe Idealize.SL.Sem
open Cert.Kernel5Ideal Cert.Kernel5Ideal.Gen Cert.Rows

/-- One product of a block of rows with a block of columns, from its rows and columns. -/
def prod (A : Vec Ideal S1024x4096 .bf16) (B : Vec Ideal S1x4096x512 .f32) : Vec Ideal S1024x512 .bf16 := fun y =>
  ∑ k : Fin 4096, (A (ix2 (y 0) k) : EReal) * B (ix3 0 k (y 1))

theorem pay2_apply (B : Vec Ideal S1x4096x512 .f32) (a : Vec Ideal S256x4096 .bf16) (r : Fin 256) (j : Fin 512) :
    k0_pay2 B a (ix2 r j) = ∑ k : Fin 4096, (a (ix2 r k) : EReal) * B (ix3 0 k j) := by
  unfold k0_pay2 k0_pay1
  pointwise

/-- One stored chunk of rows. -/
theorem piece_at (A : Vec Ideal S1024x4096 .bf16) (B : Vec Ideal S1x4096x512 .f32) (q : ℕ) (hq : q + 256 ≤ 1024)
    (inb : ∀ a, (![q, 0] : Fin 2 → ℕ) a + S256x4096.size a ≤ S1024x4096.size a)
    (inb' : ∀ a, (![q, 0] : Fin 2 → ℕ) a + S256x512.size a ≤ S1024x512.size a) (x : S256x512.Idx) :
    k0_pay2 (View.ld B r0_0) (View.ld A (Rect.unit (s := S1024x4096) ![q, 0] S256x4096.size inb)) x
      = prod A B ((Rect.unit (s := S1024x512) ![q, 0] S256x512.size inb').emb x) := by
  obtain ⟨i, j, rfl⟩ : ∃ (i : Fin 256) (j : Fin 512), x = ix2 i j := ⟨x 0, x 1, eq_ix2 x⟩
  rw [emb_rows q hq inb', show View.ld B r0_0 = B from View.ld_unit_zero (by decide) _ _]
  exact (pay2_apply B _ i j).trans (Finset.sum_congr rfl fun k _ =>
    congrArg (fun v : EReal => v * (B (ix3 0 k j) : EReal)) (ld_rows A q hq inb i k))

/-- What a point leaves in its block of the result. -/
theorem out_eq (A : Vec Ideal S1024x4096 .bf16) (B : Vec Ideal S1x4096x512 .f32) : out0_2 A B = prod A B := by
  funext y
  unfold out0_2
  refine View.canon_apply_of_pieces (prod A B) _ ?_ y (cover0_2 _ _ _ _ y)
  intro p hp x
  simp only [List.mem_cons, List.not_mem_nil, or_false] at hp
  rcases hp with rfl | rfl | rfl | rfl
  · exact piece_at A B 768 (by decide) inb_S1024x4096_S256x4096_768_0 inb_S1024x512_S256x512_768_0 x
  · exact piece_at A B 512 (by decide) inb_S1024x4096_S256x4096_512_0 inb_S1024x512_S256x512_512_0 x
  · exact piece_at A B 256 (by decide) inb_S1024x4096_S256x4096_256_0 inb_S1024x512_S256x512_256_0 x
  · exact piece_at A B 0 (by decide) inb_S1024x4096_S256x4096_0_0 inb_S1024x512_S256x512_0_0 x

variable (m : (ℓ : Loc nD τ sig) → Buf (Elt Ideal) ℓ)

theorem idx : ∀ t : Fin cfg0.N, win0_0.index t = ![t.val % 16, 0] ∧ win0_1.index t = ![0, 0, t.val / 16]
    ∧ win0_2.index t = ![t.val % 16, t.val / 16] := by decide +kernel

/-- The tokens as the kernel is given them: one batch element after the other. -/
theorem rows (c : Dev nD) (r : Fin 16384) (k : Fin 4096) :
    V m c main_v0 (ix2 r k) = m ((c : Thread nD τ).loc main_arg0) (ix3 ⟨r.val / 8192 % 2, by omega⟩ ⟨r.val % 8192, by omega⟩ k) := by
  entry_read
  pointwise
  have h : r.val / 8192 % 2 = r.val / 8192 := by omega
  blk_ext [h]

/-- The result. -/
def result (c : Dev nD) : Vec Ideal S16384x4096 .bf16 := fun y =>
  line (m ((c : Thread nD τ).loc main_arg0)) (m ((c : Thread nD τ).loc main_arg1)) (y 0) (y 1)

/-- The kernel's result array. -/
theorem array (c : Dev nD) : (dats m 0 c).arrAt 2 cfg0.N = result m c := by
  refine (dats m 0 c).arrAt_eq_of_covers 2 _ (by decide +kernel) fun t hf y => ?_
  obtain ⟨e0, e1, e2⟩ := idx t
  have hy0 : (y 0).val < 1024 := (y 0).isLt
  have hy1 : (y 1).val < 512 := (y 1).isLt
  have ht : t.val < 128 := t.isLt
  have hemb : ((cfg0.win 2).blk t).view.emb y = ix2 ⟨1024 * (t.val % 16) + (y 0).val, by omega⟩ ⟨512 * (t.val / 16) + (y 1).val, by omega⟩ := by
    blk_ext [e2]
  rw [hemb]
  blk_simp
  rw [after0_2, out_eq]
  refine line_of _ _ (iblk m c 0 t) (iblk m c 1 t) (y 0) (y 1) _ _ (fun k => ?_) (fun k => ?_)
  · refine Eq.trans ?_ (rows m c ⟨1024 * (t.val % 16) + (y 0).val, by omega⟩ k)
    blk_ext [iblk, V, e0]
  · blk_ext [iblk, V, e1]

end Cert.Kernel5Ideal.Body

namespace Cert.Reference5Ideal.Body

open Idealize.ShloMosaic Idealize.ShloMosaic.TcCoe Idealize.SL.Sem
open Cert.Reference5Ideal Cert.Reference5Ideal.Gen

theorem value (H : Vec Ideal S2x8192x4096 .bf16) (W : Vec Ideal S1x4096x4096 .f32) (r : Fin 16384) (j : Fin 4096) :
    (shapeCast S16384x4096 (truncf (F := Ideal) .bf16 (Host.dotGeneral (φ₁ := .f32) (φ₂ := .f32) dot_S2x8192x4096_S4096x4096_S2x8192x4096_2_0_01_1_n_n none
      (extf .f32 H bitsLt_bf16_f32) (shapeCast S4096x4096 W shapeCasts_S1x4096x4096_S4096x4096)) bitsLt_bf16_f32)
      shapeCasts_S2x8192x4096_S16384x4096 : Vec Ideal S16384x4096 .bf16) (ix2 r j) = Rows.line H W r j := by
  unfold Rows.line
  pointwise
  have h : r.val / 8192 % 2 = r.val / 8192 := by omega
  simp only [h]

end Cert.Reference5Ideal.Body

end
-- ==== Proof.Glu.lean ====
/-
  The first convolution's input, a projection times the sigmoid of another: the array the kernel leaves is the reference's.
-/
module

public import proofs.«01_k».proof.Proof.Gen.Kernel6Ideal.Value
public import proofs.«01_k».proof.Proof.Gen.Reference6Ideal.Run
public import proofs.«01_k».proof.Proof.Rows

@[expose] public section

set_option maxRecDepth 16384

noncomputable section

namespace Cert.Kernel6Ideal.Body

open Idealize.ShloMosaic Idealize.ShloMosaic.TcCoe Idealize.SL.Sem
open Cert.Kernel6Ideal Cert.Kernel6Ideal.Gen Cert.Rows

/-- A value times the sigmoid of another. -/
def glu (p q : EReal) : EReal := p * Ideal.div 1 (1 + Ideal.exp (-q))

/-- A block of rows, from the rows and the two blocks of columns. -/
def block (A : Vec Ideal S2048x4096 .bf16) (B B' : Vec Ideal S1x4096x256 .f32) : Vec Ideal S2048x256 .bf16 := fun y =>
  glu (∑ k : Fin 4096, (A (ix2 (y 0) k) : EReal) * B (ix3 0 k (y 1))) (∑ k : Fin 4096, (A (ix2 (y 0) k) : EReal) * B' (ix3 0 k (y 1)))

/-- One stored chunk of rows, entry by entry. -/
theorem pay4_apply (B B' : Vec Ideal S1x4096x256 .f32) (a : Vec Ideal S256x4096 .bf16) (r : Fin 256) (j : Fin 256) :
    k0_pay4 B B' a (ix2 r j)
      = glu (∑ k : Fin 4096, (a (ix2 r k) : EReal) * B (ix3 0 k j)) (∑ k : Fin 4096, (a (ix2 r k) : EReal) * B' (ix3 0 k j)) := by
  unfold k0_pay4 k0_pay3 k0_pay2 glu
  pointwise
  rw [zero_sub]

/-- One stored chunk of rows, in its block. -/
theorem piece_at (A : Vec Ideal S2048x4096 .bf16) (B B' : Vec Ideal S1x4096x256 .f32) (q : ℕ) (hq : q + 256 ≤ 2048)
    (inb : ∀ a, (![q, 0] : Fin 2 → ℕ) a + S256x4096.size a ≤ S2048x4096.size a)
    (inb' : ∀ a, (![q, 0] : Fin 2 → ℕ) a + S256x256.size a ≤ S2048x256.size a) (x : S256x256.Idx) :
    k0_pay4 (View.ld B r0_0) (View.ld B' r0_0) (View.ld A (Rect.unit (s := S2048x4096) ![q, 0] S256x4096.size inb)) x
      = block A B B' ((Rect.unit (s := S2048x256) ![q, 0] S256x256.size inb').emb x) := by
  obtain ⟨i, j, rfl⟩ : ∃ (i : Fin 256) (j : Fin 256), x = ix2 i j := ⟨x 0, x 1, eq_ix2 x⟩
  rw [emb_rows q hq inb', show View.ld B r0_0 = B from View.ld_unit_zero (by decide) _ _, show View.ld B' r0_0 = B' from View.ld_unit_zero (by decide) _ _]
  refine (pay4_apply B B' _ i j).trans (congrArg₂ glu (Finset.sum_congr rfl fun k _ => ?_) (Finset.sum_congr rfl fun k _ => ?_))
  · exact congrArg (fun v : EReal => v * (B (ix3 0 k j) : EReal)) (ld_rows A q hq inb i k)
  · exact congrArg (fun v : EReal => v * (B' (ix3 0 k j) : EReal)) (ld_rows A q hq inb i k)

/-- What a point leaves in its block of the result. -/
theorem out_eq (A : Vec Ideal S2048x4096 .bf16) (B B' : Vec Ideal S1x4096x256 .f32) : out0_3 A B B' = block A B B' := by
  funext y
  unfold out0_3
  refine View.canon_apply_of_pieces (block A B B') _ ?_ y (cover0_3 _ _ _ _ _ _ _ _ y)
  intro p hp x
  simp only [List.mem_cons, List.not_mem_nil, or_false] at hp
  rcases hp with rfl | rfl | rfl | rfl | rfl | rfl | rfl | rfl
  · exact piece_at A B B' 1792 (by decide) inb_S2048x4096_S256x4096_1792_0 inb_S2048x256_S256x256_1792_0 x
  · exact piece_at A B B' 1536 (by decide) inb_S2048x4096_S256x4096_1536_0 inb_S2048x256_S256x256_1536_0 x
  · exact piece_at A B B' 1280 (by decide) inb_S2048x4096_S256x4096_1280_0 inb_S2048x256_S256x256_1280_0 x
  · exact piece_at A B B' 1024 (by decide) inb_S2048x4096_S256x4096_1024_0 inb_S2048x256_S256x256_1024_0 x
  · exact piece_at A B B' 768 (by decide) inb_S2048x4096_S256x4096_768_0 inb_S2048x256_S256x256_768_0 x
  · exact piece_at A B B' 512 (by decide) inb_S2048x4096_S256x4096_512_0 inb_S2048x256_S256x256_512_0 x
  · exact piece_at A B B' 256 (by decide) inb_S2048x4096_S256x4096_256_0 inb_S2048x256_S256x256_256_0 x
  · exact piece_at A B B' 0 (by decide) inb_S2048x4096_S256x4096_0_0 inb_S2048x256_S256x256_0_0 x

variable (m : (ℓ : Loc nD τ sig) → Buf (Elt Ideal) ℓ)

theorem idx : ∀ t : Fin cfg0.N, win0_0.index t = ![t.val / 8, 0] ∧ win0_1.index t = ![0, 0, t.val % 8]
    ∧ win0_2.index t = ![0, 0, 8 + t.val % 8] ∧ win0_3.index t = ![t.val / 8, t.val % 8] := by decide +kernel

/-- The tokens as the kernel is given them: one batch element after the other. -/
theorem rows (c : Dev nD) (r : Fin 16384) (k : Fin 4096) :
    V m c main_v0 (ix2 r k) = m ((c : Thread nD τ).loc main_arg0) (ix3 ⟨r.val / 8192 % 2, by omega⟩ ⟨r.val % 8192, by omega⟩ k) := by
  entry_read
  pointwise
  have h : r.val / 8192 % 2 = r.val / 8192 := by omega
  blk_ext [h]

theorem lt_cols (o : ℕ) (ho : o ≤ 8192) (j : Fin 2048) : o + j.val < 10240 := by omega

/-- The result. -/
def result (c : Dev nD) : Vec Ideal S16384x2048 .bf16 := fun y =>
  glu (line (m ((c : Thread nD τ).loc main_arg0)) (m ((c : Thread nD τ).loc main_arg1)) (y 0) ⟨0 + (y 1).val, lt_cols 0 (by omega) (y 1)⟩)
    (line (m ((c : Thread nD τ).loc main_arg0)) (m ((c : Thread nD τ).loc main_arg1)) (y 0) ⟨2048 + (y 1).val, lt_cols 2048 (by omega) (y 1)⟩)

/-- The kernel's result array. -/
theorem array (c : Dev nD) : (dats m 0 c).arrAt 3 cfg0.N = result m c := by
  refine (dats m 0 c).arrAt_eq_of_covers 3 _ (by decide +kernel) fun t hf y => ?_
  obtain ⟨e0, e1, e2, e3⟩ := idx t
  have hy0 : (y 0).val < 2048 := (y 0).isLt
  have hy1 : (y 1).val < 256 := (y 1).isLt
  have ht : t.val < 64 := t.isLt
  have hemb : ((cfg0.win 3).blk t).view.emb y = ix2 ⟨2048 * (t.val / 8) + (y 0).val, by omega⟩ ⟨256 * (t.val % 8) + (y 1).val, by omega⟩ := by
    blk_ext [e3]
  have hrow : ∀ k : Fin 4096, iblk m c 0 t (ix2 (y 0) k) = m ((c : Thread nD τ).loc main_arg0)
      (ix3 ⟨(2048 * (t.val / 8) + (y 0).val) / 8192 % 2, by omega⟩ ⟨(2048 * (t.val / 8) + (y 0).val) % 8192, by omega⟩ k) := fun k => by
    refine Eq.trans ?_ (rows m c ⟨2048 * (t.val / 8) + (y 0).val, by omega⟩ k)
    blk_ext [iblk, V, e0]
  rw [hemb]
  blk_simp
  rw [after0_3, out_eq]
  refine congrArg₂ glu (line_of _ _ (iblk m c 0 t) (iblk m c 1 t) (y 0) (y 1) _ _ hrow fun k => ?_)
    (line_of _ _ (iblk m c 0 t) (iblk m c 2 t) (y 0) (y 1) _ _ hrow fun k => ?_)
  · blk_ext [iblk, V, e1]
  · blk_ext [iblk, V, e2]

end Cert.Kernel6Ideal.Body

namespace Cert.Reference6Ideal.Body

open Idealize.ShloMosaic Idealize.ShloMosaic.TcCoe Idealize.SL.Sem
open Cert.Reference6Ideal Cert.Reference6Ideal.Gen

/-- The combined projection. -/
def proj (H : Vec Ideal S2x8192x4096 .bf16) (W : Vec Ideal S1x4096x10240 .f32) : FVec Ideal S2x8192x10240 .f32 :=
  Host.dotGeneral (φ₁ := .f32) (φ₂ := .f32) dot_S2x8192x4096_S4096x10240_S2x8192x10240_2_0_01_1_n_n none
    (extf .f32 H bitsLt_bf16_f32) (shapeCast S4096x10240 W shapeCasts_S1x4096x10240_S4096x10240)

theorem proj_apply (H : Vec Ideal S2x8192x4096 .bf16) (W : Vec Ideal S1x4096x10240 .f32) (r : Fin 16384) (j : Fin 10240) :
    proj H W (ix3 ⟨r.val / 8192, by omega⟩ ⟨r.val % 8192, by omega⟩ j) = Rows.line H W r j := by
  unfold proj Rows.line
  pointwise
  have h : r.val / 8192 % 2 = r.val / 8192 := by omega
  simp only [h]

theorem value (H : Vec Ideal S2x8192x4096 .bf16) (W : Vec Ideal S1x4096x10240 .f32) (r : Fin 16384) (j : Fin 2048) :
    (shapeCast S16384x2048 (truncf (F := Ideal) .bf16 (mulf (extractStridedSlice S2x8192x2048 ![0, 0, 0] (proj H W) slices_S2x8192x10240_S2x8192x2048_0_0_0)
      (Host.divf (broadcastInDim S2x8192x2048 ![] bcast_S_S2x8192x2048 (constant S_ .f32 0x3F800000#32))
        (addf (broadcastInDim S2x8192x2048 ![] bcast_S_S2x8192x2048 (constant S_ .f32 0x3F800000#32))
          (Host.exp (Host.negf (extractStridedSlice S2x8192x2048 ![0, 0, 2048] (proj H W) slices_S2x8192x10240_S2x8192x2048_0_0_2048))))))
      bitsLt_bf16_f32) shapeCasts_S2x8192x2048_S16384x2048 : Vec Ideal S16384x2048 .bf16) (ix2 r j)
      = Cert.Kernel6Ideal.Body.glu (Rows.line H W r ⟨0 + j.val, by omega⟩) (Rows.line H W r ⟨2048 + j.val, by omega⟩) := by
  rw [← proj_apply, ← proj_apply]
  unfold Cert.Kernel6Ideal.Body.glu
  pointwise

end Cert.Reference6Ideal.Body

end
-- ==== Proof.Mul.lean ====
/-
  The second convolution's input, a projection times another: the array the kernel leaves is the reference's.
-/
module

public import proofs.«01_k».proof.Proof.Gen.Kernel7Ideal.Value
public import proofs.«01_k».proof.Proof.Gen.Reference7Ideal.Run
public import proofs.«01_k».proof.Proof.Rows

@[expose] public section

set_option maxRecDepth 16384

noncomputable section

namespace Cert.Kernel7Ideal.Body

open Idealize.ShloMosaic Idealize.ShloMosaic.TcCoe Idealize.SL.Sem
open Cert.Kernel7Ideal Cert.Kernel7Ideal.Gen Cert.Rows

/-- A value times another. -/
def mul (p q : EReal) : EReal := p * q

/-- A block of rows, from the rows and the two blocks of columns. -/
def block (A : Vec Ideal S2048x4096 .bf16) (B B' : Vec Ideal S1x4096x256 .f32) : Vec Ideal S2048x256 .bf16 := fun y =>
  mul (∑ k : Fin 4096, (A (ix2 (y 0) k) : EReal) * B (ix3 0 k (y 1))) (∑ k : Fin 4096, (A (ix2 (y 0) k) : EReal) * B' (ix3 0 k (y 1)))

/-- One stored chunk of rows, entry by entry. -/
theorem pay4_apply (B B' : Vec Ideal S1x4096x256 .f32) (a : Vec Ideal S256x4096 .bf16) (r : Fin 256) (j : Fin 256) :
    k0_pay4 B B' a (ix2 r j)
      = mul (∑ k : Fin 4096, (a (ix2 r k) : EReal) * B (ix3 0 k j)) (∑ k : Fin 4096, (a (ix2 r k) : EReal) * B' (ix3 0 k j)) := by
  unfold k0_pay4 k0_pay3 k0_pay2 mul
  pointwise

/-- One stored chunk of rows, in its block. -/
theorem piece_at (A : Vec Ideal S2048x4096 .bf16) (B B' : Vec Ideal S1x4096x256 .f32) (q : ℕ) (hq : q + 256 ≤ 2048)
    (inb : ∀ a, (![q, 0] : Fin 2 → ℕ) a + S256x4096.size a ≤ S2048x4096.size a)
    (inb' : ∀ a, (![q, 0] : Fin 2 → ℕ) a + S256x256.size a ≤ S2048x256.size a) (x : S256x256.Idx) :
    k0_pay4 (View.ld B r0_0) (View.ld B' r0_0) (View.ld A (Rect.unit (s := S2048x4096) ![q, 0] S256x4096.size inb)) x
      = block A B B' ((Rect.unit (s := S2048x256) ![q, 0] S256x256.size inb').emb x) := by
  obtain ⟨i, j, rfl⟩ : ∃ (i : Fin 256) (j : Fin 256), x = ix2 i j := ⟨x 0, x 1, eq_ix2 x⟩
  rw [emb_rows q hq inb', show View.ld B r0_0 = B from View.ld_unit_zero (by decide) _ _, show View.ld B' r0_0 = B' from View.ld_unit_zero (by decide) _ _]
  refine (pay4_apply B B' _ i j).trans (congrArg₂ mul (Finset.sum_congr rfl fun k _ => ?_) (Finset.sum_congr rfl fun k _ => ?_))
  · exact congrArg (fun v : EReal => v * (B (ix3 0 k j) : EReal)) (ld_rows A q hq inb i k)
  · exact congrArg (fun v : EReal => v * (B' (ix3 0 k j) : EReal)) (ld_rows A q hq inb i k)

/-- What a point leaves in its block of the result. -/
theorem out_eq (A : Vec Ideal S2048x4096 .bf16) (B B' : Vec Ideal S1x4096x256 .f32) : out0_3 A B B' = block A B B' := by
  funext y
  unfold out0_3
  refine View.canon_apply_of_pieces (block A B B') _ ?_ y (cover0_3 _ _ _ _ _ _ _ _ y)
  intro p hp x
  simp only [List.mem_cons, List.not_mem_nil, or_false] at hp
  rcases hp with rfl | rfl | rfl | rfl | rfl | rfl | rfl | rfl
  · exact piece_at A B B' 1792 (by decide) inb_S2048x4096_S256x4096_1792_0 inb_S2048x256_S256x256_1792_0 x
  · exact piece_at A B B' 1536 (by decide) inb_S2048x4096_S256x4096_1536_0 inb_S2048x256_S256x256_1536_0 x
  · exact piece_at A B B' 1280 (by decide) inb_S2048x4096_S256x4096_1280_0 inb_S2048x256_S256x256_1280_0 x
  · exact piece_at A B B' 1024 (by decide) inb_S2048x4096_S256x4096_1024_0 inb_S2048x256_S256x256_1024_0 x
  · exact piece_at A B B' 768 (by decide) inb_S2048x4096_S256x4096_768_0 inb_S2048x256_S256x256_768_0 x
  · exact piece_at A B B' 512 (by decide) inb_S2048x4096_S256x4096_512_0 inb_S2048x256_S256x256_512_0 x
  · exact piece_at A B B' 256 (by decide) inb_S2048x4096_S256x4096_256_0 inb_S2048x256_S256x256_256_0 x
  · exact piece_at A B B' 0 (by decide) inb_S2048x4096_S256x4096_0_0 inb_S2048x256_S256x256_0_0 x

variable (m : (ℓ : Loc nD τ sig) → Buf (Elt Ideal) ℓ)

theorem idx : ∀ t : Fin cfg0.N, win0_0.index t = ![t.val / 8, 0] ∧ win0_1.index t = ![0, 0, 24 + t.val % 8]
    ∧ win0_2.index t = ![0, 0, 32 + t.val % 8] ∧ win0_3.index t = ![t.val / 8, t.val % 8] := by decide +kernel

/-- The tokens as the kernel is given them: one batch element after the other. -/
theorem rows (c : Dev nD) (r : Fin 16384) (k : Fin 4096) :
    V m c main_v0 (ix2 r k) = m ((c : Thread nD τ).loc main_arg0) (ix3 ⟨r.val / 8192 % 2, by omega⟩ ⟨r.val % 8192, by omega⟩ k) := by
  entry_read
  pointwise
  have h : r.val / 8192 % 2 = r.val / 8192 := by omega
  blk_ext [h]

theorem lt_cols (o : ℕ) (ho : o ≤ 8192) (j : Fin 2048) : o + j.val < 10240 := by omega

/-- The result. -/
def result (c : Dev nD) : Vec Ideal S16384x2048 .bf16 := fun y =>
  mul (line (m ((c : Thread nD τ).loc main_arg0)) (m ((c : Thread nD τ).loc main_arg1)) (y 0) ⟨6144 + (y 1).val, lt_cols 6144 (by omega) (y 1)⟩)
    (line (m ((c : Thread nD τ).loc main_arg0)) (m ((c : Thread nD τ).loc main_arg1)) (y 0) ⟨8192 + (y 1).val, lt_cols 8192 (by omega) (y 1)⟩)

/-- The kernel's result array. -/
theorem array (c : Dev nD) : (dats m 0 c).arrAt 3 cfg0.N = result m c := by
  refine (dats m 0 c).arrAt_eq_of_covers 3 _ (by decide +kernel) fun t hf y => ?_
  obtain ⟨e0, e1, e2, e3⟩ := idx t
  have hy0 : (y 0).val < 2048 := (y 0).isLt
  have hy1 : (y 1).val < 256 := (y 1).isLt
  have ht : t.val < 64 := t.isLt
  have hemb : ((cfg0.win 3).blk t).view.emb y = ix2 ⟨2048 * (t.val / 8) + (y 0).val, by omega⟩ ⟨256 * (t.val % 8) + (y 1).val, by omega⟩ := by
    blk_ext [e3]
  have hrow : ∀ k : Fin 4096, iblk m c 0 t (ix2 (y 0) k) = m ((c : Thread nD τ).loc main_arg0)
      (ix3 ⟨(2048 * (t.val / 8) + (y 0).val) / 8192 % 2, by omega⟩ ⟨(2048 * (t.val / 8) + (y 0).val) % 8192, by omega⟩ k) := fun k => by
    refine Eq.trans ?_ (rows m c ⟨2048 * (t.val / 8) + (y 0).val, by omega⟩ k)
    blk_ext [iblk, V, e0]
  rw [hemb]
  blk_simp
  rw [after0_3, out_eq]
  refine congrArg₂ mul (line_of _ _ (iblk m c 0 t) (iblk m c 1 t) (y 0) (y 1) _ _ hrow fun k => ?_)
    (line_of _ _ (iblk m c 0 t) (iblk m c 2 t) (y 0) (y 1) _ _ hrow fun k => ?_)
  · blk_ext [iblk, V, e1]
  · blk_ext [iblk, V, e2]

end Cert.Kernel7Ideal.Body

namespace Cert.Reference7Ideal.Body

open Idealize.ShloMosaic Idealize.ShloMosaic.TcCoe Idealize.SL.Sem
open Cert.Reference7Ideal Cert.Reference7Ideal.Gen

/-- The combined projection. -/
def proj (H : Vec Ideal S2x8192x4096 .bf16) (W : Vec Ideal S1x4096x10240 .f32) : FVec Ideal S2x8192x10240 .f32 :=
  Host.dotGeneral (φ₁ := .f32) (φ₂ := .f32) dot_S2x8192x4096_S4096x10240_S2x8192x10240_2_0_01_1_n_n none
    (extf .f32 H bitsLt_bf16_f32) (shapeCast S4096x10240 W shapeCasts_S1x4096x10240_S4096x10240)

theorem proj_apply (H : Vec Ideal S2x8192x4096 .bf16) (W : Vec Ideal S1x4096x10240 .f32) (r : Fin 16384) (j : Fin 10240) :
    proj H W (ix3 ⟨r.val / 8192, by omega⟩ ⟨r.val % 8192, by omega⟩ j) = Rows.line H W r j := by
  unfold proj Rows.line
  pointwise
  have h : r.val / 8192 % 2 = r.val / 8192 := by omega
  simp only [h]

theorem value (H : Vec Ideal S2x8192x4096 .bf16) (W : Vec Ideal S1x4096x10240 .f32) (r : Fin 16384) (j : Fin 2048) :
    (shapeCast S16384x2048 (truncf (F := Ideal) .bf16 (mulf (extractStridedSlice S2x8192x2048 ![0, 0, 6144] (proj H W) slices_S2x8192x10240_S2x8192x2048_0_0_6144)
      (extractStridedSlice S2x8192x2048 ![0, 0, 8192] (proj H W) slices_S2x8192x10240_S2x8192x2048_0_0_8192))
      bitsLt_bf16_f32) shapeCasts_S2x8192x2048_S16384x2048 : Vec Ideal S16384x2048 .bf16) (ix2 r j)
      = Cert.Kernel7Ideal.Body.mul (Rows.line H W r ⟨6144 + j.val, by omega⟩) (Rows.line H W r ⟨8192 + j.val, by omega⟩) := by
  rw [← proj_apply, ← proj_apply]
  unfold Cert.Kernel7Ideal.Body.mul
  pointwise

end Cert.Reference7Ideal.Body

end
-- ==== Proof.GateProj.lean ====
/-
  The projection of the short convolution's gate, from the mixers' combined weights: the array the kernel leaves is the reference's.
-/
module

public import proofs.«01_k».proof.Proof.OutProj
public import proofs.«01_k».proof.Proof.Gen.Kernel8Ideal.Value
public import proofs.«01_k».proof.Proof.Gen.Reference8Ideal.Run

@[expose] public section

set_option maxRecDepth 16384

noncomputable section

namespace Cert.Kernel8Ideal.Body

open Idealize.ShloMosaic Idealize.ShloMosaic.TcCoe Idealize.SL.Sem
open Cert.Kernel8Ideal Cert.Kernel8Ideal.Gen Cert.Rows

/-- What a point leaves in its block of the result: the body is that of the output projection. -/
theorem out_eq (A : Vec Ideal S1024x4096 .bf16) (B : Vec Ideal S1x4096x512 .f32) : out0_2 A B = Cert.Kernel5Ideal.Body.prod A B :=
  Eq.trans (show out0_2 A B = Cert.Kernel5Ideal.Gen.out0_2 A B from rfl) (Cert.Kernel5Ideal.Body.out_eq A B)

variable (m : (ℓ : Loc nD τ sig) → Buf (Elt Ideal) ℓ)

theorem idx : ∀ t : Fin cfg0.N, win0_0.index t = ![t.val % 16, 0] ∧ win0_1.index t = ![0, 0, 8 + t.val / 16]
    ∧ win0_2.index t = ![t.val % 16, t.val / 16] := by decide +kernel

/-- The tokens as the kernel is given them: one batch element after the other. -/
theorem rows (c : Dev nD) (r : Fin 16384) (k : Fin 4096) :
    V m c main_v0 (ix2 r k) = m ((c : Thread nD τ).loc main_arg0) (ix3 ⟨r.val / 8192 % 2, by omega⟩ ⟨r.val % 8192, by omega⟩ k) := by
  entry_read
  pointwise
  have h : r.val / 8192 % 2 = r.val / 8192 := by omega
  blk_ext [h]

theorem lt_cols (j : Fin 2048) : 4096 + j.val < 10240 := by omega

/-- The result. -/
def result (c : Dev nD) : Vec Ideal S16384x2048 .bf16 := fun y =>
  line (m ((c : Thread nD τ).loc main_arg0)) (m ((c : Thread nD τ).loc main_arg1)) (y 0) ⟨4096 + (y 1).val, lt_cols (y 1)⟩

/-- The kernel's result array. -/
theorem array (c : Dev nD) : (dats m 0 c).arrAt 2 cfg0.N = result m c := by
  refine (dats m 0 c).arrAt_eq_of_covers 2 _ (by decide +kernel) fun t hf y => ?_
  obtain ⟨e0, e1, e2⟩ := idx t
  have hy0 : (y 0).val < 1024 := (y 0).isLt
  have hy1 : (y 1).val < 512 := (y 1).isLt
  have ht : t.val < 64 := t.isLt
  have hemb : ((cfg0.win 2).blk t).view.emb y = ix2 ⟨1024 * (t.val % 16) + (y 0).val, by omega⟩ ⟨512 * (t.val / 16) + (y 1).val, by omega⟩ := by
    blk_ext [e2]
  rw [hemb]
  blk_simp
  rw [after0_2, out_eq]
  refine line_of _ _ (iblk m c 0 t) (iblk m c 1 t) (y 0) (y 1) _ _ (fun k => ?_) (fun k => ?_)
  · refine Eq.trans ?_ (rows m c ⟨1024 * (t.val % 16) + (y 0).val, by omega⟩ k)
    blk_ext [iblk, V, e0]
  · blk_ext [iblk, V, e1]

end Cert.Kernel8Ideal.Body

namespace Cert.Reference8Ideal.Body

open Idealize.ShloMosaic Idealize.ShloMosaic.TcCoe Idealize.SL.Sem
open Cert.Reference8Ideal Cert.Reference8Ideal.Gen

theorem value (H : Vec Ideal S2x8192x4096 .bf16) (W : Vec Ideal S1x4096x10240 .f32) (r : Fin 16384) (j : Fin 2048) :
    (shapeCast S16384x2048 (truncf (F := Ideal) .bf16 (extractStridedSlice S2x8192x2048 ![0, 0, 4096] (Host.dotGeneral (φ₁ := .f32) (φ₂ := .f32) dot_S2x8192x4096_S4096x10240_S2x8192x10240_2_0_01_1_n_n none
      (extf .f32 H bitsLt_bf16_f32) (shapeCast S4096x10240 W shapeCasts_S1x4096x10240_S4096x10240)) slices_S2x8192x10240_S2x8192x2048_0_0_4096) bitsLt_bf16_f32)
      shapeCasts_S2x8192x2048_S16384x2048 : Vec Ideal S16384x2048 .bf16) (ix2 r j) = Rows.line H W r ⟨4096 + j.val, by omega⟩ := by
  unfold Rows.line
  pointwise
  have h : r.val / 8192 % 2 = r.val / 8192 := by omega
  simp only [h]

end Cert.Reference8Ideal.Body

end
-- ==== Proof.Norms.lean ====
/-
  The normalisations of a row: over its root mean square, with a residual, with a modulation, or head by head with a gate.
-/
module

public import Idealize.ShloMosaic.Lib.Pointwise
public import Idealize.ShloMosaic.Lib.Pipeline.ValueKit

@[expose] public section

noncomputable section

namespace Cert.Norms

open Idealize.ShloMosaic

/-- A row over its root mean square, K its length as the program writes it. -/
def unit (K : EReal) {n : ℕ} (v : Fin n → EReal) (j : Fin n) : EReal :=
  v j * Ideal.rsqrt (Ideal.div (∑ k, v k * v k) K + Ideal.ofBits .f32 0x358637BD#32)

/-- The row, normalised, scaled by g, then scaled by 1 + s and shifted by b. -/
def modulated (v g s b : Fin 4096 → EReal) (j : Fin 4096) : EReal :=
  unit (Ideal.ofBits .f32 0x45800000#32) v j * g j * (1 + s j) + b j

/-- The row x and c times the row v, normalised and scaled by g. -/
def residue (x c v g : Fin 4096 → EReal) (j : Fin 4096) : EReal :=
  x j + c j * (unit (Ideal.ofBits .f32 0x45800000#32) v j * g j)

/-- The heads of 512 of the sum of two rows, each normalised, scaled by g and by the sigmoid of o. -/
def gated (v w g o : Fin 4096 → EReal) (j : Fin 4096) : EReal :=
  unit (Ideal.ofBits .f32 0x44000000#32) (fun k : Fin 512 => v ⟨512 * (j.val / 512) + k.val, by omega⟩ + w ⟨512 * (j.val / 512) + k.val, by omega⟩)
      ⟨j.val % 512, by omega⟩
    * g j * Ideal.div 1 (1 + Ideal.exp (-o j))

theorem modulated_congr {v v' g g' s s' b b' : Fin 4096 → EReal} (hv : ∀ k, v k = v' k) (hg : ∀ k, g k = g' k) (hs : ∀ k, s k = s' k)
    (hb : ∀ k, b k = b' k) (j : Fin 4096) : modulated v g s b j = modulated v' g' s' b' j := by
  rw [funext hv, funext hg, funext hs, funext hb]

theorem residual_congr {x x' c c' v v' g g' : Fin 4096 → EReal} (hx : ∀ k, x k = x' k) (hc : ∀ k, c k = c' k) (hv : ∀ k, v k = v' k)
    (hg : ∀ k, g k = g' k) (j : Fin 4096) : residue x c v g j = residue x' c' v' g' j := by
  rw [funext hx, funext hc, funext hv, funext hg]

theorem gated_congr {v v' w w' g g' o o' : Fin 4096 → EReal} (hv : ∀ k, v k = v' k) (hw : ∀ k, w k = w' k) (hg : ∀ k, g k = g' k) (ho : ∀ k, o k = o' k)
    (j : Fin 4096) : gated v w g o j = gated v' w' g' o' j := by
  rw [funext hv, funext hw, funext hg, funext ho]

end Cert.Norms

end
-- ==== Proof.HeadNorm.lean ====
/-
  The norm of the mLSTM's heads and their output gate: the array the kernel leaves is the reference's.
-/
module

public import proofs.«01_k».proof.Proof.Gen.Kernel9Ideal.Value
public import proofs.«01_k».proof.Proof.Gen.Reference9Ideal.Run
public import proofs.«01_k».proof.Proof.Norms

@[expose] public section

set_option maxRecDepth 16384

noncomputable section

namespace Cert.Kernel9Ideal.Body

open Idealize.ShloMosaic Idealize.ShloMosaic.TcCoe Idealize.SL.Sem
open Cert.Kernel9Ideal Cert.Kernel9Ideal.Gen Cert.Norms

/-- A block of the result, from the blocks. -/
def block (x x' o : Vec Ideal S1x512x4096 .bf16) (g : Vec Ideal S1x4096 .f32) : Vec Ideal S1x512x4096 .bf16 := fun y =>
  gated (fun k => x (ix3 0 (y 1) k)) (fun k => x' (ix3 0 (y 1) k)) (fun k => g (ix2 0 k)) (fun k => o (ix3 0 (y 1) k)) (y 2)

/-- One stored head. -/
theorem pay2_apply (x x' o : Vec Ideal S1x512x512 .bf16) (g : Vec Ideal S1x512 .f32) (r j : Fin 512) : k0_pay2 x x' g o (ix3 0 r j)
    = unit (Ideal.ofBits .f32 0x44000000#32) (fun k => (x (ix3 0 r k) : EReal) + x' (ix3 0 r k)) j * g (ix2 0 j)
      * Ideal.div 1 (1 + Ideal.exp (-(o (ix3 0 r j) : EReal))) := by
  unfold k0_pay2 unit
  pointwise
  rw [zero_sub]

/-- A load of a head reads its columns. -/
theorem ld_head (x : Vec Ideal S1x512x4096 .bf16) (q : ℕ) (hq : q + 512 ≤ 4096)
    (inb : ∀ a, (![0, 0, q] : Fin 3 → ℕ) a + S1x512x512.size a ≤ S1x512x4096.size a) (r k : Fin 512) :
    View.ld x (Rect.unit (s := S1x512x4096) ![0, 0, q] S1x512x512.size inb) (ix3 0 r k) = x (ix3 0 r ⟨q + k.val, by omega⟩) :=
  congrArg x (funext fun a => match a with
    | ⟨0, _⟩ => rfl
    | ⟨1, _⟩ => Fin.ext (by show 0 + 1 * r.val = r.val; omega)
    | ⟨2, _⟩ => Fin.ext (by show q + 1 * k.val = q + k.val; omega))

theorem ld_weights (g : Vec Ideal S1x4096 .f32) (q : ℕ) (hq : q + 512 ≤ 4096)
    (inb : ∀ a, (![0, q] : Fin 2 → ℕ) a + S1x512.size a ≤ S1x4096.size a) (k : Fin 512) :
    View.ld g (Rect.unit (s := S1x4096) ![0, q] S1x512.size inb) (ix2 0 k) = g (ix2 0 ⟨q + k.val, by omega⟩) :=
  congrArg g (funext fun a => match a with
    | ⟨0, _⟩ => rfl
    | ⟨1, _⟩ => Fin.ext (by show q + 1 * k.val = q + k.val; omega))

theorem emb_head (q : ℕ) (hq : q + 512 ≤ 4096)
    (inb : ∀ a, (![0, 0, q] : Fin 3 → ℕ) a + S1x512x512.size a ≤ S1x512x4096.size a) (r k : Fin 512) :
    (Rect.unit (s := S1x512x4096) ![0, 0, q] S1x512x512.size inb).emb (ix3 0 r k) = ix3 0 r ⟨q + k.val, by omega⟩ :=
  funext fun a => match a with
    | ⟨0, _⟩ => rfl
    | ⟨1, _⟩ => Fin.ext (by show 0 + 1 * r.val = r.val; omega)
    | ⟨2, _⟩ => Fin.ext (by show q + 1 * k.val = q + k.val; omega)

/-- A head of the row, from a column of it. -/
theorem gated_at (v w g o : Fin 4096 → EReal) (q : ℕ) (hq : q + 512 ≤ 4096) (hd : q % 512 = 0) (j : Fin 512) :
    gated v w g o ⟨q + j.val, by omega⟩ = unit (Ideal.ofBits .f32 0x44000000#32) (fun k : Fin 512 => v ⟨q + k.val, by omega⟩ + w ⟨q + k.val, by omega⟩) j * g ⟨q + j.val, by omega⟩
      * Ideal.div 1 (1 + Ideal.exp (-o ⟨q + j.val, by omega⟩)) := by
  have h : 512 * ((q + j.val) / 512) = q := by omega
  have h' : (q + j.val) % 512 = j.val := by omega
  unfold gated
  simp only [h, h']

/-- One stored head, in its block. -/
theorem piece_at (x x' o : Vec Ideal S1x512x4096 .bf16) (g : Vec Ideal S1x4096 .f32) (q : ℕ) (hq : q + 512 ≤ 4096) (hd : q % 512 = 0)
    (inb : ∀ a, (![0, 0, q] : Fin 3 → ℕ) a + S1x512x512.size a ≤ S1x512x4096.size a)
    (inb' : ∀ a, (![0, q] : Fin 2 → ℕ) a + S1x512.size a ≤ S1x4096.size a) (y : S1x512x512.Idx) :
    k0_pay2 (View.ld x (Rect.unit (s := S1x512x4096) ![0, 0, q] S1x512x512.size inb)) (View.ld x' (Rect.unit (s := S1x512x4096) ![0, 0, q] S1x512x512.size inb))
        (View.ld g (Rect.unit (s := S1x4096) ![0, q] S1x512.size inb')) (View.ld o (Rect.unit (s := S1x512x4096) ![0, 0, q] S1x512x512.size inb)) y
      = block x x' o g ((Rect.unit (s := S1x512x4096) ![0, 0, q] S1x512x512.size inb).emb y) := by
  obtain ⟨i, r, j, rfl⟩ : ∃ (i : Fin 1) (r j : Fin 512), y = ix3 i r j := ⟨y 0, y 1, y 2, eq_ix3 y⟩
  obtain rfl : i = 0 := Subsingleton.elim _ _
  rw [emb_head q hq inb]
  refine (pay2_apply _ _ _ _ r j).trans (Eq.trans ?_ (gated_at _ _ _ _ q hq hd j).symm)
  rw [ld_weights g q hq inb' j, ld_head o q hq inb r j]
  simp only [ld_head x q hq inb r, ld_head x' q hq inb r]
  rfl

/-- What a point leaves in its block of the result. -/
theorem out_eq (x x' o : Vec Ideal S1x512x4096 .bf16) (g : Vec Ideal S1x4096 .f32) : out0_4 x x' o g = block x x' o g := by
  funext y
  unfold out0_4
  refine View.canon_apply_of_pieces (block x x' o g) _ ?_ y (cover0_4 _ _ _ _ _ _ _ _ y)
  intro p hp z
  simp only [List.mem_cons, List.not_mem_nil, or_false] at hp
  rcases hp with rfl | rfl | rfl | rfl | rfl | rfl | rfl | rfl
  · exact piece_at x x' o g 3584 (by decide) (by decide) inb_S1x512x4096_S1x512x512_0_0_3584 inb_S1x4096_S1x512_0_3584 z
  · exact piece_at x x' o g 3072 (by decide) (by decide) inb_S1x512x4096_S1x512x512_0_0_3072 inb_S1x4096_S1x512_0_3072 z
  · exact piece_at x x' o g 2560 (by decide) (by decide) inb_S1x512x4096_S1x512x512_0_0_2560 inb_S1x4096_S1x512_0_2560 z
  · exact piece_at x x' o g 2048 (by decide) (by decide) inb_S1x512x4096_S1x512x512_0_0_2048 inb_S1x4096_S1x512_0_2048 z
  · exact piece_at x x' o g 1536 (by decide) (by decide) inb_S1x512x4096_S1x512x512_0_0_1536 inb_S1x4096_S1x512_0_1536 z
  · exact piece_at x x' o g 1024 (by decide) (by decide) inb_S1x512x4096_S1x512x512_0_0_1024 inb_S1x4096_S1x512_0_1024 z
  · exact piece_at x x' o g 512 (by decide) (by decide) inb_S1x512x4096_S1x512x512_0_0_512 inb_S1x4096_S1x512_0_512 z
  · exact piece_at x x' o g 0 (by decide) (by decide) inb_S1x512x4096_S1x512x512_0_0_0 inb_S1x4096_S1x512_0_0 z

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![t.val / 16, t.val % 16, 2] ∧ win0_3.index t = ![0, 0] ∧ win0_4.index t = ![t.val / 16, t.val % 16, 0] := by decide +kernel

theorem weights (c : Dev nD) (k : Fin 4096) : V m c main_v1 (ix2 0 k) = m ((c : Thread nD τ).loc main_arg3) (ix2 0 k) := by
  entry_read
  pointwise

theorem lt_cols (k : Fin 4096) : 8192 + k.val < 12288 := by omega

/-- The result. -/
def result (c : Dev nD) : Vec Ideal S2x8192x4096 .bf16 := fun y =>
  gated (fun k => m ((c : Thread nD τ).loc main_arg0) (ix3 (y 0) (y 1) k)) (fun k => m ((c : Thread nD τ).loc main_arg1) (ix3 (y 0) (y 1) k))
    (fun k => m ((c : Thread nD τ).loc main_arg3) (ix2 0 k))
    (fun k => m ((c : Thread nD τ).loc main_arg2) (ix3 (y 0) (y 1) ⟨8192 + k.val, lt_cols k⟩)) (y 2)

/-- The kernel's result array. -/
theorem array (c : Dev nD) : (dats m 0 c).arrAt 4 cfg0.N = result m c := by
  refine (dats m 0 c).arrAt_eq_of_covers 4 _ (by decide +kernel) fun t hf y => ?_
  obtain ⟨e0, e1, e2, e3, e4⟩ := idx t
  have hy1 : (y 1).val < 512 := (y 1).isLt
  have ht : t.val < 32 := t.isLt
  have hemb : ((cfg0.win 4).blk t).view.emb y = ix3 ⟨t.val / 16, by omega⟩ ⟨512 * (t.val % 16) + (y 1).val, by omega⟩ (y 2) := by
    blk_ext [e4]
  rw [hemb]
  blk_simp
  rw [after0_4, out_eq]
  refine gated_congr (fun k => ?_) (fun k => ?_) (fun k => ?_) (fun k => ?_) (y 2)
  · blk_ext [iblk, V, e0]
  · blk_ext [iblk, V, e1]
  · refine Eq.trans ?_ (weights m c k)
    blk_ext [iblk, V, e3]
  · blk_ext [iblk, V, e2]

end Cert.Kernel9Ideal.Body

namespace Cert.Reference9Ideal.Body

open Idealize.ShloMosaic Idealize.ShloMosaic.TcCoe Idealize.SL.Sem
open Cert.Reference9Ideal Cert.Reference9Ideal.Gen Cert.Norms

/-- The sum of the two directions, head by head. -/
def heads (x x' : Vec Ideal S2x8192x4096 .bf16) : FVec Ideal S2x8192x8x512 .f32 :=
  shapeCast S2x8192x8x512 (addf (extf (F := Ideal) .f32 x bitsLt_bf16_f32) (extf .f32 x' bitsLt_bf16_f32)) shapeCasts_S2x8192x4096_S2x8192x8x512

theorem heads_apply (x x' : Vec Ideal S2x8192x4096 .bf16) (i : Fin 2) (r : Fin 8192) (h : Fin 8) (k : Fin 512) :
    heads x x' (ix4 i r h k) = (x (ix3 i r ⟨512 * h.val + k.val, by omega⟩) : EReal) + x' (ix3 i r ⟨512 * h.val + k.val, by omega⟩) := by
  have e : 512 * h.val + k.val = h.val * 512 + k.val := by omega
  unfold heads
  simp only [e]
  pointwise

theorem value (x x' : Vec Ideal S2x8192x4096 .bf16) (o : Vec Ideal S2x8192x12288 .bf16) (g : Vec Ideal S1x4096 .f32) (i : Fin 2) (r : Fin 8192) (j : Fin 4096) :
    (truncf (F := Ideal) .bf16 (mulf (mulf (shapeCast S2x8192x4096 (mulf (heads x x') (broadcastInDim S2x8192x8x512 ![0, 1, 2, 3] bcast_S2x8192x8x1_S2x8192x8x512_0_1_2_3
      (Host.rsqrt (addf (Host.divf (broadcastInDim S2x8192x8x1 ![0, 1, 2] bcast_S2x8192x8_S2x8192x8x1_0_1_2 (Host.reduceAdd (mulf (heads x x') (heads x x'))
        (constant S_ .f32 0x00000000#32) reducesTo_S2x8192x8x512_S2x8192x8_d3 h_S_)) (broadcastInDim S2x8192x8x1 ![] bcast_S_S2x8192x8x1 (constant S_ .f32 0x44000000#32)))
        (broadcastInDim S2x8192x8x1 ![] bcast_S_S2x8192x8x1 (constant S_ .f32 0x358637BD#32)))))) shapeCasts_S2x8192x8x512_S2x8192x4096)
      (broadcastInDim S2x8192x4096 ![0, 1, 2] bcast_S1x1x4096_S2x8192x4096_0_1_2 (broadcastInDim S1x1x4096 ![2] bcast_S4096_S1x1x4096_2 (shapeCast S4096 g shapeCasts_S1x4096_S4096))))
      (Host.divf (broadcastInDim S2x8192x4096 ![] bcast_S_S2x8192x4096 (constant S_ .f32 0x3F800000#32))
        (addf (broadcastInDim S2x8192x4096 ![] bcast_S_S2x8192x4096 (constant S_ .f32 0x3F800000#32))
          (Host.exp (Host.negf (extf .f32 (extractStridedSlice S2x8192x4096 ![0, 0, 8192] o slices_S2x8192x12288_S2x8192x4096_0_0_8192) bitsLt_bf16_f32))))))
      bitsLt_bf16_f32 : Vec Ideal S2x8192x4096 .bf16) (ix3 i r j)
      = gated (fun k => x (ix3 i r k)) (fun k => x' (ix3 i r k)) (fun k => g (ix2 0 k)) (fun k => o (ix3 i r ⟨8192 + k.val, by omega⟩)) j := by
  refine Eq.trans ?_ (congrArg (fun f : Fin 512 → EReal => unit (Ideal.ofBits .f32 0x44000000#32) f ⟨j.val % 512, by omega⟩ * (g (ix2 0 j) : EReal)
    * Ideal.div 1 (1 + Ideal.exp (-(o (ix3 i r ⟨8192 + j.val, by omega⟩) : EReal)))) (funext (heads_apply x x' i r ⟨j.val / 512, by omega⟩)))
  generalize heads x x' = w
  unfold unit
  pointwise

end Cert.Reference9Ideal.Body

end
-- ==== Proof.NormMid.lean ====
/-
  The residual with a part's normed result, then the norm and modulation before the next part: the two arrays the kernel leaves are the
  reference's.
-/
module

public import proofs.«01_k».proof.Proof.Gen.Kernel10Ideal.Value
public import proofs.«01_k».proof.Proof.Gen.Reference10Ideal.Run
public import proofs.«01_k».proof.Proof.Norms

@[expose] public section

set_option maxRecDepth 16384

noncomputable section

namespace Cert.Kernel10Ideal.Body

open Idealize.ShloMosaic Idealize.ShloMosaic.TcCoe Idealize.SL.Sem
open Cert.Kernel10Ideal Cert.Kernel10Ideal.Gen Cert.Norms

/-- A row of the first result, from the blocks. -/
def row (x : Vec Ideal S1x256x4096 .f32) (v : Vec Ideal S1x256x4096 .bf16) (c : Vec Ideal S1x1x4096 .f32) (g : Vec Ideal S1x4096 .f32)
    (r : Fin 256) (j : Fin 4096) : EReal :=
  residue (fun k => x (ix3 0 r k)) (fun k => c (ix3 0 0 k)) (fun k => v (ix3 0 r k)) (fun k => g (ix2 0 k)) j

theorem pay2_apply (x : Vec Ideal S1x256x4096 .f32) (v : Vec Ideal S1x256x4096 .bf16) (c : Vec Ideal S1x1x4096 .f32) (g : Vec Ideal S1x4096 .f32)
    (r : Fin 256) (j : Fin 4096) : k0_pay2 x c v g (ix2 r j) = row x v c g r j := by
  unfold k0_pay2 row residue unit
  pointwise

variable (x : Vec Ideal S1x256x4096 .f32) (v : Vec Ideal S1x256x4096 .bf16) (d : Vec Ideal S1x1x4096 .f32) (g h : Vec Ideal S1x4096 .f32)
  (b s : Vec Ideal S1x1x4096 .f32) (y : S1x256x4096.Idx)

/-- What a point leaves in its block of the first result. -/
theorem out7_apply : out0_7 x v d g h b s y = row x v d g (y 1) (y 2) := by
  obtain ⟨i, r, j, rfl⟩ : ∃ (i : Fin 1) (r : Fin 256) (j : Fin 4096), y = ix3 i r j := ⟨y 0, y 1, y 2, eq_ix3 y⟩
  obtain rfl : i = 0 := Subsingleton.elim _ _
  unfold out0_7
  rw [View.canon_unit_zero (by decide), View.ld_unit_zero (by decide), View.ld_unit_zero (by decide), View.ld_unit_zero (by decide), View.ld_unit_zero (by decide)]
  refine Eq.trans ?_ (pay2_apply x v d g r j)
  unfold k0_pay3
  generalize k0_pay2 x d v g = w
  pointwise

/-- What a point leaves in its block of the second result. -/
theorem out8_apply : out0_8 x v d g h b s y
    = modulated (row x v d g (y 1)) (fun k => h (ix2 0 k)) (fun k => s (ix3 0 0 k)) (fun k => b (ix3 0 0 k)) (y 2) := by
  obtain ⟨i, r, j, rfl⟩ : ∃ (i : Fin 1) (r : Fin 256) (j : Fin 4096), y = ix3 i r j := ⟨y 0, y 1, y 2, eq_ix3 y⟩
  obtain rfl : i = 0 := Subsingleton.elim _ _
  unfold out0_8
  rw [View.canon_unit_zero (by decide), View.ld_unit_zero (by decide), View.ld_unit_zero (by decide), View.ld_unit_zero (by decide), View.ld_unit_zero (by decide),
    View.ld_unit_zero (by decide), View.ld_unit_zero (by decide), View.ld_unit_zero (by decide)]
  refine Eq.trans ?_ (modulated_congr (pay2_apply x v d g r) (fun _ => rfl) (fun _ => rfl) (fun _ => rfl) j)
  unfold k0_pay1 k0_pay4
  generalize k0_pay2 x d v g = w
  unfold modulated unit
  pointwise

variable (m : (ℓ : Loc nD τ sig) → Buf (Elt Ideal) ℓ)

theorem idx : ∀ t : Fin cfg0.N, win0_0.index t = ![t.val / 32, t.val % 32, 0] ∧ win0_1.index t = ![t.val / 32, t.val % 32, 0]
    ∧ win0_2.index t = ![t.val / 32, 0, 0] ∧ win0_3.index t = ![0, 0] ∧ win0_4.index t = ![0, 0] ∧ win0_5.index t = ![t.val / 32, 0, 0]
    ∧ win0_6.index t = ![t.val / 32, 0, 0] ∧ win0_7.index t = ![t.val / 32, t.val % 32, 0] ∧ win0_8.index t = ![t.val / 32, t.val % 32, 0] := by decide +kernel

/-- The weights of the norms as the kernel is given them. -/
theorem weights0 (c : Dev nD) (k : Fin 4096) : V m c main_v0 (ix2 0 k) = m ((c : Thread nD τ).loc main_arg3) (ix1 k) := by
  entry_read
  pointwise

theorem weights1 (c : Dev nD) (k : Fin 4096) : V m c main_v1 (ix2 0 k) = m ((c : Thread nD τ).loc main_arg4) (ix1 k) := by
  entry_read
  pointwise

/-- The first result. -/
def result7 (c : Dev nD) : Vec Ideal S2x8192x4096 .f32 := fun y =>
  residue (fun k => m ((c : Thread nD τ).loc main_arg0) (ix3 (y 0) (y 1) k)) (fun k => m ((c : Thread nD τ).loc main_arg2) (ix3 (y 0) 0 k))
    (fun k => m ((c : Thread nD τ).loc main_arg1) (ix3 (y 0) (y 1) k)) (fun k => m ((c : Thread nD τ).loc main_arg3) (ix1 k)) (y 2)

/-- The second result. -/
def result8 (c : Dev nD) : Vec Ideal S2x8192x4096 .bf16 := fun y =>
  modulated (fun k => result7 m c (ix3 (y 0) (y 1) k)) (fun k => m ((c : Thread nD τ).loc main_arg4) (ix1 k))
    (fun k => m ((c : Thread nD τ).loc main_arg6) (ix3 (y 0) 0 k)) (fun k => m ((c : Thread nD τ).loc main_arg5) (ix3 (y 0) 0 k)) (y 2)

/-- A row of the blocks of a point is a row of the first result. -/
theorem row_eq (c : Dev nD) (t : Fin cfg0.N) (r : Fin 256) (k : Fin 4096) (h : t.val / 32 < 2) (h' : 256 * (t.val % 32) + r.val < 8192) :
    row (iblk m c 0 t) (iblk m c 1 t) (iblk m c 2 t) (iblk m c 3 t) r k = result7 m c (ix3 ⟨t.val / 32, h⟩ ⟨256 * (t.val % 32) + r.val, h'⟩ k) := by
  obtain ⟨e0, e1, e2, e3, -⟩ := idx t
  refine residual_congr (fun k => ?_) (fun k => ?_) (fun k => ?_) (fun k => ?_) k
  · blk_ext [iblk, V, e0]
  · blk_ext [iblk, V, e2]
  · blk_ext [iblk, V, e1]
  · refine Eq.trans ?_ (weights0 m c k)
    blk_ext [iblk, V, e3]

/-- The kernel's first result array. -/
theorem array7 (c : Dev nD) : (dats m 0 c).arrAt 7 cfg0.N = result7 m c := by
  refine (dats m 0 c).arrAt_eq_of_covers 7 _ (by decide +kernel) fun t hf y => ?_
  obtain ⟨-, -, -, -, -, -, -, e7, -⟩ := idx t
  have hy1 : (y 1).val < 256 := (y 1).isLt
  have ht : t.val < 64 := t.isLt
  have hemb : ((cfg0.win 7).blk t).view.emb y = ix3 ⟨t.val / 32, by omega⟩ ⟨256 * (t.val % 32) + (y 1).val, by omega⟩ (y 2) := by
    blk_ext [e7]
  rw [hemb]
  blk_simp
  rw [after0_7, out7_apply]
  exact row_eq m c t (y 1) (y 2) (by omega) (by omega)

/-- The kernel's second result array. -/
theorem array8 (c : Dev nD) : (dats m 0 c).arrAt 8 cfg0.N = result8 m c := by
  refine (dats m 0 c).arrAt_eq_of_covers 8 _ (by decide +kernel) fun t hf y => ?_
  obtain ⟨-, -, -, -, e4, e5, e6, -, e8⟩ := idx t
  have hy1 : (y 1).val < 256 := (y 1).isLt
  have ht : t.val < 64 := t.isLt
  have hemb : ((cfg0.win 8).blk t).view.emb y = ix3 ⟨t.val / 32, by omega⟩ ⟨256 * (t.val % 32) + (y 1).val, by omega⟩ (y 2) := by
    blk_ext [e8]
  rw [hemb]
  blk_simp
  rw [after0_8, out8_apply]
  refine modulated_congr (fun k => row_eq m c t (y 1) k (by omega) (by omega)) (fun k => ?_) (fun k => ?_) (fun k => ?_) (y 2)
  · refine Eq.trans ?_ (weights1 m c k)
    blk_ext [iblk, V, e4]
  · blk_ext [iblk, V, e6]
  · blk_ext [iblk, V, e5]

end Cert.Kernel10Ideal.Body

namespace Cert.Reference10Ideal.Body

open Idealize.ShloMosaic Idealize.ShloMosaic.TcCoe Idealize.SL.Sem
open Cert.Reference10Ideal Cert.Reference10Ideal.Gen Cert.Norms

/-- The reference's norm of an array's rows. -/
def normed (x : FVec Ideal S2x8192x4096 .f32) (g : Vec Ideal S4096 .f32) : FVec Ideal S2x8192x4096 .f32 :=
  mulf (mulf x (broadcastInDim S2x8192x4096 ![0, 1, 2] bcast_S2x8192x1_S2x8192x4096_0_1_2 (Host.rsqrt (addf
      (Host.divf (broadcastInDim S2x8192x1 ![0, 1] bcast_S2x8192_S2x8192x1_0_1 (Host.reduceAdd (mulf x x)
          (constant S_ .f32 0x00000000#32) reducesTo_S2x8192x4096_S2x8192_d2 h_S_)) (broadcastInDim S2x8192x1 ![] bcast_S_S2x8192x1 (constant S_ .f32 0x45800000#32)))
        (broadcastInDim S2x8192x1 ![] bcast_S_S2x8192x1 (constant S_ .f32 0x358637BD#32))))))
    (broadcastInDim S2x8192x4096 ![0, 1, 2] bcast_S1x1x4096_S2x8192x4096_0_1_2 (broadcastInDim S1x1x4096 ![2] bcast_S4096_S1x1x4096_2 g))

theorem normed_apply (x : FVec Ideal S2x8192x4096 .f32) (g : Vec Ideal S4096 .f32) (i : Fin 2) (r : Fin 8192) (j : Fin 4096) :
    normed x g (ix3 i r j) = unit (Ideal.ofBits .f32 0x45800000#32) (fun k => x (ix3 i r k)) j * g (ix1 j) := by
  unfold normed unit
  pointwise

/-- The reference's first result. -/
def first (x : Vec Ideal S2x8192x4096 .f32) (v : Vec Ideal S2x8192x4096 .bf16) (d : Vec Ideal S2x1x4096 .f32) (g : Vec Ideal S4096 .f32) :
    FVec Ideal S2x8192x4096 .f32 :=
  addf x (mulf (broadcastInDim S2x8192x4096 ![0, 1, 2] bcast_S2x1x4096_S2x8192x4096_0_1_2 d) (normed (extf .f32 v bitsLt_bf16_f32) g))

variable (x : Vec Ideal S2x8192x4096 .f32) (v : Vec Ideal S2x8192x4096 .bf16) (d : Vec Ideal S2x1x4096 .f32) (g h : Vec Ideal S4096 .f32)
  (b s : Vec Ideal S2x1x4096 .f32) (i : Fin 2) (r : Fin 8192) (j : Fin 4096)

theorem first_apply : first x v d g (ix3 i r j)
    = residue (fun k => x (ix3 i r k)) (fun k => d (ix3 i 0 k)) (fun k => v (ix3 i r k)) (fun k => g (ix1 k)) j := by
  refine Eq.trans ?_ (congrArg (fun w : EReal => (x (ix3 i r j) : EReal) + (d (ix3 i 0 j) : EReal) * w) (normed_apply (extf .f32 v bitsLt_bf16_f32) g i r j))
  unfold first
  generalize normed (extf .f32 v bitsLt_bf16_f32) g = w
  pointwise

/-- The reference's second result. -/
def second : Vec Ideal S2x8192x4096 .bf16 :=
  truncf (F := Ideal) .bf16 (addf (mulf (normed (first x v d g) h)
    (broadcastInDim S2x8192x4096 ![0, 1, 2] bcast_S2x1x4096_S2x8192x4096_0_1_2 (addf (broadcastInDim S2x1x4096 ![] bcast_S_S2x1x4096 (constant S_ .f32 0x3F800000#32)) s)))
    (broadcastInDim S2x8192x4096 ![0, 1, 2] bcast_S2x1x4096_S2x8192x4096_0_1_2 b)) bitsLt_bf16_f32

theorem second_apply : second x v d g h b s (ix3 i r j)
    = modulated (fun k => residue (fun k => x (ix3 i r k)) (fun k => d (ix3 i 0 k)) (fun k => v (ix3 i r k)) (fun k => g (ix1 k)) k)
      (fun k => h (ix1 k)) (fun k => s (ix3 i 0 k)) (fun k => b (ix3 i 0 k)) j := by
  refine Eq.trans ?_ (modulated_congr (first_apply x v d g i r) (fun _ => rfl) (fun _ => rfl) (fun _ => rfl) j)
  unfold second modulated
  generalize first x v d g = w
  rw [← normed_apply w h i r j]
  generalize normed w h = u
  pointwise

end Cert.Reference10Ideal.Body

end
-- ==== Proof.NormLast.lean ====
/-
  The residual with a mixer's normed result: the array the kernel leaves is the reference's.
-/
module

public import proofs.«01_k».proof.Proof.Gen.Kernel11Ideal.Value
public import proofs.«01_k».proof.Proof.Gen.Reference11Ideal.Run
public import proofs.«01_k».proof.Proof.Norms

@[expose] public section

set_option maxRecDepth 16384

noncomputable section

namespace Cert.Kernel11Ideal.Body

open Idealize.ShloMosaic Idealize.ShloMosaic.TcCoe Idealize.SL.Sem
open Cert.Kernel11Ideal Cert.Kernel11Ideal.Gen Cert.Norms

/-- What a point leaves in its block of the result, from the blocks. -/
theorem out_apply (x : Vec Ideal S1x256x4096 .f32) (v : Vec Ideal S1x256x4096 .bf16) (c : Vec Ideal S1x1x4096 .f32) (g : Vec Ideal S1x4096 .f32) (y : S1x256x4096.Idx) :
    out0_4 x v c g y = residue (fun k => x (ix3 0 (y 1) k)) (fun k => c (ix3 0 0 k)) (fun k => v (ix3 0 (y 1) k)) (fun k => g (ix2 0 k)) (y 2) := by
  obtain ⟨i, r, j, rfl⟩ : ∃ (i : Fin 1) (r : Fin 256) (j : Fin 4096), y = ix3 i r j := ⟨y 0, y 1, y 2, eq_ix3 y⟩
  obtain rfl : i = 0 := Subsingleton.elim _ _
  unfold out0_4
  rw [View.canon_unit_zero (by decide), View.ld_unit_zero (by decide), View.ld_unit_zero (by decide), View.ld_unit_zero (by decide), View.ld_unit_zero (by decide)]
  unfold k0_pay1 residue unit
  pointwise

variable (m : (ℓ : Loc nD τ sig) → Buf (Elt Ideal) ℓ)

theorem idx : ∀ t : Fin cfg0.N, win0_0.index t = ![t.val / 32, t.val % 32, 0] ∧ win0_1.index t = ![t.val / 32, t.val % 32, 0]
    ∧ win0_2.index t = ![t.val / 32, 0, 0] ∧ win0_3.index t = ![0, 0] ∧ win0_4.index t = ![t.val / 32, t.val % 32, 0] := by decide +kernel

/-- The norm's weights as the kernel is given them. -/
theorem weights (c : Dev nD) (k : Fin 4096) : V m c main_v0 (ix2 0 k) = m ((c : Thread nD τ).loc main_arg3) (ix1 k) := by
  entry_read
  pointwise

/-- The result. -/
def result (c : Dev nD) : Vec Ideal S2x8192x4096 .f32 := fun y =>
  residue (fun k => m ((c : Thread nD τ).loc main_arg0) (ix3 (y 0) (y 1) k)) (fun k => m ((c : Thread nD τ).loc main_arg2) (ix3 (y 0) 0 k))
    (fun k => m ((c : Thread nD τ).loc main_arg1) (ix3 (y 0) (y 1) k)) (fun k => m ((c : Thread nD τ).loc main_arg3) (ix1 k)) (y 2)

/-- The kernel's result array. -/
theorem array (c : Dev nD) : (dats m 0 c).arrAt 4 cfg0.N = result m c := by
  refine (dats m 0 c).arrAt_eq_of_covers 4 _ (by decide +kernel) fun t hf y => ?_
  obtain ⟨e0, e1, e2, e3, e4⟩ := idx t
  have hy1 : (y 1).val < 256 := (y 1).isLt
  have ht : t.val < 64 := t.isLt
  have hemb : ((cfg0.win 4).blk t).view.emb y = ix3 ⟨t.val / 32, by omega⟩ ⟨256 * (t.val % 32) + (y 1).val, by omega⟩ (y 2) := by
    blk_ext [e4]
  rw [hemb]
  blk_simp
  rw [after0_4, out_apply]
  refine residual_congr (fun k => ?_) (fun k => ?_) (fun k => ?_) (fun k => ?_) (y 2)
  · blk_ext [iblk, V, e0]
  · blk_ext [iblk, V, e2]
  · blk_ext [iblk, V, e1]
  · refine Eq.trans ?_ (weights m c k)
    blk_ext [iblk, V, e3]

end Cert.Kernel11Ideal.Body

namespace Cert.Reference11Ideal.Body

open Idealize.ShloMosaic Idealize.ShloMosaic.TcCoe Idealize.SL.Sem
open Cert.Reference11Ideal Cert.Reference11Ideal.Gen Cert.Norms

theorem value (x : Vec Ideal S2x8192x4096 .f32) (v : Vec Ideal S2x8192x4096 .bf16) (c : Vec Ideal S2x1x4096 .f32) (g : Vec Ideal S4096 .f32)
    (i : Fin 2) (r : Fin 8192) (j : Fin 4096) :
    (addf (F := Ideal) (φ := .f32) x (mulf (broadcastInDim S2x8192x4096 ![0, 1, 2] bcast_S2x1x4096_S2x8192x4096_0_1_2 c) (mulf (mulf (extf .f32 v bitsLt_bf16_f32)
      (broadcastInDim S2x8192x4096 ![0, 1, 2] bcast_S2x8192x1_S2x8192x4096_0_1_2 (Host.rsqrt (addf
        (Host.divf (broadcastInDim S2x8192x1 ![0, 1] bcast_S2x8192_S2x8192x1_0_1 (Host.reduceAdd (mulf (extf .f32 v bitsLt_bf16_f32) (extf .f32 v bitsLt_bf16_f32))
          (constant S_ .f32 0x00000000#32) reducesTo_S2x8192x4096_S2x8192_d2 h_S_)) (broadcastInDim S2x8192x1 ![] bcast_S_S2x8192x1 (constant S_ .f32 0x45800000#32)))
        (broadcastInDim S2x8192x1 ![] bcast_S_S2x8192x1 (constant S_ .f32 0x358637BD#32))))))
      (broadcastInDim S2x8192x4096 ![0, 1, 2] bcast_S1x1x4096_S2x8192x4096_0_1_2 (broadcastInDim S1x1x4096 ![2] bcast_S4096_S1x1x4096_2 g)))) : Vec Ideal S2x8192x4096 .f32) (ix3 i r j)
      = residue (fun k => x (ix3 i r k)) (fun k => c (ix3 i 0 k)) (fun k => v (ix3 i r k)) (fun k => g (ix1 k)) j := by
  unfold residue unit
  pointwise

end Cert.Reference11Ideal.Body

end
-- ==== Proof.NormFirst.lean ====
/-
  The norm and modulation before a mixer: the array the kernel leaves is the reference's.
-/
module

public import proofs.«01_k».proof.Proof.Gen.Kernel12Ideal.Value
public import proofs.«01_k».proof.Proof.Gen.Reference12Ideal.Run
public import proofs.«01_k».proof.Proof.Norms

@[expose] public section

set_option maxRecDepth 16384

noncomputable section

namespace Cert.Kernel12Ideal.Body

open Idealize.ShloMosaic Idealize.ShloMosaic.TcCoe Idealize.SL.Sem
open Cert.Kernel12Ideal Cert.Kernel12Ideal.Gen Cert.Norms

/-- What a point leaves in its block of the result, from the blocks. -/
theorem out_apply (x : Vec Ideal S1x512x4096 .f32) (g : Vec Ideal S1x4096 .f32) (b s : Vec Ideal S1x1x4096 .f32) (y : S1x512x4096.Idx) :
    out0_4 x g b s y = modulated (fun k => x (ix3 0 (y 1) k)) (fun k => g (ix2 0 k)) (fun k => s (ix3 0 0 k)) (fun k => b (ix3 0 0 k)) (y 2) := by
  obtain ⟨i, r, j, rfl⟩ : ∃ (i : Fin 1) (r : Fin 512) (j : Fin 4096), y = ix3 i r j := ⟨y 0, y 1, y 2, eq_ix3 y⟩
  obtain rfl : i = 0 := Subsingleton.elim _ _
  unfold out0_4
  rw [View.canon_unit_zero (by decide), View.ld_unit_zero (by decide), View.ld_unit_zero (by decide), View.ld_unit_zero (by decide), View.ld_unit_zero (by decide)]
  unfold k0_pay1 modulated unit
  pointwise

variable (m : (ℓ : Loc nD τ sig) → Buf (Elt Ideal) ℓ)

theorem idx : ∀ t : Fin cfg0.N, win0_0.index t = ![t.val / 16, t.val % 16, 0] ∧ win0_1.index t = ![0, 0] ∧ win0_2.index t = ![t.val / 16, 0, 0]
    ∧ win0_3.index t = ![t.val / 16, 0, 0] ∧ win0_4.index t = ![t.val / 16, t.val % 16, 0] := by decide +kernel

/-- The norm's weights as the kernel is given them. -/
theorem weights (c : Dev nD) (k : Fin 4096) : V m c main_v0 (ix2 0 k) = m ((c : Thread nD τ).loc main_arg1) (ix1 k) := by
  entry_read
  pointwise

/-- The result. -/
def result (c : Dev nD) : Vec Ideal S2x8192x4096 .bf16 := fun y =>
  modulated (fun k => m ((c : Thread nD τ).loc main_arg0) (ix3 (y 0) (y 1) k)) (fun k => m ((c : Thread nD τ).loc main_arg1) (ix1 k))
    (fun k => m ((c : Thread nD τ).loc main_arg3) (ix3 (y 0) 0 k)) (fun k => m ((c : Thread nD τ).loc main_arg2) (ix3 (y 0) 0 k)) (y 2)

/-- The kernel's result array. -/
theorem array (c : Dev nD) : (dats m 0 c).arrAt 4 cfg0.N = result m c := by
  refine (dats m 0 c).arrAt_eq_of_covers 4 _ (by decide +kernel) fun t hf y => ?_
  obtain ⟨e0, e1, e2, e3, e4⟩ := idx t
  have hy1 : (y 1).val < 512 := (y 1).isLt
  have ht : t.val < 32 := t.isLt
  have hemb : ((cfg0.win 4).blk t).view.emb y = ix3 ⟨t.val / 16, by omega⟩ ⟨512 * (t.val % 16) + (y 1).val, by omega⟩ (y 2) := by
    blk_ext [e4]
  rw [hemb]
  blk_simp
  rw [after0_4, out_apply]
  refine modulated_congr (fun k => ?_) (fun k => ?_) (fun k => ?_) (fun k => ?_) (y 2)
  · blk_ext [iblk, V, e0]
  · refine Eq.trans ?_ (weights m c k)
    blk_ext [iblk, V, e1]
  · blk_ext [iblk, V, e3]
  · blk_ext [iblk, V, e2]

end Cert.Kernel12Ideal.Body

namespace Cert.Reference12Ideal.Body

open Idealize.ShloMosaic Idealize.ShloMosaic.TcCoe Idealize.SL.Sem
open Cert.Reference12Ideal Cert.Reference12Ideal.Gen Cert.Norms

theorem value (x : Vec Ideal S2x8192x4096 .f32) (g : Vec Ideal S4096 .f32) (b s : Vec Ideal S2x1x4096 .f32) (i : Fin 2) (r : Fin 8192) (j : Fin 4096) :
    (truncf (F := Ideal) .bf16 (addf (mulf (mulf (mulf x (broadcastInDim S2x8192x4096 ![0, 1, 2] bcast_S2x8192x1_S2x8192x4096_0_1_2 (Host.rsqrt (addf
      (Host.divf (broadcastInDim S2x8192x1 ![0, 1] bcast_S2x8192_S2x8192x1_0_1 (Host.reduceAdd (mulf x x) (constant S_ .f32 0x00000000#32)
        reducesTo_S2x8192x4096_S2x8192_d2 h_S_)) (broadcastInDim S2x8192x1 ![] bcast_S_S2x8192x1 (constant S_ .f32 0x45800000#32)))
      (broadcastInDim S2x8192x1 ![] bcast_S_S2x8192x1 (constant S_ .f32 0x358637BD#32))))))
      (broadcastInDim S2x8192x4096 ![0, 1, 2] bcast_S1x1x4096_S2x8192x4096_0_1_2 (broadcastInDim S1x1x4096 ![2] bcast_S4096_S1x1x4096_2 g)))
      (broadcastInDim S2x8192x4096 ![0, 1, 2] bcast_S2x1x4096_S2x8192x4096_0_1_2 (addf (broadcastInDim S2x1x4096 ![] bcast_S_S2x1x4096 (constant S_ .f32 0x3F800000#32)) s)))
      (broadcastInDim S2x8192x4096 ![0, 1, 2] bcast_S2x1x4096_S2x8192x4096_0_1_2 b)) bitsLt_bf16_f32 : Vec Ideal S2x8192x4096 .bf16) (ix3 i r j)
      = modulated (fun k => x (ix3 i r k)) (fun k => g (ix1 k)) (fun k => s (ix3 i 0 k)) (fun k => b (ix3 i 0 k)) j := by
  unfold modulated unit
  pointwise

end Cert.Reference12Ideal.Body

end
-- ==== Proof.Mods.lean ====
/-
  The modulation vectors, an entry from a row of the conditions, a column of the weights and a bias.
-/
module

public import Idealize.ShloMosaic.Lib.Pointwise
public import Idealize.ShloMosaic.Lib.Pipeline.ValueKit

@[expose] public section

noncomputable section

namespace Cert.Mods

open Idealize.ShloMosaic

/-- x times its sigmoid. -/
def silu (x : EReal) : EReal := x * Ideal.div 1 (1 + Ideal.exp (-x))

/-- An entry of the vectors. -/
def entry (v w : Fin 4096 → EReal) (b : EReal) : EReal := (∑ k, silu (v k) * w k) + b

theorem entry_congr {v v' w w' : Fin 4096 → EReal} {b b' : EReal} (hv : ∀ k, v k = v' k) (hw : ∀ k, w k = w' k) (hb : b = b') :
    entry v w b = entry v' w' b' := by
  rw [funext hv, funext hw, hb]

end Cert.Mods

end
-- ==== Proof.DownMods.lean ====
/-
  The product with the first layer's down weights, and beside it the second layer's modulation vectors: the two arrays the kernel leaves
  are the reference's.
-/
module

public import proofs.«01_k».proof.Proof.Gen.Kernel13Ideal.Value
public import proofs.«01_k».proof.Proof.Gen.Reference13Ideal.Run
public import proofs.«01_k».proof.Proof.Down
public import proofs.«01_k».proof.Proof.Mods

@[expose] public section

set_option maxRecDepth 16384

noncomputable section

namespace Cert.Kernel13Ideal.Body

open Idealize.ShloMosaic Idealize.ShloMosaic.TcCoe Idealize.SL.Sem
open Cert.Kernel13Ideal Cert.Kernel13Ideal.Gen Cert.Mods
open Cert.Kernel3Ideal.Body (prod product point_sum)

variable (A : Vec Ideal S512x11008 .bf16) (B : Vec Ideal S1x11008x512 .bf16) (v : Vec Ideal S8x4096 .f32) (w : Vec Ideal S1x4096x128 .f32)
  (b : Vec Ideal S1x1x128 .f32)

/-- What a point leaves in its block of the product: the same as in the second layer. -/
theorem out5_eq : out0_5 A B v w b = prod A B := Cert.Kernel3Ideal.Body.out_eq A B

/-- What a point leaves in its block of the modulation vectors. -/
theorem out6_apply (y : S8x128.Idx) :
    out0_6 A B v w b y = entry (fun k => v (ix2 (y 0) k)) (fun k => w (ix3 0 k (y 1))) (b (ix3 0 0 (y 1))) := by
  obtain ⟨r, j, rfl⟩ : ∃ (r : Fin 8) (j : Fin 128), y = ix2 r j := ⟨y 0, y 1, eq_ix2 y⟩
  unfold out0_6
  rw [View.canon_unit_zero (by decide), View.ld_unit_zero (by decide), View.ld_unit_zero (by decide), View.ld_unit_zero (by decide)]
  unfold k0_pay1 entry silu
  pointwise
  simp only [zero_sub]

variable (m : (ℓ : Loc nD τ sig) → Buf (Elt Ideal) ℓ)

theorem idx : ∀ t : Fin cfg0.N, win0_0.index t = ![t.val % 32, 0] ∧ win0_1.index t = ![0, 0, t.val / 32]
    ∧ win0_5.index t = ![t.val % 32, t.val / 32] := by decide +kernel

theorem idx' : ∀ t : Fin cfg0.N, win0_2.index t = ![0, 0] ∧ win0_3.index t = ![1, 0, min t.val 191] ∧ win0_4.index t = ![1, 0, min t.val 191]
    ∧ win0_6.index t = ![0, min t.val 191] := by decide +kernel

/-- The biases as the kernel is given them. -/
theorem bias (c : Dev nD) (l : Fin 2) (j : Fin 24576) : V m c main_v0 (ix3 l 0 j) = m ((c : Thread nD τ).loc main_arg4) (ix2 l j) := by
  entry_read
  pointwise

/-- The kernel's first result array is the product. -/
theorem array5 (c : Dev nD) : (dats m 0 c).arrAt 5 cfg0.N =
    product (m ((c : Thread nD τ).loc main_arg0)) (m ((c : Thread nD τ).loc main_arg1)) := by
  refine (dats m 0 c).arrAt_eq_of_covers 5 _ (by decide +kernel) fun t hf y => ?_
  obtain ⟨e0, e1, e2⟩ := idx t
  have hy0 : (y 0).val < 512 := (y 0).isLt
  have hy1 : (y 1).val < 512 := (y 1).isLt
  have ht : t.val < 256 := t.isLt
  have hemb : ((cfg0.win 5).blk t).view.emb y = ix2 ⟨512 * (t.val % 32) + (y 0).val, by omega⟩ ⟨512 * (t.val / 32) + (y 1).val, by omega⟩ := by
    blk_ext [e2]
  rw [hemb]
  blk_simp
  rw [after0_5, out5_eq]
  refine point_sum _ _ _ _ _ _ _ (fun k => ?_) (fun k => ?_)
  · blk_ext [iblk, V, e0]
  · blk_ext [iblk, V, e1]

/-- The modulation vectors. -/
def mods (c : Dev nD) : Vec Ideal S8x24576 .f32 := fun y =>
  entry (fun k => m ((c : Thread nD τ).loc main_arg2) (ix2 (y 0) k)) (fun k => m ((c : Thread nD τ).loc main_arg3) (ix3 1 k (y 1)))
    (m ((c : Thread nD τ).loc main_arg4) (ix2 1 (y 1)))

/-- The kernel's second result array. -/
theorem array6 (c : Dev nD) : (dats m 0 c).arrAt 6 cfg0.N = mods m c := by
  refine (dats m 0 c).arrAt_eq_of_covers 6 _ (by decide +kernel) fun t hf y => ?_
  obtain ⟨e0, e1, e2, e3⟩ := idx' t
  have hy1 : (y 1).val < 128 := (y 1).isLt
  have ht : min t.val 191 < 192 := by omega
  generalize min t.val 191 = u at e1 e2 e3 ht
  have hemb : ((cfg0.win 6).blk t).view.emb y = ix2 (y 0) ⟨128 * u + (y 1).val, by omega⟩ := by
    blk_ext [e3]
  rw [hemb]
  blk_simp
  rw [after0_6, out6_apply]
  refine entry_congr (fun k => ?_) (fun k => ?_) ?_
  · blk_ext [iblk, V, e0]
  · blk_ext [iblk, V, e1]
  · refine Eq.trans ?_ (bias m c 1 ⟨128 * u + (y 1).val, by omega⟩)
    blk_ext [iblk, V, e2]

end Cert.Kernel13Ideal.Body

namespace Cert.Reference13Ideal.Body

open Idealize.ShloMosaic Idealize.ShloMosaic.TcCoe Idealize.SL.Sem
open Cert.Reference13Ideal Cert.Reference13Ideal.Gen Cert.Mods

theorem mods_apply (v : Vec Ideal S8x4096 .f32) (w : Vec Ideal S2x4096x24576 .f32) (b : Vec Ideal S2x24576 .f32) (r : Fin 8) (j : Fin 24576) :
    (addf (F := Ideal) (φ := .f32) (Host.dotGeneral (φ₂ := .f32) dot_S8x4096_S4096x24576_S8x24576_1_0_0_1_n_n none (mulf v (Host.divf (broadcastInDim S8x4096 ![] bcast_S_S8x4096 (constant S_ .f32 0x3F800000#32))
        (addf (broadcastInDim S8x4096 ![] bcast_S_S8x4096 (constant S_ .f32 0x3F800000#32)) (Host.exp (Host.negf v)))))
        (shapeCast S4096x24576 (extractStridedSlice S1x4096x24576 ![1, 0, 0] w slices_S2x4096x24576_S1x4096x24576_1_0_0) shapeCasts_S1x4096x24576_S4096x24576))
      (broadcastInDim S8x24576 ![0, 1] bcast_S1x24576_S8x24576_0_1 (broadcastInDim S1x24576 ![1] bcast_S24576_S1x24576_1
        (shapeCast S24576 (extractStridedSlice S1x24576 ![1, 0] b slices_S2x24576_S1x24576_1_0) shapeCasts_S1x24576_S24576))) : Vec Ideal S8x24576 .f32) (ix2 r j)
      = entry (fun k => v (ix2 r k)) (fun k => w (ix3 1 k j)) (b (ix2 1 j)) := by
  unfold entry silu
  pointwise

end Cert.Reference13Ideal.Body

end
-- ==== Proof.Ada.lean ====
/-
  The first layer's modulation vectors: the array the kernel leaves is the reference's.
-/
module

public import proofs.«01_k».proof.Proof.Gen.Kernel14Ideal.Value
public import proofs.«01_k».proof.Proof.Gen.Reference14Ideal.Run
public import proofs.«01_k».proof.Proof.Mods

@[expose] public section

set_option maxRecDepth 16384

noncomputable section

namespace Cert.Kernel14Ideal.Body

open Idealize.ShloMosaic Idealize.ShloMosaic.TcCoe Idealize.SL.Sem
open Cert.Kernel14Ideal Cert.Kernel14Ideal.Gen Cert.Mods

/-- What a point leaves in its block of the result, from the blocks. -/
theorem out_apply (v : Vec Ideal S8x4096 .f32) (w : Vec Ideal S1x4096x512 .f32) (b : Vec Ideal S1x1x512 .f32) (y : S8x512.Idx) :
    out0_3 v w b y = entry (fun k => v (ix2 (y 0) k)) (fun k => w (ix3 0 k (y 1))) (b (ix3 0 0 (y 1))) := by
  obtain ⟨r, j, rfl⟩ : ∃ (r : Fin 8) (j : Fin 512), y = ix2 r j := ⟨y 0, y 1, eq_ix2 y⟩
  unfold out0_3
  rw [View.canon_unit_zero (by decide), View.ld_unit_zero (by decide), View.ld_unit_zero (by decide), View.ld_unit_zero (by decide)]
  unfold k0_pay1 entry silu
  pointwise
  simp only [zero_sub]

variable (m : (ℓ : Loc nD τ sig) → Buf (Elt Ideal) ℓ)

theorem idx : ∀ t : Fin cfg0.N, win0_0.index t = ![0, 0] ∧ win0_1.index t = ![0, 0, t.val] ∧ win0_2.index t = ![0, 0, t.val]
    ∧ win0_3.index t = ![0, t.val] := by decide +kernel

/-- The biases as the kernel is given them. -/
theorem bias (c : Dev nD) (l : Fin 2) (j : Fin 24576) : V m c main_v0 (ix3 l 0 j) = m ((c : Thread nD τ).loc main_arg2) (ix2 l j) := by
  entry_read
  pointwise

/-- The result. -/
def result (c : Dev nD) : Vec Ideal S8x24576 .f32 := fun y =>
  entry (fun k => m ((c : Thread nD τ).loc main_arg0) (ix2 (y 0) k)) (fun k => m ((c : Thread nD τ).loc main_arg1) (ix3 0 k (y 1)))
    (m ((c : Thread nD τ).loc main_arg2) (ix2 0 (y 1)))

/-- The kernel's result array. -/
theorem array (c : Dev nD) : (dats m 0 c).arrAt 3 cfg0.N = result m c := by
  refine (dats m 0 c).arrAt_eq_of_covers 3 _ (by decide +kernel) fun t hf y => ?_
  obtain ⟨e0, e1, e2, e3⟩ := idx t
  have hy1 : (y 1).val < 512 := (y 1).isLt
  have ht : t.val < 48 := t.isLt
  have hemb : ((cfg0.win 3).blk t).view.emb y = ix2 (y 0) ⟨512 * t.val + (y 1).val, by omega⟩ := by
    blk_ext [e3]
  rw [hemb]
  blk_simp
  rw [after0_3, out_apply]
  refine entry_congr (fun k => ?_) (fun k => ?_) ?_
  · blk_ext [iblk, V, e0]
  · blk_ext [iblk, V, e1]
  · refine Eq.trans ?_ (bias m c 0 ⟨512 * t.val + (y 1).val, by omega⟩)
    blk_ext [iblk, V, e2]

end Cert.Kernel14Ideal.Body

namespace Cert.Reference14Ideal.Body

open Idealize.ShloMosaic Idealize.ShloMosaic.TcCoe Idealize.SL.Sem
open Cert.Reference14Ideal Cert.Reference14Ideal.Gen Cert.Mods

theorem value (v : Vec Ideal S8x4096 .f32) (w : Vec Ideal S2x4096x24576 .f32) (b : Vec Ideal S2x24576 .f32) (r : Fin 8) (j : Fin 24576) :
    (addf (F := Ideal) (φ := .f32) (Host.dotGeneral (φ₂ := .f32) dot_S8x4096_S4096x24576_S8x24576_1_0_0_1_n_n none (mulf v (Host.divf (broadcastInDim S8x4096 ![] bcast_S_S8x4096 (constant S_ .f32 0x3F800000#32))
        (addf (broadcastInDim S8x4096 ![] bcast_S_S8x4096 (constant S_ .f32 0x3F800000#32)) (Host.exp (Host.negf v)))))
        (shapeCast S4096x24576 (extractStridedSlice S1x4096x24576 ![0, 0, 0] w slices_S2x4096x24576_S1x4096x24576_0_0_0) shapeCasts_S1x4096x24576_S4096x24576))
      (broadcastInDim S8x24576 ![0, 1] bcast_S1x24576_S8x24576_0_1 (broadcastInDim S1x24576 ![1] bcast_S24576_S1x24576_1
        (shapeCast S24576 (extractStridedSlice S1x24576 ![0, 0] b slices_S2x24576_S1x24576_0_0) shapeCasts_S1x24576_S24576))) : Vec Ideal S8x24576 .f32) (ix2 r j)
      = entry (fun k => v (ix2 r k)) (fun k => w (ix3 0 k j)) (b (ix2 0 j)) := by
  unfold entry silu
  pointwise

end Cert.Reference14Ideal.Body

end
-- ==== Proof.UpFirst.lean ====
/-
  The feed-forward part's first half in the first layer: the two arrays the kernel leaves are the reference's.
-/
module

public import proofs.«01_k».proof.Proof.Gen.Kernel15Ideal.Value
public import proofs.«01_k».proof.Proof.Gen.Reference15Ideal.Run
public import proofs.«01_k».proof.Proof.UpArray
public import proofs.«01_k».proof.Proof.UpReference

@[expose] public section

set_option maxRecDepth 16384

noncomputable section

namespace Cert.Kernel15Ideal.Body

open Idealize.ShloMosaic Idealize.ShloMosaic.TcCoe Idealize.SL.Sem
open Cert.Kernel15Ideal Cert.Kernel15Ideal.Gen Cert.Feed

variable (m : (ℓ : Loc nD τ sig) → Buf (Elt Ideal) ℓ)

/-- The tokens. -/
def tokens (c : Dev nD) : Fin 2 → Fin 8192 → Fin 4096 → EReal := fun b s k => m ((c : Thread nD τ).loc main_arg0) (ix3 b s k)

/-- The weights of the layer. -/
def weights (c : Dev nD) : Fin 4096 → Fin 22016 → EReal := fun k j => m ((c : Thread nD τ).loc main_arg1) (ix3 0 k j)

/-- The convolution's weights of the layer. -/
def taps (c : Dev nD) : Fin 3 → Fin 22016 → EReal := fun k j => m ((c : Thread nD τ).loc main_arg2) (ix3 0 k j)

theorem idx : ∀ t : Fin cfg0.N, win0_0.index t = ![t.val / 43, 0] ∧ win0_1.index t = ![0, 0, t.val % 43]
    ∧ win0_2.index t = ![0, 0, 43 + t.val % 43] ∧ win0_3.index t = ![0, 0, t.val % 43]
    ∧ win0_4.index t = ![0, 0, 43 + t.val % 43] ∧ win0_6.index t = ![t.val / 43, t.val % 43] := by decide +kernel

theorem idx_cast : ∀ t : Fin cfg0.N, win0_5.index t = ![0, t.val, 0] ∧ win0_7.index t = ![0, t.val, 0] := by decide +kernel

/-- The tokens as the kernel is given them: one batch element after the other. -/
theorem rows (c : Dev nD) (r : Fin 16384) (k : Fin 4096) :
    V m c main_v0 (ix2 r k) = m ((c : Thread nD τ).loc main_arg0) (ix3 ⟨r.val / 8192 % 2, by omega⟩ ⟨r.val % 8192, by omega⟩ k) := by
  entry_read
  pointwise
  have h : r.val / 8192 % 2 = r.val / 8192 := by omega
  blk_ext [h]

/-- The first result. -/
def result (c : Dev nD) : Vec Ideal S16384x11008 .bf16 := fun y => act (tokens m c) (weights m c) (taps m c) (y 0).val (y 1)

/-- The second result: the next weights of the layer, cast. -/
def cast (c : Dev nD) : Vec Ideal S1x11008x4096 .bf16 := fun y => (m ((c : Thread nD τ).loc main_arg3) (ix3 0 (y 1) (y 2)) : EReal)

/-- A point's block, in the whole array. -/
theorem block_at (c : Dev nD) (t : Fin cfg0.N) (ht : t.val < 344) (r : Fin 2048) (j : Fin 256) :
    out0_6 (iblk m c 0 t) (iblk m c 1 t) (iblk m c 2 t) (iblk m c 3 t) (iblk m c 4 t) (iblk m c 5 t) (ix2 r j)
      = act (tokens m c) (weights m c) (taps m c) (2048 * (t.val / 43) + r.val) ⟨256 * (t.val % 43) + j.val, by omega⟩ := by
  obtain ⟨e0, e1, e2, e3, e4, -⟩ := idx t
  refine Cert.Kernel2Ideal.Body.out6_act (iblk m c 0 t) (iblk m c 1 t) (iblk m c 2 t) (iblk m c 3 t) (iblk m c 4 t) (iblk m c 5 t) (tokens m c) (weights m c) (taps m c) (2048 * (t.val / 43)) (256 * (t.val % 43)) (by omega) (by omega)
    (fun r k => ?_) (fun k j => ?_) (fun k j => ?_) (fun k j => ?_) (fun k j => ?_) r j
  · refine Eq.trans ?_ (rows m c ⟨2048 * (t.val / 43) + r.val, by omega⟩ k)
    blk_ext [iblk, V, e0]
  · unfold weights
    blk_ext [iblk, V, e1]
  · unfold weights
    blk_ext [iblk, V, e2]
  · unfold taps
    blk_ext [iblk, V, e3]
  · unfold taps
    blk_ext [iblk, V, e4]

/-- The first result array. -/
theorem array6 (c : Dev nD) : (dats m 0 c).arrAt 6 cfg0.N = result m c := by
  refine (dats m 0 c).arrAt_eq_of_covers 6 _ (by decide +kernel) fun t hf y => ?_
  obtain ⟨-, -, -, -, -, e⟩ := idx t
  have hy0 : (y 0).val < 2048 := (y 0).isLt
  have hy1 : (y 1).val < 256 := (y 1).isLt
  have ht : t.val < 344 := t.isLt
  have hemb : ((cfg0.win 6).blk t).view.emb y = ix2 ⟨2048 * (t.val / 43) + (y 0).val, by omega⟩ ⟨256 * (t.val % 43) + (y 1).val, by omega⟩ := by
    blk_ext [e]
  rw [hemb]
  blk_simp
  rw [after0_6]
  have hy : ∀ f : Vec Ideal S2048x256 .bf16, f y = f (ix2 ⟨(y 0).val, hy0⟩ ⟨(y 1).val, hy1⟩) := fun f =>
    congrArg f (funext fun a => match a with | ⟨0, _⟩ => rfl | ⟨1, _⟩ => rfl)
  exact (hy _).trans (block_at m c t ht ⟨(y 0).val, hy0⟩ ⟨(y 1).val, hy1⟩)

/-- The second result array. -/
theorem array7 (c : Dev nD) : (dats m 0 c).arrAt 7 cfg0.N = cast m c := by
  refine (dats m 0 c).arrAt_eq_of_covers 7 _ (by decide +kernel) fun t hf y => ?_
  obtain ⟨e5, e⟩ := idx_cast t
  have hy0 : (y 0).val < 1 := (y 0).isLt
  have hy1 : (y 1).val < 32 := (y 1).isLt
  have hy2 : (y 2).val < 4096 := (y 2).isLt
  have ht : t.val < 344 := t.isLt
  have hemb : ((cfg0.win 7).blk t).view.emb y = ix3 0 ⟨32 * t.val + (y 1).val, by omega⟩ ⟨(y 2).val, hy2⟩ := by
    blk_ext [e]
  rw [hemb]
  blk_simp
  rw [after0_7]
  have hy : ∀ f : Vec Ideal S1x32x4096 .bf16, f y = f (ix3 0 ⟨(y 1).val, hy1⟩ ⟨(y 2).val, hy2⟩) := fun f =>
    congrArg f (funext fun a => match a with | ⟨0, _⟩ => Fin.ext (by show (y 0).val = 0; omega) | ⟨1, _⟩ => rfl | ⟨2, _⟩ => rfl)
  refine (hy _).trans ((Cert.Kernel2Ideal.Body.out7_eq (iblk m c 0 t) (iblk m c 1 t) (iblk m c 2 t) (iblk m c 3 t) (iblk m c 4 t) (iblk m c 5 t) _ _).trans ?_)
  unfold cast
  blk_ext [iblk, V, e5]

end Cert.Kernel15Ideal.Body

namespace Cert.Reference15Ideal.Body

open Idealize.ShloMosaic Idealize.ShloMosaic.TcCoe Idealize.SL.Sem
open Cert.Reference15Ideal Cert.Reference15Ideal.Gen

variable (m : (ℓ : Loc nD τ sig) → Buf (Elt Ideal) ℓ)

theorem result_eq (c : Dev nD) : Value.res_main_v35 m c = Cert.Reference2Ideal.Body.act (Cert.Reference2Ideal.Body.conv
    (extractStridedSlice S1x3x22016 ![0, 0, 0] (m ((c.tc : Thread nD τ).loc main_arg2)) slices_S2x3x22016_S1x3x22016_0_0_0)
    (Cert.Reference2Ideal.Body.times (m ((c.tc : Thread nD τ).loc main_arg0))
      (extractStridedSlice S1x4096x22016 ![0, 0, 0] (m ((c.tc : Thread nD τ).loc main_arg1)) slices_S2x4096x22016_S1x4096x22016_0_0_0))) := rfl

/-- The first result. -/
theorem result_apply (c : Dev nD) (r : Fin 16384) (j : Fin 11008) : Value.res_main_v35 m c (ix2 r j)
    = Feed.act (fun b s k => m ((c.tc : Thread nD τ).loc main_arg0) (ix3 b s k)) (fun k j => m ((c.tc : Thread nD τ).loc main_arg1) (ix3 0 k j))
        (fun k j => m ((c.tc : Thread nD τ).loc main_arg2) (ix3 0 k j)) r.val j := by
  rw [result_eq, Cert.Reference2Ideal.Body.up_apply]
  congr 1
  · funext k j
    pointwise
  · funext k j
    pointwise

/-- The second result. -/
theorem cast_apply (W : Vec Ideal S2x11008x4096 .f32) (a : Fin 1) (r : Fin 11008) (k : Fin 4096) :
    (truncf (F := Ideal) .bf16 (extractStridedSlice S1x11008x4096 ![0, 0, 0] W slices_S2x11008x4096_S1x11008x4096_0_0_0) bitsLt_bf16_f32
      : Vec Ideal S1x11008x4096 .bf16) (ix3 a r k) = (W (ix3 0 r k) : EReal) := by
  pointwise

end Cert.Reference15Ideal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Equation
public import proofs.«01_k».proof.Proof.UpArray
public import proofs.«01_k».proof.Proof.UpReference
public import proofs.«01_k».proof.Proof.Down
public import Idealize.ShloMosaic.Lib.Quiescent
public import Idealize.ShloMosaic.Adequacy
public import Idealize.ShloMosaic.Init
public import proofs.«01_k».proof.Proof.InProj
public import proofs.«01_k».proof.Proof.OutProj
public import proofs.«01_k».proof.Proof.Glu
public import proofs.«01_k».proof.Proof.Mul
public import proofs.«01_k».proof.Proof.GateProj
public import proofs.«01_k».proof.Proof.HeadNorm
public import proofs.«01_k».proof.Proof.NormMid
public import proofs.«01_k».proof.Proof.NormLast
public import proofs.«01_k».proof.Proof.NormFirst
public import proofs.«01_k».proof.Proof.DownMods
public import proofs.«01_k».proof.Proof.Ada
public import proofs.«01_k».proof.Proof.UpFirst

@[expose] public section

noncomputable section

namespace Cert.Proof

open Idealize.ShloMosaic Idealize.SL.Sem

theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2, sem_eq_zero_of_no_sems (by decide) r.2⟩)
    (Cert.ReferenceIdeal.Value.run m g)

theorem equal : Cert.algebraic_KernelIdeal_ReferenceIdeal_pre_finite := by
  intro m g m' g' hf hag
  refine ⟨fun c => Cert.KernelIdeal.Body.HF m c, fun c => Cert.KernelIdeal.Body.HB m c, ?_, ?_⟩
  · exact (θ_run Cert.KernelIdeal.defs _ _).mono (fun r h c =>
      ⟨(h c).1.trans (Cert.KernelIdeal.Body.array20 (Cert.KernelIdeal.Body.real4 hf c)),
        (h c).2.1.trans (Cert.KernelIdeal.Body.array21 (Cert.KernelIdeal.Body.real4 hf c)), (h c).2.2⟩)
      (Cert.KernelIdeal.Value.run_blocks m g)
  · exact (θ_run Cert.ReferenceIdeal.defs _ _).mono (fun r h c =>
      ⟨(h c).1.trans (Cert.Scan.ref59 c (Cert.KernelIdeal.Body.real4 hf c) (hag c).1 (hag c).2.1 (hag c).2.2.1 (hag c).2.2.2),
        (h c).2.1.trans (Cert.Scan.ref61 c (Cert.KernelIdeal.Body.real4 hf c) (hag c).1 (hag c).2.1 (hag c).2.2.1 (hag c).2.2.2), (h c).2.2⟩)
      (Cert.ReferenceIdeal.Value.run m' g')

theorem frame_ref2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

theorem frame_ref3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

theorem frame_ref4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem frame_ref5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

theorem frame_ref6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

theorem frame_ref7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

theorem frame_ref8 : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

theorem frame_ref9 : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

theorem frame_ref10 : Cert.quiescent_Reference10Ideal := fun m g _ =>
  (θ_run Cert.Reference10Ideal.defs _ _).mono (fun r h => ⟨fun c => (h c).2.2, sem_eq_zero_of_no_sems (by decide) r.2⟩)
    (Cert.Reference10Ideal.Value.run m g)

theorem frame_ref11 : Cert.quiescent_Reference11Ideal := fun m g _ =>
  (θ_run Cert.Reference11Ideal.defs _ _).mono (fun r h => ⟨fun c => (h c).2, sem_eq_zero_of_no_sems (by decide) r.2⟩)
    (Cert.Reference11Ideal.Value.run m g)

theorem frame_ref12 : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

theorem frame_ref13 : Cert.quiescent_Reference13Ideal := fun m g _ =>
  (θ_run Cert.Reference13Ideal.defs _ _).mono (fun r h => ⟨fun c => (h c).2.2, sem_eq_zero_of_no_sems (by decide) r.2⟩)
    (Cert.Reference13Ideal.Value.run m g)

theorem frame_ref14 : Cert.quiescent_Reference14Ideal := fun m g _ =>
  (θ_run Cert.Reference14Ideal.defs _ _).mono (fun r h => ⟨fun c => (h c).2, sem_eq_zero_of_no_sems (by decide) r.2⟩)
    (Cert.Reference14Ideal.Value.run m g)

theorem frame_ref15 : Cert.quiescent_Reference15Ideal := fun m g _ =>
  (θ_run Cert.Reference15Ideal.defs _ _).mono (fun r h => ⟨fun c => (h c).2.2, sem_eq_zero_of_no_sems (by decide) r.2⟩)
    (Cert.Reference15Ideal.Value.run m g)

/-- The feed-forward part's first half. -/
theorem equal2 : Cert.algebraic_Kernel2Ideal_Reference2Ideal := by
  intro m g m' g' _ hag
  refine ⟨fun c => Cert.Kernel2Ideal.Body.result m c, fun c => Cert.Kernel2Ideal.Body.cast m c, ?_, ?_⟩
  · exact (θ_run Cert.Kernel2Ideal.defs _ _).mono (fun r h c =>
      ⟨(h c).1.trans (Cert.Kernel2Ideal.Body.array6 m c), (h c).2.1.trans (Cert.Kernel2Ideal.Body.array7 m c), (h c).2.2⟩)
      (Cert.Kernel2Ideal.Value.run_blocks m g)
  · refine (θ_run Cert.Reference2Ideal.defs _ _).mono (fun r h c => ⟨(h c).1.trans ?_, (h c).2.1.trans ?_, (h c).2.2⟩)
      (Cert.Reference2Ideal.Value.run m' g')
    · funext y
      rw [eq_ix2 y]
      refine (Cert.Reference2Ideal.Body.result_apply m' c (y 0) (y 1)).trans ?_
      rw [(hag c).1, (hag c).2.1, (hag c).2.2.1]
      rfl
    · funext y
      rw [eq_ix3 y]
      refine (Cert.Reference2Ideal.Body.cast_apply _ (y 0) (y 1) (y 2)).trans ?_
      rw [(hag c).2.2.2]
      rfl

/-- The feed-forward part's second half. -/
theorem equal3 : Cert.algebraic_Kernel3Ideal_Reference3Ideal := by
  intro m g m' g' _ hag
  refine ⟨fun c => Cert.Kernel3Ideal.Body.product (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (Cert.Kernel3Ideal.Body.array m c), (h c).2⟩)
      (Cert.Kernel3Ideal.Value.run_blocks m g)
  · refine (θ_run Cert.Reference3Ideal.defs _ _).mono (fun r h c => ⟨(h c).1.trans ?_, (h c).2⟩) (Cert.Reference3Ideal.Value.run m' g')
    funext y
    rw [eq_ix2 y]
    refine (Cert.Reference3Ideal.Body.value _ _ (y 0) (y 1)).trans ?_
    rw [(hag c).1, (hag c).2]
    rfl

/-- The input projection of the mLSTM mixer. -/
theorem equal4 : Cert.algebraic_Kernel4Ideal_Reference4Ideal := by
  intro m g m' g' _ hag
  refine ⟨fun c => Cert.Kernel4Ideal.Body.result m c, ?_, ?_⟩
  · exact (θ_run Cert.Kernel4Ideal.defs _ _).mono (fun r h c => ⟨(h c).1.trans (Cert.Kernel4Ideal.Body.array m c), (h c).2⟩)
      (Cert.Kernel4Ideal.Value.run_blocks m g)
  · refine (θ_run Cert.Reference4Ideal.defs _ _).mono (fun r h c => ⟨(h c).1.trans ?_, (h c).2⟩) (Cert.Reference4Ideal.Value.run m' g')
    funext y
    rw [eq_ix2 y]
    refine (Cert.Reference4Ideal.Body.value _ _ (y 0) (y 1)).trans ?_
    rw [(hag c).1, (hag c).2]
    rfl

/-- The output projection of the mixers. -/
theorem equal5 : Cert.algebraic_Kernel5Ideal_Reference5Ideal := by
  intro m g m' g' _ hag
  refine ⟨fun c => Cert.Kernel5Ideal.Body.result m c, ?_, ?_⟩
  · exact (θ_run Cert.Kernel5Ideal.defs _ _).mono (fun r h c => ⟨(h c).1.trans (Cert.Kernel5Ideal.Body.array m c), (h c).2⟩)
      (Cert.Kernel5Ideal.Value.run_blocks m g)
  · refine (θ_run Cert.Reference5Ideal.defs _ _).mono (fun r h c => ⟨(h c).1.trans ?_, (h c).2⟩) (Cert.Reference5Ideal.Value.run m' g')
    funext y
    rw [eq_ix2 y]
    refine (Cert.Reference5Ideal.Body.value _ _ (y 0) (y 1)).trans ?_
    rw [(hag c).1, (hag c).2]
    rfl

/-- The first convolution's input. -/
theorem equal6 : Cert.algebraic_Kernel6Ideal_Reference6Ideal := by
  intro m g m' g' _ hag
  refine ⟨fun c => Cert.Kernel6Ideal.Body.result m c, ?_, ?_⟩
  · exact (θ_run Cert.Kernel6Ideal.defs _ _).mono (fun r h c => ⟨(h c).1.trans (Cert.Kernel6Ideal.Body.array m c), (h c).2⟩)
      (Cert.Kernel6Ideal.Value.run_blocks m g)
  · refine (θ_run Cert.Reference6Ideal.defs _ _).mono (fun r h c => ⟨(h c).1.trans ?_, (h c).2⟩) (Cert.Reference6Ideal.Value.run m' g')
    funext y
    rw [eq_ix2 y]
    refine (Cert.Reference6Ideal.Body.value _ _ (y 0) (y 1)).trans ?_
    rw [(hag c).1, (hag c).2]
    rfl

/-- The second convolution's input. -/
theorem equal7 : Cert.algebraic_Kernel7Ideal_Reference7Ideal := by
  intro m g m' g' _ hag
  refine ⟨fun c => Cert.Kernel7Ideal.Body.result m c, ?_, ?_⟩
  · exact (θ_run Cert.Kernel7Ideal.defs _ _).mono (fun r h c => ⟨(h c).1.trans (Cert.Kernel7Ideal.Body.array m c), (h c).2⟩)
      (Cert.Kernel7Ideal.Value.run_blocks m g)
  · refine (θ_run Cert.Reference7Ideal.defs _ _).mono (fun r h c => ⟨(h c).1.trans ?_, (h c).2⟩) (Cert.Reference7Ideal.Value.run m' g')
    funext y
    rw [eq_ix2 y]
    refine (Cert.Reference7Ideal.Body.value _ _ (y 0) (y 1)).trans ?_
    rw [(hag c).1, (hag c).2]
    rfl

/-- The projection of the first convolution's gate. -/
theorem equal8 : Cert.algebraic_Kernel8Ideal_Reference8Ideal := by
  intro m g m' g' _ hag
  refine ⟨fun c => Cert.Kernel8Ideal.Body.result m c, ?_, ?_⟩
  · exact (θ_run Cert.Kernel8Ideal.defs _ _).mono (fun r h c => ⟨(h c).1.trans (Cert.Kernel8Ideal.Body.array m c), (h c).2⟩)
      (Cert.Kernel8Ideal.Value.run_blocks m g)
  · refine (θ_run Cert.Reference8Ideal.defs _ _).mono (fun r h c => ⟨(h c).1.trans ?_, (h c).2⟩) (Cert.Reference8Ideal.Value.run m' g')
    funext y
    rw [eq_ix2 y]
    refine (Cert.Reference8Ideal.Body.value _ _ (y 0) (y 1)).trans ?_
    rw [(hag c).1, (hag c).2]
    rfl

/-- The norm of the mLSTM's heads and their output gate. -/
theorem equal9 : Cert.algebraic_Kernel9Ideal_Reference9Ideal := by
  intro m g m' g' _ hag
  refine ⟨fun c => Cert.Kernel9Ideal.Body.result m c, ?_, ?_⟩
  · exact (θ_run Cert.Kernel9Ideal.defs _ _).mono (fun r h c => ⟨(h c).1.trans (Cert.Kernel9Ideal.Body.array m c), (h c).2⟩)
      (Cert.Kernel9Ideal.Value.run_blocks m g)
  · refine (θ_run Cert.Reference9Ideal.defs _ _).mono (fun r h c => ⟨(h c).1.trans ?_, (h c).2⟩) (Cert.Reference9Ideal.Value.run m' g')
    funext y
    rw [eq_ix3 y]
    refine (Cert.Reference9Ideal.Body.value _ _ _ _ (y 0) (y 1) (y 2)).trans ?_
    rw [(hag c).1, (hag c).2.1, (hag c).2.2.1, (hag c).2.2.2]
    rfl

/-- A residual with a part's result, and the norm and modulation before the next part. -/
theorem equal10 : Cert.algebraic_Kernel10Ideal_Reference10Ideal := by
  intro m g m' g' _ hag
  refine ⟨fun c => Cert.Kernel10Ideal.Body.result7 m c, fun c => Cert.Kernel10Ideal.Body.result8 m c, ?_, ?_⟩
  · exact (θ_run Cert.Kernel10Ideal.defs _ _).mono (fun r h c =>
      ⟨(h c).1.trans (Cert.Kernel10Ideal.Body.array7 m c), (h c).2.1.trans (Cert.Kernel10Ideal.Body.array8 m c), (h c).2.2⟩)
      (Cert.Kernel10Ideal.Value.run_blocks m g)
  · refine (θ_run Cert.Reference10Ideal.defs _ _).mono (fun r h c => ⟨(h c).1.trans ?_, (h c).2.1.trans ?_, (h c).2.2⟩)
      (Cert.Reference10Ideal.Value.run m' g')
    · funext y
      rw [eq_ix3 y]
      refine (Cert.Reference10Ideal.Body.first_apply _ _ _ _ (y 0) (y 1) (y 2)).trans ?_
      rw [(hag c).1, (hag c).2.1, (hag c).2.2.1, (hag c).2.2.2.1]
      rfl
    · funext y
      rw [eq_ix3 y]
      refine (Cert.Reference10Ideal.Body.second_apply _ _ _ _ _ _ _ (y 0) (y 1) (y 2)).trans ?_
      rw [(hag c).1, (hag c).2.1, (hag c).2.2.1, (hag c).2.2.2.1, (hag c).2.2.2.2.1, (hag c).2.2.2.2.2.1, (hag c).2.2.2.2.2.2]
      rfl

/-- The last residual. -/
theorem equal11 : Cert.algebraic_Kernel11Ideal_Reference11Ideal := by
  intro m g m' g' _ hag
  refine ⟨fun c => Cert.Kernel11Ideal.Body.result m c, ?_, ?_⟩
  · exact (θ_run Cert.Kernel11Ideal.defs _ _).mono (fun r h c => ⟨(h c).1.trans (Cert.Kernel11Ideal.Body.array m c), (h c).2⟩)
      (Cert.Kernel11Ideal.Value.run_blocks m g)
  · refine (θ_run Cert.Reference11Ideal.defs _ _).mono (fun r h c => ⟨(h c).1.trans ?_, (h c).2⟩) (Cert.Reference11Ideal.Value.run m' g')
    funext y
    rw [eq_ix3 y]
    refine (Cert.Reference11Ideal.Body.value _ _ _ _ (y 0) (y 1) (y 2)).trans ?_
    rw [(hag c).1, (hag c).2.1, (hag c).2.2.1, (hag c).2.2.2]
    rfl

/-- The norm and modulation before the first part. -/
theorem equal12 : Cert.algebraic_Kernel12Ideal_Reference12Ideal := by
  intro m g m' g' _ hag
  refine ⟨fun c => Cert.Kernel12Ideal.Body.result m c, ?_, ?_⟩
  · exact (θ_run Cert.Kernel12Ideal.defs _ _).mono (fun r h c => ⟨(h c).1.trans (Cert.Kernel12Ideal.Body.array m c), (h c).2⟩)
      (Cert.Kernel12Ideal.Value.run_blocks m g)
  · refine (θ_run Cert.Reference12Ideal.defs _ _).mono (fun r h c => ⟨(h c).1.trans ?_, (h c).2⟩) (Cert.Reference12Ideal.Value.run m' g')
    funext y
    rw [eq_ix3 y]
    refine (Cert.Reference12Ideal.Body.value _ _ _ _ (y 0) (y 1) (y 2)).trans ?_
    rw [(hag c).1, (hag c).2.1, (hag c).2.2.1, (hag c).2.2.2]
    rfl

/-- The feed-forward part's second half with the next layer's modulation vectors. -/
theorem equal13 : Cert.algebraic_Kernel13Ideal_Reference13Ideal := by
  intro m g m' g' _ hag
  refine ⟨fun c => Cert.Kernel3Ideal.Body.product (m ((c.tc : Thread Cert.Kernel13Ideal.nD Cert.Kernel13Ideal.τ).loc Cert.Kernel13Ideal.main_arg0))
    (m ((c.tc : Thread Cert.Kernel13Ideal.nD Cert.Kernel13Ideal.τ).loc Cert.Kernel13Ideal.main_arg1)), fun c => Cert.Kernel13Ideal.Body.mods m c, ?_, ?_⟩
  · exact (θ_run Cert.Kernel13Ideal.defs _ _).mono (fun r h c =>
      ⟨(h c).1.trans (Cert.Kernel13Ideal.Body.array5 m c), (h c).2.1.trans (Cert.Kernel13Ideal.Body.array6 m c), (h c).2.2⟩)
      (Cert.Kernel13Ideal.Value.run_blocks m g)
  · refine (θ_run Cert.Reference13Ideal.defs _ _).mono (fun r h c => ⟨(h c).1.trans ?_, (h c).2.1.trans ?_, (h c).2.2⟩)
      (Cert.Reference13Ideal.Value.run m' g')
    · funext y
      rw [eq_ix2 y]
      refine (Cert.Reference3Ideal.Body.value _ _ (y 0) (y 1)).trans ?_
      rw [(hag c).1, (hag c).2.1]
      rfl
    · funext y
      rw [eq_ix2 y]
      refine (Cert.Reference13Ideal.Body.mods_apply _ _ _ (y 0) (y 1)).trans ?_
      rw [(hag c).2.2.1, (hag c).2.2.2.1, (hag c).2.2.2.2]
      rfl

/-- The first layer's modulation vectors. -/
theorem equal14 : Cert.algebraic_Kernel14Ideal_Reference14Ideal := by
  intro m g m' g' _ hag
  refine ⟨fun c => Cert.Kernel14Ideal.Body.result m c, ?_, ?_⟩
  · exact (θ_run Cert.Kernel14Ideal.defs _ _).mono (fun r h c => ⟨(h c).1.trans (Cert.Kernel14Ideal.Body.array m c), (h c).2⟩)
      (Cert.Kernel14Ideal.Value.run_blocks m g)
  · refine (θ_run Cert.Reference14Ideal.defs _ _).mono (fun r h c => ⟨(h c).1.trans ?_, (h c).2⟩) (Cert.Reference14Ideal.Value.run m' g')
    funext y
    rw [eq_ix2 y]
    refine (Cert.Reference14Ideal.Body.value _ _ _ (y 0) (y 1)).trans ?_
    rw [(hag c).1, (hag c).2.1, (hag c).2.2]
    rfl

/-- The feed-forward part's first half in the first layer. -/
theorem equal15 : Cert.algebraic_Kernel15Ideal_Reference15Ideal := by
  intro m g m' g' _ hag
  refine ⟨fun c => Cert.Kernel15Ideal.Body.result m c, fun c => Cert.Kernel15Ideal.Body.cast m c, ?_, ?_⟩
  · exact (θ_run Cert.Kernel15Ideal.defs _ _).mono (fun r h c =>
      ⟨(h c).1.trans (Cert.Kernel15Ideal.Body.array6 m c), (h c).2.1.trans (Cert.Kernel15Ideal.Body.array7 m c), (h c).2.2⟩)
      (Cert.Kernel15Ideal.Value.run_blocks m g)
  · refine (θ_run Cert.Reference15Ideal.defs _ _).mono (fun r h c => ⟨(h c).1.trans ?_, (h c).2.1.trans ?_, (h c).2.2⟩)
      (Cert.Reference15Ideal.Value.run m' g')
    · funext y
      rw [eq_ix2 y]
      refine (Cert.Reference15Ideal.Body.result_apply m' c (y 0) (y 1)).trans ?_
      rw [(hag c).1, (hag c).2.1, (hag c).2.2.1]
      rfl
    · funext y
      rw [eq_ix3 y]
      refine (Cert.Reference15Ideal.Body.cast_apply _ (y 0) (y 1) (y 2)).trans ?_
      rw [(hag c).2.2.2]
      rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.Gen.facts,
    fun m g _ => Cert.Kernel.Gen.frame m g, fun m g _ => Cert.KernelIdeal.Gen.frame m g, fun m g _ => Cert.KernelIdeal.Gen.frame m g,
    fun m g _ => frame_ref m g, fun m g _ => frame_ref m g,
    fun m g _ => Cert.Kernel2.Gen.frame m g, fun m g _ => Cert.Kernel2Ideal.Gen.frame m g, frame_ref2,
    fun m g _ => Cert.Kernel3.Gen.frame m g, fun m g _ => Cert.Kernel3Ideal.Gen.frame m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, frame_ref5,
    fun m g _ => Cert.Kernel6.Gen.frame m g, fun m g _ => Cert.Kernel6Ideal.Gen.frame m g, frame_ref6,
    fun m g _ => Cert.Kernel7.Gen.frame m g, fun m g _ => Cert.Kernel7Ideal.Gen.frame m g, frame_ref7,
    fun m g _ => Cert.Kernel8.Gen.frame m g, fun m g _ => Cert.Kernel8Ideal.Gen.frame m g, frame_ref8,
    fun m g _ => Cert.Kernel9.Gen.frame m g, fun m g _ => Cert.Kernel9Ideal.Gen.frame m g, frame_ref9,
    fun m g _ => Cert.Kernel10.Gen.frame m g, fun m g _ => Cert.Kernel10Ideal.Gen.frame m g, frame_ref10,
    fun m g _ => Cert.Kernel11.Gen.frame m g, fun m g _ => Cert.Kernel11Ideal.Gen.frame m g, frame_ref11,
    fun m g _ => Cert.Kernel12.Gen.frame m g, fun m g _ => Cert.Kernel12Ideal.Gen.frame m g, frame_ref12,
    fun m g _ => Cert.Kernel13.Gen.frame m g, fun m g _ => Cert.Kernel13Ideal.Gen.frame m g, frame_ref13,
    fun m g _ => Cert.Kernel14.Gen.frame m g, fun m g _ => Cert.Kernel14Ideal.Gen.frame m g, frame_ref14,
    fun m g _ => Cert.Kernel15.Gen.frame m g, fun m g _ => Cert.Kernel15Ideal.Gen.frame m g, frame_ref15,
    trivial, equal, trivial, equal2, trivial, equal3, trivial, equal4, trivial, equal5, trivial, equal6, trivial, equal7, trivial, equal8,
    trivial, equal9, trivial, equal10, trivial, equal11, trivial, equal12,
    trivial, equal13, trivial, equal14, trivial, equal15⟩

end Cert.Proof

end
